-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![1, 1024, 64, 128]⟩ ⟨4, ![1, 8192, 64, 128]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 64, 128]⟩ ⟨4, ![1, 8192, 64, 128]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x1024 : Shape := ⟨3, ![1, 1024, 1024]⟩
abbrev S1024x1024 : Shape := ⟨2, ![1024, 1024]⟩
abbrev S1x1024x64x128 : Shape := ⟨4, ![1, 1024, 64, 128]⟩
abbrev S_ : Shape := ⟨0, ![]⟩

class Facts : Prop where
  bcast_S_S1x1024x1024 : S_.BroadcastsInDim S1x1024x1024 (![] : Fin 0 → Fin S1x1024x1024.rank)
  bcast_S_S1024x1024 : S_.BroadcastsInDim S1024x1024 (![] : Fin 0 → Fin S1024x1024.rank)
  bcast_S_S1x1024x64x128 : S_.BroadcastsInDim S1x1024x64x128 (![] : Fin 0 → Fin S1x1024x64x128.rank)

variable [Facts]

def fn {F : FTy → Type} [FloatOps F] (main_arg0 : FVec F S1x1024x1024 .f32) (main_arg1 : FVec F S1024x1024 .f32) (main_arg2 : FVec F S1x1024x64x128 .f32) (main_arg3 : FVec F S1x1024x64x128 .f32) (main_arg4 : FVec F S1024x1024 .f32) : IVec S1x1024x1024 1 × IVec S1024x1024 1 × IVec S1x1024x64x128 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x1024x64x128 .f32 := Host.absf main_arg2
  let main_cst_1 : FVec F S_ .f32 := constant S_ .f32 0x7F800000#32
  let main_v7 : FVec F S1x1024x64x128 .f32 := broadcastInDim S1x1024x64x128 ![] bcast_S_S1x1024x64x128 main_cst_1
  let main_v8 : IVec S1x1024x64x128 1 := cmpf .olt main_v6 main_v7
  (main_v2, main_v5, main_v8)
-- ==== Pre_finite_ReferenceIdeal.lean ====
abbrev S1x1024x1024 : Shape := ⟨3, ![1, 1024, 1024]⟩
abbrev S1024x8192 : Shape := ⟨2, ![1024, 8192]⟩
abbrev S1x8192x64x128 : Shape := ⟨4, ![1, 8192, 64, 128]⟩
abbrev S8192x1024 : Shape := ⟨2, ![8192, 1024]⟩
abbrev S_ : Shape := ⟨0, ![]⟩

class Facts : Prop where
  bcast_S_S1x1024x1024 : S_.BroadcastsInDim S1x1024x1024 (![] : Fin 0 → Fin S1x1024x1024.rank)
  bcast_S_S1024x8192 : S_.BroadcastsInDim S1024x8192 (![] : Fin 0 → Fin S1024x8192.rank)
  bcast_S_S1x8192x64x128 : S_.BroadcastsInDim S1x8192x64x128 (![] : Fin 0 → Fin S1x8192x64x128.rank)

variable [Facts]

def fn {F : FTy → Type} [FloatOps F] (main_arg0 : FVec F S1x1024x1024 .f32) (main_arg1 : FVec F S1024x8192 .f32) (main_arg2 : FVec F S1x8192x64x128 .f32) (main_arg3 : FVec F S1x8192x64x128 .f32) (main_arg4 : FVec F S8192x1024 .f32) : IVec S1x1024x1024 1 × IVec S1024x8192 1 × IVec S1x8192x64x128 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_v3 : FVec F S1024x8192 .f32 := Host.absf main_arg1
  let main_cst_0 : FVec F S_ .f32 := constant S_ .f32 0x7F800000#32
  let main_v4 : FVec F S1024x8192 .f32 := broadcastInDim S1024x8192 ![] bcast_S_S1024x8192 main_cst_0
  let main_v5 : IVec S1024x8192 1 := cmpf .olt main_v3 main_v4
  let main_v6 : FVec F S1x8192x64x128 .f32 := Host.absf main_arg2
  let main_cst_1 : FVec F S_ .f32 := constant S_ .f32 0x7F800000#32
  let main_v7 : FVec F S1x8192x64x128 .f32 := broadcastInDim S1x8192x64x128 ![] bcast_S_S1x8192x64x128 main_cst_1
  let main_v8 : IVec S1x8192x64x128 1 := cmpf .olt main_v6 main_v7
  (main_v2, main_v5, main_v8)
-- ==== Kernel.lean ====
abbrev S1x1024x1024 : Shape := ⟨3, ![1, 1024, 1024]⟩
abbrev S1024x1024 : Shape := ⟨2, ![1024, 1024]⟩
abbrev S1x1024x64x128 : Shape := ⟨4, ![1, 1024, 64, 128]⟩
abbrev S1024x8x128 : Shape := ⟨3, ![1024, 8, 128]⟩
abbrev S8x1024x8x128 : Shape := ⟨4, ![8, 1024, 8, 128]⟩
abbrev S7x1024x8x128 : Shape := ⟨4, ![7, 1024, 8, 128]⟩
abbrev S8x128x8x128 : Shape := ⟨4, ![8, 128, 8, 128]⟩
abbrev S8 : Shape := ⟨1, ![8]⟩
abbrev S_ : Shape := ⟨0, ![]⟩
abbrev S1x1024x8x128 : Shape := ⟨4, ![1, 1024, 8, 128]⟩
abbrev S1 : Shape := ⟨1, ![1]⟩
abbrev S4x4x64x8x128 : Shape := ⟨5, ![4, 4, 64, 8, 128]⟩
abbrev S4x8x4x64x128 : Shape := ⟨5, ![4, 8, 4, 64, 128]⟩
abbrev S4x8x256x128 : Shape := ⟨4, ![4, 8, 256, 128]⟩
abbrev S8x256 : Shape := ⟨2, ![8, 256]⟩
abbrev S8x256x128 : Shape := ⟨3, ![8, 256, 128]⟩
abbrev S4x1x64x8x128 : Shape := ⟨5, ![4, 1, 64, 8, 128]⟩
abbrev S4x64x8x128 : Shape := ⟨4, ![4, 64, 8, 128]⟩
abbrev S8x4x64x128 : Shape := ⟨4, ![8, 4, 64, 128]⟩
abbrev S1x8x256x128 : Shape := ⟨4, ![1, 8, 256, 128]⟩
abbrev S8x256x256 : Shape := ⟨3, ![8, 256, 256]⟩
abbrev S8x256x1 : Shape := ⟨3, ![8, 256, 1]⟩
abbrev S8x64x128 : Shape := ⟨3, ![8, 64, 128]⟩
abbrev S64x8x128 : Shape := ⟨3, ![64, 8, 128]⟩
abbrev S1x128x8x128 : Shape := ⟨4, ![1, 128, 8, 128]⟩
abbrev S128x8x128 : Shape := ⟨3, ![128, 8, 128]⟩
abbrev S128x1024 : Shape := ⟨2, ![128, 1024]⟩
abbrev S1x128x1024 : Shape := ⟨3, ![1, 128, 1024]⟩

abbrev nBuf : Space → Nat
  | .hbm => 12
  | .vmem => 9
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x64x128, .f32⟩
  | .hbm, ⟨3, _⟩ => ⟨S1x1024x64x128, .f32⟩
  | .hbm, ⟨4, _⟩ => ⟨S1024x1024, .f32⟩
  | .hbm, ⟨5, _⟩ => ⟨S1024x8x128, .f32⟩
  | .hbm, ⟨6, _⟩ => ⟨S1024x8x128, .f32⟩
  | .hbm, ⟨7, _⟩ => ⟨S1x1024x1024, .f32⟩
  | .hbm, ⟨8, _⟩ => ⟨S8x1024x8x128, .bf16⟩
  | .hbm, ⟨9, _⟩ => ⟨S8x1024x8x128, .bf16⟩
  | .hbm, ⟨10, _⟩ => ⟨S7x1024x8x128, .bf16⟩
  | .hbm, ⟨11, _⟩ => ⟨S7x1024x8x128, .bf16⟩
  | .local _ .vmem, ⟨0, _⟩ => ⟨S1024x1024, .f32⟩
  | .local _ .vmem, ⟨1, _⟩ => ⟨S1x1024x1024, .f32⟩
  | .local _ .vmem, ⟨2, _⟩ => ⟨S1024x8x128, .f32⟩
  | .local _ .vmem, ⟨3, _⟩ => ⟨S1024x8x128, .f32⟩
  | .local _ .vmem, ⟨4, _⟩ => ⟨S1024x8x128, .bf16⟩
  | .local _ .vmem, ⟨5, _⟩ => ⟨S1024x8x128, .bf16⟩
  | .local _ .vmem, ⟨6, _⟩ => ⟨S1024x8x128, .bf16⟩
  | .local _ .vmem, ⟨7, _⟩ => ⟨S1024x8x128, .bf16⟩
  | .local _ .vmem, ⟨8, _⟩ => ⟨S8x128x8x128, .bf16⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) (c1_i32_64 : BitVec 32) : Fin 4 → Nat :=
  let c0_i32_72 : BitVec 32 := 0#32
  let c0_i32_73 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v95 : BitVec 32 := Scalar.addi v2 c1_i32_64
  let c8_i32_65 : BitVec 32 := 8#32
  let c0_i32_66 : BitVec 32 := 0#32
  let v96 : BitVec 1 := Scalar.cmpi .eq c8_i32_65 c0_i32_66
  let c1_i32_67 : BitVec 32 := 1#32
  let v97 : BitVec 32 := Scalar.select v96 c1_i32_67 c8_i32_65
  let v98 : BitVec 32 := Scalar.remsi v95 v97
  let c0_i32_69 : BitVec 32 := 0#32
  let v100 : BitVec 1 := Scalar.cmpi .slt v98 c0_i32_69
  let c0_i32_70 : BitVec 32 := 0#32
  let v101 : BitVec 1 := Scalar.cmpi .slt v97 c0_i32_70
  let v102 : BitVec 1 := Scalar.xori v100 v101
  let c0_i32_68 : BitVec 32 := 0#32
  let v99 : BitVec 1 := Scalar.cmpi .ne v98 c0_i32_68
  let v103 : BitVec 1 := Scalar.andi v102 v99
  let v104 : BitVec 32 := Scalar.addi v98 v97
  let v105 : BitVec 32 := Scalar.select v103 v104 v98
  let c8_i32_71 : BitVec 32 := 8#32
  let v106 : BitVec 32 := Scalar.muli v105 c8_i32_71
  let c0_i32_74 : BitVec 32 := 0#32
  ![0, 0, v106.toNat, 0]
def k0_off2 (d0 : Dev nD) (c1_i32_64 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v95 : BitVec 32 := Scalar.addi v2 c1_i32_64
  let c8_i32_65 : BitVec 32 := 8#32
  let c0_i32_66 : BitVec 32 := 0#32
  let v96 : BitVec 1 := Scalar.cmpi .eq c8_i32_65 c0_i32_66
  let c1_i32_67 : BitVec 32 := 1#32
  let v97 : BitVec 32 := Scalar.select v96 c1_i32_67 c8_i32_65
  let v98 : BitVec 32 := Scalar.remsi v95 v97
  let c0_i32_69 : BitVec 32 := 0#32
  let v100 : BitVec 1 := Scalar.cmpi .slt v98 c0_i32_69
  let c0_i32_70 : BitVec 32 := 0#32
  let v101 : BitVec 1 := Scalar.cmpi .slt v97 c0_i32_70
  let v102 : BitVec 1 := Scalar.xori v100 v101
  let c0_i32_68 : BitVec 32 := 0#32
  let v99 : BitVec 1 := Scalar.cmpi .ne v98 c0_i32_68
  let v103 : BitVec 1 := Scalar.andi v102 v99
  let v104 : BitVec 32 := Scalar.addi v98 v97
  let v105 : BitVec 32 := Scalar.select v103 v104 v98
  ![v105.toNat]
def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_94 : BitVec 32 := 0#32
  let c0_i32_95 : BitVec 32 := 0#32
  let c0_i32_96 : BitVec 32 := 0#32
  ![v2.toNat, 0, 0, 0]
def k0_dev8 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_64 : BitVec 32 := 1#32
  let v95 : BitVec 32 := Scalar.addi v2 c1_i32_64
  let c8_i32_65 : BitVec 32 := 8#32
  let c0_i32_66 : BitVec 32 := 0#32
  let v96 : BitVec 1 := Scalar.cmpi .eq c8_i32_65 c0_i32_66
  let c1_i32_67 : BitVec 32 := 1#32
  let v97 : BitVec 32 := Scalar.select v96 c1_i32_67 c8_i32_65
  let v98 : BitVec 32 := Scalar.remsi v95 v97
  let c0_i32_69 : BitVec 32 := 0#32
  let v100 : BitVec 1 := Scalar.cmpi .slt v98 c0_i32_69
  let c0_i32_70 : BitVec 32 := 0#32
  let v101 : BitVec 1 := Scalar.cmpi .slt v97 c0_i32_70
  let v102 : BitVec 1 := Scalar.xori v100 v101
  let c0_i32_68 : BitVec 32 := 0#32
  let v99 : BitVec 1 := Scalar.cmpi .ne v98 c0_i32_68
  let v103 : BitVec 1 := Scalar.andi v102 v99
  let v104 : BitVec 32 := Scalar.addi v98 v97
  let v105 : BitVec 32 := Scalar.select v103 v104 v98
  let c1_i32_92 : BitVec 32 := 1#32
  let v120 : BitVec 32 := Scalar.muli v105 c1_i32_92
  let v121 : BitVec 32 := Scalar.addi c0_i32_93 v120
  v121.toNat
def k0_dev9 (d0 : Dev nD) : Nat :=
  let c0_i32_123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_64 : BitVec 32 := 1#32
  let v95 : BitVec 32 := Scalar.addi v2 c1_i32_64
  let c8_i32_65 : BitVec 32 := 8#32
  let c0_i32_66 : BitVec 32 := 0#32
  let v96 : BitVec 1 := Scalar.cmpi .eq c8_i32_65 c0_i32_66
  let c1_i32_67 : BitVec 32 := 1#32
  let v97 : BitVec 32 := Scalar.select v96 c1_i32_67 c8_i32_65
  let v98 : BitVec 32 := Scalar.remsi v95 v97
  let c0_i32_69 : BitVec 32 := 0#32
  let v100 : BitVec 1 := Scalar.cmpi .slt v98 c0_i32_69
  let c0_i32_70 : BitVec 32 := 0#32
  let v101 : BitVec 1 := Scalar.cmpi .slt v97 c0_i32_70
  let v102 : BitVec 1 := Scalar.xori v100 v101
  let c0_i32_68 : BitVec 32 := 0#32
  let v99 : BitVec 1 := Scalar.cmpi .ne v98 c0_i32_68
  let v103 : BitVec 1 := Scalar.andi v102 v99
  let v104 : BitVec 32 := Scalar.addi v98 v97
  let v105 : BitVec 32 := Scalar.select v103 v104 v98
  let c1_i32_122 : BitVec 32 := 1#32
  let v144 : BitVec 32 := Scalar.muli v105 c1_i32_122
  let v145 : BitVec 32 := Scalar.addi c0_i32_123 v144
  v145.toNat
def k0_dev10 (d0 : Dev nD) : Nat :=
  let c0_i32_160 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_130 : BitVec 32 := 2#32
  let v154 : BitVec 32 := Scalar.addi v2 c2_i32_130
  let c8_i32_131 : BitVec 32 := 8#32
  let c0_i32_132 : BitVec 32 := 0#32
  let v155 : BitVec 1 := Scalar.cmpi .eq c8_i32_131 c0_i32_132
  let c1_i32_133 : BitVec 32 := 1#32
  let v156 : BitVec 32 := Scalar.select v155 c1_i32_133 c8_i32_131
  let v157 : BitVec 32 := Scalar.remsi v154 v156
  let c0_i32_135 : BitVec 32 := 0#32
  let v159 : BitVec 1 := Scalar.cmpi .slt v157 c0_i32_135
  let c0_i32_136 : BitVec 32 := 0#32
  let v160 : BitVec 1 := Scalar.cmpi .slt v156 c0_i32_136
  let v161 : BitVec 1 := Scalar.xori v159 v160
  let c0_i32_134 : BitVec 32 := 0#32
  let v158 : BitVec 1 := Scalar.cmpi .ne v157 c0_i32_134
  let v162 : BitVec 1 := Scalar.andi v161 v158
  let v163 : BitVec 32 := Scalar.addi v157 v156
  let v164 : BitVec 32 := Scalar.select v162 v163 v157
  let c1_i32_159 : BitVec 32 := 1#32
  let v179 : BitVec 32 := Scalar.muli v164 c1_i32_159
  let v180 : BitVec 32 := Scalar.addi c0_i32_160 v179
  v180.toNat
def k0_dev11 (d0 : Dev nD) : Nat :=
  let c0_i32_190 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_130 : BitVec 32 := 2#32
  let v154 : BitVec 32 := Scalar.addi v2 c2_i32_130
  let c8_i32_131 : BitVec 32 := 8#32
  let c0_i32_132 : BitVec 32 := 0#32
  let v155 : BitVec 1 := Scalar.cmpi .eq c8_i32_131 c0_i32_132
  let c1_i32_133 : BitVec 32 := 1#32
  let v156 : BitVec 32 := Scalar.select v155 c1_i32_133 c8_i32_131
  let v157 : BitVec 32 := Scalar.remsi v154 v156
  let c0_i32_135 : BitVec 32 := 0#32
  let v159 : BitVec 1 := Scalar.cmpi .slt v157 c0_i32_135
  let c0_i32_136 : BitVec 32 := 0#32
  let v160 : BitVec 1 := Scalar.cmpi .slt v156 c0_i32_136
  let v161 : BitVec 1 := Scalar.xori v159 v160
  let c0_i32_134 : BitVec 32 := 0#32
  let v158 : BitVec 1 := Scalar.cmpi .ne v157 c0_i32_134
  let v162 : BitVec 1 := Scalar.andi v161 v158
  let v163 : BitVec 32 := Scalar.addi v157 v156
  let v164 : BitVec 32 := Scalar.select v162 v163 v157
  let c1_i32_189 : BitVec 32 := 1#32
  let v203 : BitVec 32 := Scalar.muli v164 c1_i32_189
  let v204 : BitVec 32 := Scalar.addi c0_i32_190 v203
  v204.toNat
def k0_dev12 (d0 : Dev nD) : Nat :=
  let c0_i32_227 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_197 : BitVec 32 := 3#32
  let v213 : BitVec 32 := Scalar.addi v2 c3_i32_197
  let c8_i32_198 : BitVec 32 := 8#32
  let c0_i32_199 : BitVec 32 := 0#32
  let v214 : BitVec 1 := Scalar.cmpi .eq c8_i32_198 c0_i32_199
  let c1_i32_200 : BitVec 32 := 1#32
  let v215 : BitVec 32 := Scalar.select v214 c1_i32_200 c8_i32_198
  let v216 : BitVec 32 := Scalar.remsi v213 v215
  let c0_i32_202 : BitVec 32 := 0#32
  let v218 : BitVec 1 := Scalar.cmpi .slt v216 c0_i32_202
  let c0_i32_203 : BitVec 32 := 0#32
  let v219 : BitVec 1 := Scalar.cmpi .slt v215 c0_i32_203
  let v220 : BitVec 1 := Scalar.xori v218 v219
  let c0_i32_201 : BitVec 32 := 0#32
  let v217 : BitVec 1 := Scalar.cmpi .ne v216 c0_i32_201
  let v221 : BitVec 1 := Scalar.andi v220 v217
  let v222 : BitVec 32 := Scalar.addi v216 v215
  let v223 : BitVec 32 := Scalar.select v221 v222 v216
  let c1_i32_226 : BitVec 32 := 1#32
  let v238 : BitVec 32 := Scalar.muli v223 c1_i32_226
  let v239 : BitVec 32 := Scalar.addi c0_i32_227 v238
  v239.toNat
def k0_dev13 (d0 : Dev nD) : Nat :=
  let c0_i32_257 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_197 : BitVec 32 := 3#32
  let v213 : BitVec 32 := Scalar.addi v2 c3_i32_197
  let c8_i32_198 : BitVec 32 := 8#32
  let c0_i32_199 : BitVec 32 := 0#32
  let v214 : BitVec 1 := Scalar.cmpi .eq c8_i32_198 c0_i32_199
  let c1_i32_200 : BitVec 32 := 1#32
  let v215 : BitVec 32 := Scalar.select v214 c1_i32_200 c8_i32_198
  let v216 : BitVec 32 := Scalar.remsi v213 v215
  let c0_i32_202 : BitVec 32 := 0#32
  let v218 : BitVec 1 := Scalar.cmpi .slt v216 c0_i32_202
  let c0_i32_203 : BitVec 32 := 0#32
  let v219 : BitVec 1 := Scalar.cmpi .slt v215 c0_i32_203
  let v220 : BitVec 1 := Scalar.xori v218 v219
  let c0_i32_201 : BitVec 32 := 0#32
  let v217 : BitVec 1 := Scalar.cmpi .ne v216 c0_i32_201
  let v221 : BitVec 1 := Scalar.andi v220 v217
  let v222 : BitVec 32 := Scalar.addi v216 v215
  let v223 : BitVec 32 := Scalar.select v221 v222 v216
  let c1_i32_256 : BitVec 32 := 1#32
  let v262 : BitVec 32 := Scalar.muli v223 c1_i32_256
  let v263 : BitVec 32 := Scalar.addi c0_i32_257 v262
  v263.toNat
def k0_dev14 (d0 : Dev nD) : Nat :=
  let c0_i32_294 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_264 : BitVec 32 := 4#32
  let v272 : BitVec 32 := Scalar.addi v2 c4_i32_264
  let c8_i32_265 : BitVec 32 := 8#32
  let c0_i32_266 : BitVec 32 := 0#32
  let v273 : BitVec 1 := Scalar.cmpi .eq c8_i32_265 c0_i32_266
  let c1_i32_267 : BitVec 32 := 1#32
  let v274 : BitVec 32 := Scalar.select v273 c1_i32_267 c8_i32_265
  let v275 : BitVec 32 := Scalar.remsi v272 v274
  let c0_i32_269 : BitVec 32 := 0#32
  let v277 : BitVec 1 := Scalar.cmpi .slt v275 c0_i32_269
  let c0_i32_270 : BitVec 32 := 0#32
  let v278 : BitVec 1 := Scalar.cmpi .slt v274 c0_i32_270
  let v279 : BitVec 1 := Scalar.xori v277 v278
  let c0_i32_268 : BitVec 32 := 0#32
  let v276 : BitVec 1 := Scalar.cmpi .ne v275 c0_i32_268
  let v280 : BitVec 1 := Scalar.andi v279 v276
  let v281 : BitVec 32 := Scalar.addi v275 v274
  let v282 : BitVec 32 := Scalar.select v280 v281 v275
  let c1_i32_293 : BitVec 32 := 1#32
  let v297 : BitVec 32 := Scalar.muli v282 c1_i32_293
  let v298 : BitVec 32 := Scalar.addi c0_i32_294 v297
  v298.toNat
def k0_dev15 (d0 : Dev nD) : Nat :=
  let c0_i32_324 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_264 : BitVec 32 := 4#32
  let v272 : BitVec 32 := Scalar.addi v2 c4_i32_264
  let c8_i32_265 : BitVec 32 := 8#32
  let c0_i32_266 : BitVec 32 := 0#32
  let v273 : BitVec 1 := Scalar.cmpi .eq c8_i32_265 c0_i32_266
  let c1_i32_267 : BitVec 32 := 1#32
  let v274 : BitVec 32 := Scalar.select v273 c1_i32_267 c8_i32_265
  let v275 : BitVec 32 := Scalar.remsi v272 v274
  let c0_i32_269 : BitVec 32 := 0#32
  let v277 : BitVec 1 := Scalar.cmpi .slt v275 c0_i32_269
  let c0_i32_270 : BitVec 32 := 0#32
  let v278 : BitVec 1 := Scalar.cmpi .slt v274 c0_i32_270
  let v279 : BitVec 1 := Scalar.xori v277 v278
  let c0_i32_268 : BitVec 32 := 0#32
  let v276 : BitVec 1 := Scalar.cmpi .ne v275 c0_i32_268
  let v280 : BitVec 1 := Scalar.andi v279 v276
  let v281 : BitVec 32 := Scalar.addi v275 v274
  let v282 : BitVec 32 := Scalar.select v280 v281 v275
  let c1_i32_323 : BitVec 32 := 1#32
  let v321 : BitVec 32 := Scalar.muli v282 c1_i32_323
  let v322 : BitVec 32 := Scalar.addi c0_i32_324 v321
  v322.toNat
def k0_dev16 (d0 : Dev nD) : Nat :=
  let c0_i32_361 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_331 : BitVec 32 := 5#32
  let v331 : BitVec 32 := Scalar.addi v2 c5_i32_331
  let c8_i32_332 : BitVec 32 := 8#32
  let c0_i32_333 : BitVec 32 := 0#32
  let v332 : BitVec 1 := Scalar.cmpi .eq c8_i32_332 c0_i32_333
  let c1_i32_334 : BitVec 32 := 1#32
  let v333 : BitVec 32 := Scalar.select v332 c1_i32_334 c8_i32_332
  let v334 : BitVec 32 := Scalar.remsi v331 v333
  let c0_i32_336 : BitVec 32 := 0#32
  let v336 : BitVec 1 := Scalar.cmpi .slt v334 c0_i32_336
  let c0_i32_337 : BitVec 32 := 0#32
  let v337 : BitVec 1 := Scalar.cmpi .slt v333 c0_i32_337
  let v338 : BitVec 1 := Scalar.xori v336 v337
  let c0_i32_335 : BitVec 32 := 0#32
  let v335 : BitVec 1 := Scalar.cmpi .ne v334 c0_i32_335
  let v339 : BitVec 1 := Scalar.andi v338 v335
  let v340 : BitVec 32 := Scalar.addi v334 v333
  let v341 : BitVec 32 := Scalar.select v339 v340 v334
  let c1_i32_360 : BitVec 32 := 1#32
  let v356 : BitVec 32 := Scalar.muli v341 c1_i32_360
  let v357 : BitVec 32 := Scalar.addi c0_i32_361 v356
  v357.toNat
def k0_dev17 (d0 : Dev nD) : Nat :=
  let c0_i32_391 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_331 : BitVec 32 := 5#32
  let v331 : BitVec 32 := Scalar.addi v2 c5_i32_331
  let c8_i32_332 : BitVec 32 := 8#32
  let c0_i32_333 : BitVec 32 := 0#32
  let v332 : BitVec 1 := Scalar.cmpi .eq c8_i32_332 c0_i32_333
  let c1_i32_334 : BitVec 32 := 1#32
  let v333 : BitVec 32 := Scalar.select v332 c1_i32_334 c8_i32_332
  let v334 : BitVec 32 := Scalar.remsi v331 v333
  let c0_i32_336 : BitVec 32 := 0#32
  let v336 : BitVec 1 := Scalar.cmpi .slt v334 c0_i32_336
  let c0_i32_337 : BitVec 32 := 0#32
  let v337 : BitVec 1 := Scalar.cmpi .slt v333 c0_i32_337
  let v338 : BitVec 1 := Scalar.xori v336 v337
  let c0_i32_335 : BitVec 32 := 0#32
  let v335 : BitVec 1 := Scalar.cmpi .ne v334 c0_i32_335
  let v339 : BitVec 1 := Scalar.andi v338 v335
  let v340 : BitVec 32 := Scalar.addi v334 v333
  let v341 : BitVec 32 := Scalar.select v339 v340 v334
  let c1_i32_390 : BitVec 32 := 1#32
  let v380 : BitVec 32 := Scalar.muli v341 c1_i32_390
  let v381 : BitVec 32 := Scalar.addi c0_i32_391 v380
  v381.toNat
def k0_dev18 (d0 : Dev nD) : Nat :=
  let c0_i32_428 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_398 : BitVec 32 := 6#32
  let v390 : BitVec 32 := Scalar.addi v2 c6_i32_398
  let c8_i32_399 : BitVec 32 := 8#32
  let c0_i32_400 : BitVec 32 := 0#32
  let v391 : BitVec 1 := Scalar.cmpi .eq c8_i32_399 c0_i32_400
  let c1_i32_401 : BitVec 32 := 1#32
  let v392 : BitVec 32 := Scalar.select v391 c1_i32_401 c8_i32_399
  let v393 : BitVec 32 := Scalar.remsi v390 v392
  let c0_i32_403 : BitVec 32 := 0#32
  let v395 : BitVec 1 := Scalar.cmpi .slt v393 c0_i32_403
  let c0_i32_404 : BitVec 32 := 0#32
  let v396 : BitVec 1 := Scalar.cmpi .slt v392 c0_i32_404
  let v397 : BitVec 1 := Scalar.xori v395 v396
  let c0_i32_402 : BitVec 32 := 0#32
  let v394 : BitVec 1 := Scalar.cmpi .ne v393 c0_i32_402
  let v398 : BitVec 1 := Scalar.andi v397 v394
  let v399 : BitVec 32 := Scalar.addi v393 v392
  let v400 : BitVec 32 := Scalar.select v398 v399 v393
  let c1_i32_427 : BitVec 32 := 1#32
  let v415 : BitVec 32 := Scalar.muli v400 c1_i32_427
  let v416 : BitVec 32 := Scalar.addi c0_i32_428 v415
  v416.toNat
def k0_dev19 (d0 : Dev nD) : Nat :=
  let c0_i32_458 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_398 : BitVec 32 := 6#32
  let v390 : BitVec 32 := Scalar.addi v2 c6_i32_398
  let c8_i32_399 : BitVec 32 := 8#32
  let c0_i32_400 : BitVec 32 := 0#32
  let v391 : BitVec 1 := Scalar.cmpi .eq c8_i32_399 c0_i32_400
  let c1_i32_401 : BitVec 32 := 1#32
  let v392 : BitVec 32 := Scalar.select v391 c1_i32_401 c8_i32_399
  let v393 : BitVec 32 := Scalar.remsi v390 v392
  let c0_i32_403 : BitVec 32 := 0#32
  let v395 : BitVec 1 := Scalar.cmpi .slt v393 c0_i32_403
  let c0_i32_404 : BitVec 32 := 0#32
  let v396 : BitVec 1 := Scalar.cmpi .slt v392 c0_i32_404
  let v397 : BitVec 1 := Scalar.xori v395 v396
  let c0_i32_402 : BitVec 32 := 0#32
  let v394 : BitVec 1 := Scalar.cmpi .ne v393 c0_i32_402
  let v398 : BitVec 1 := Scalar.andi v397 v394
  let v399 : BitVec 32 := Scalar.addi v393 v392
  let v400 : BitVec 32 := Scalar.select v398 v399 v393
  let c1_i32_457 : BitVec 32 := 1#32
  let v439 : BitVec 32 := Scalar.muli v400 c1_i32_457
  let v440 : BitVec 32 := Scalar.addi c0_i32_458 v439
  v440.toNat
def k0_dev20 (d0 : Dev nD) : Nat :=
  let c0_i32_495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_465 : BitVec 32 := 7#32
  let v449 : BitVec 32 := Scalar.addi v2 c7_i32_465
  let c8_i32_466 : BitVec 32 := 8#32
  let c0_i32_467 : BitVec 32 := 0#32
  let v450 : BitVec 1 := Scalar.cmpi .eq c8_i32_466 c0_i32_467
  let c1_i32_468 : BitVec 32 := 1#32
  let v451 : BitVec 32 := Scalar.select v450 c1_i32_468 c8_i32_466
  let v452 : BitVec 32 := Scalar.remsi v449 v451
  let c0_i32_470 : BitVec 32 := 0#32
  let v454 : BitVec 1 := Scalar.cmpi .slt v452 c0_i32_470
  let c0_i32_471 : BitVec 32 := 0#32
  let v455 : BitVec 1 := Scalar.cmpi .slt v451 c0_i32_471
  let v456 : BitVec 1 := Scalar.xori v454 v455
  let c0_i32_469 : BitVec 32 := 0#32
  let v453 : BitVec 1 := Scalar.cmpi .ne v452 c0_i32_469
  let v457 : BitVec 1 := Scalar.andi v456 v453
  let v458 : BitVec 32 := Scalar.addi v452 v451
  let v459 : BitVec 32 := Scalar.select v457 v458 v452
  let c1_i32_494 : BitVec 32 := 1#32
  let v474 : BitVec 32 := Scalar.muli v459 c1_i32_494
  let v475 : BitVec 32 := Scalar.addi c0_i32_495 v474
  v475.toNat
def k0_dev21 (d0 : Dev nD) : Nat :=
  let c0_i32_525 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_465 : BitVec 32 := 7#32
  let v449 : BitVec 32 := Scalar.addi v2 c7_i32_465
  let c8_i32_466 : BitVec 32 := 8#32
  let c0_i32_467 : BitVec 32 := 0#32
  let v450 : BitVec 1 := Scalar.cmpi .eq c8_i32_466 c0_i32_467
  let c1_i32_468 : BitVec 32 := 1#32
  let v451 : BitVec 32 := Scalar.select v450 c1_i32_468 c8_i32_466
  let v452 : BitVec 32 := Scalar.remsi v449 v451
  let c0_i32_470 : BitVec 32 := 0#32
  let v454 : BitVec 1 := Scalar.cmpi .slt v452 c0_i32_470
  let c0_i32_471 : BitVec 32 := 0#32
  let v455 : BitVec 1 := Scalar.cmpi .slt v451 c0_i32_471
  let v456 : BitVec 1 := Scalar.xori v454 v455
  let c0_i32_469 : BitVec 32 := 0#32
  let v453 : BitVec 1 := Scalar.cmpi .ne v452 c0_i32_469
  let v457 : BitVec 1 := Scalar.andi v456 v453
  let v458 : BitVec 32 := Scalar.addi v452 v451
  let v459 : BitVec 32 := Scalar.select v457 v458 v452
  let c1_i32_524 : BitVec 32 := 1#32
  let v498 : BitVec 32 := Scalar.muli v459 c1_i32_524
  let v499 : BitVec 32 := Scalar.addi c0_i32_525 v498
  v499.toNat
def k0_off5 (d0 : Dev nD) : Fin 4 → Nat :=
  let c0_i32_553 : BitVec 32 := 0#32
  let c0_i32_554 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_551 : BitVec 32 := 8#32
  let v533 : BitVec 32 := Scalar.muli v2 c8_i32_551
  let c0_i32_555 : BitVec 32 := 0#32
  ![0, 0, v533.toNat, 0]
def k0_off6 (d0 : Dev nD) (c1_i32_587 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v667 : BitVec 32 := Scalar.subi v2 c1_i32_587
  let c8_i32_588 : BitVec 32 := 8#32
  let c0_i32_589 : BitVec 32 := 0#32
  let v668 : BitVec 1 := Scalar.cmpi .eq c8_i32_588 c0_i32_589
  let c1_i32_590 : BitVec 32 := 1#32
  let v669 : BitVec 32 := Scalar.select v668 c1_i32_590 c8_i32_588
  let v670 : BitVec 32 := Scalar.remsi v667 v669
  let c0_i32_592 : BitVec 32 := 0#32
  let v672 : BitVec 1 := Scalar.cmpi .slt v670 c0_i32_592
  let c0_i32_593 : BitVec 32 := 0#32
  let v673 : BitVec 1 := Scalar.cmpi .slt v669 c0_i32_593
  let v674 : BitVec 1 := Scalar.xori v672 v673
  let c0_i32_591 : BitVec 32 := 0#32
  let v671 : BitVec 1 := Scalar.cmpi .ne v670 c0_i32_591
  let v675 : BitVec 1 := Scalar.andi v674 v671
  let v676 : BitVec 32 := Scalar.addi v670 v669
  let v677 : BitVec 32 := Scalar.select v675 v676 v670
  ![v677.toNat]
def k0_off7 (d0 : Dev nD) (c1_i32_587 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v667 : BitVec 32 := Scalar.subi v2 c1_i32_587
  let c8_i32_588 : BitVec 32 := 8#32
  let c0_i32_589 : BitVec 32 := 0#32
  let v668 : BitVec 1 := Scalar.cmpi .eq c8_i32_588 c0_i32_589
  let c1_i32_590 : BitVec 32 := 1#32
  let v669 : BitVec 32 := Scalar.select v668 c1_i32_590 c8_i32_588
  let v670 : BitVec 32 := Scalar.remsi v667 v669
  let c0_i32_592 : BitVec 32 := 0#32
  let v672 : BitVec 1 := Scalar.cmpi .slt v670 c0_i32_592
  let c0_i32_593 : BitVec 32 := 0#32
  let v673 : BitVec 1 := Scalar.cmpi .slt v669 c0_i32_593
  let v674 : BitVec 1 := Scalar.xori v672 v673
  let c0_i32_591 : BitVec 32 := 0#32
  let v671 : BitVec 1 := Scalar.cmpi .ne v670 c0_i32_591
  let v675 : BitVec 1 := Scalar.andi v674 v671
  let v676 : BitVec 32 := Scalar.addi v670 v669
  let v677 : BitVec 32 := Scalar.select v675 v676 v670
  let c0_i32_596 : BitVec 32 := 0#32
  let c0_i32_597 : BitVec 32 := 0#32
  let c0_i32_598 : BitVec 32 := 0#32
  ![v677.toNat, 0, 0, 0]
def k0_off8 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1037 : BitVec 32 := 0#32
  let c0_i32_1038 : BitVec 32 := 0#32
  let c0_i32_1039 : BitVec 32 := 0#32
  ![v2.toNat, 0, 0, 0]
def k0_off9 (d0 : Dev nD) (c1_i32_1028 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1870 : BitVec 32 := Scalar.addi v2 c1_i32_1028
  let c8_i32_1029 : BitVec 32 := 8#32
  let c0_i32_1030 : BitVec 32 := 0#32
  let v1871 : BitVec 1 := Scalar.cmpi .eq c8_i32_1029 c0_i32_1030
  let c1_i32_1031 : BitVec 32 := 1#32
  let v1872 : BitVec 32 := Scalar.select v1871 c1_i32_1031 c8_i32_1029
  let v1873 : BitVec 32 := Scalar.remsi v1870 v1872
  let c0_i32_1033 : BitVec 32 := 0#32
  let v1875 : BitVec 1 := Scalar.cmpi .slt v1873 c0_i32_1033
  let c0_i32_1034 : BitVec 32 := 0#32
  let v1876 : BitVec 1 := Scalar.cmpi .slt v1872 c0_i32_1034
  let v1877 : BitVec 1 := Scalar.xori v1875 v1876
  let c0_i32_1032 : BitVec 32 := 0#32
  let v1874 : BitVec 1 := Scalar.cmpi .ne v1873 c0_i32_1032
  let v1878 : BitVec 1 := Scalar.andi v1877 v1874
  let v1879 : BitVec 32 := Scalar.addi v1873 v1872
  let v1880 : BitVec 32 := Scalar.select v1878 v1879 v1873
  let c128_i32 : BitVec 32 := 128#32
  let v1881 : BitVec 32 := Scalar.muli v1880 c128_i32
  let c0_i32_1040 : BitVec 32 := 0#32
  let c0_i32_1041 : BitVec 32 := 0#32
  ![v1881.toNat, 0, 0]
def k0_dev22 (d0 : Dev nD) : Nat :=
  let c0_i32_1036 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1028 : BitVec 32 := 1#32
  let v1870 : BitVec 32 := Scalar.addi v2 c1_i32_1028
  let c8_i32_1029 : BitVec 32 := 8#32
  let c0_i32_1030 : BitVec 32 := 0#32
  let v1871 : BitVec 1 := Scalar.cmpi .eq c8_i32_1029 c0_i32_1030
  let c1_i32_1031 : BitVec 32 := 1#32
  let v1872 : BitVec 32 := Scalar.select v1871 c1_i32_1031 c8_i32_1029
  let v1873 : BitVec 32 := Scalar.remsi v1870 v1872
  let c0_i32_1033 : BitVec 32 := 0#32
  let v1875 : BitVec 1 := Scalar.cmpi .slt v1873 c0_i32_1033
  let c0_i32_1034 : BitVec 32 := 0#32
  let v1876 : BitVec 1 := Scalar.cmpi .slt v1872 c0_i32_1034
  let v1877 : BitVec 1 := Scalar.xori v1875 v1876
  let c0_i32_1032 : BitVec 32 := 0#32
  let v1874 : BitVec 1 := Scalar.cmpi .ne v1873 c0_i32_1032
  let v1878 : BitVec 1 := Scalar.andi v1877 v1874
  let v1879 : BitVec 32 := Scalar.addi v1873 v1872
  let v1880 : BitVec 32 := Scalar.select v1878 v1879 v1873
  let c1_i32_1035 : BitVec 32 := 1#32
  let v1882 : BitVec 32 := Scalar.muli v1880 c1_i32_1035
  let v1883 : BitVec 32 := Scalar.addi c0_i32_1036 v1882
  v1883.toNat
def k0_dev23 (d0 : Dev nD) : Nat :=
  let c0_i32_1051 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1042 : BitVec 32 := 2#32
  let v1891 : BitVec 32 := Scalar.addi v2 c2_i32_1042
  let c8_i32_1043 : BitVec 32 := 8#32
  let c0_i32_1044 : BitVec 32 := 0#32
  let v1892 : BitVec 1 := Scalar.cmpi .eq c8_i32_1043 c0_i32_1044
  let c1_i32_1045 : BitVec 32 := 1#32
  let v1893 : BitVec 32 := Scalar.select v1892 c1_i32_1045 c8_i32_1043
  let v1894 : BitVec 32 := Scalar.remsi v1891 v1893
  let c0_i32_1047 : BitVec 32 := 0#32
  let v1896 : BitVec 1 := Scalar.cmpi .slt v1894 c0_i32_1047
  let c0_i32_1048 : BitVec 32 := 0#32
  let v1897 : BitVec 1 := Scalar.cmpi .slt v1893 c0_i32_1048
  let v1898 : BitVec 1 := Scalar.xori v1896 v1897
  let c0_i32_1046 : BitVec 32 := 0#32
  let v1895 : BitVec 1 := Scalar.cmpi .ne v1894 c0_i32_1046
  let v1899 : BitVec 1 := Scalar.andi v1898 v1895
  let v1900 : BitVec 32 := Scalar.addi v1894 v1893
  let v1901 : BitVec 32 := Scalar.select v1899 v1900 v1894
  let c1_i32_1050 : BitVec 32 := 1#32
  let v1903 : BitVec 32 := Scalar.muli v1901 c1_i32_1050
  let v1904 : BitVec 32 := Scalar.addi c0_i32_1051 v1903
  v1904.toNat
def k0_dev24 (d0 : Dev nD) : Nat :=
  let c0_i32_1066 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1057 : BitVec 32 := 3#32
  let v1912 : BitVec 32 := Scalar.addi v2 c3_i32_1057
  let c8_i32_1058 : BitVec 32 := 8#32
  let c0_i32_1059 : BitVec 32 := 0#32
  let v1913 : BitVec 1 := Scalar.cmpi .eq c8_i32_1058 c0_i32_1059
  let c1_i32_1060 : BitVec 32 := 1#32
  let v1914 : BitVec 32 := Scalar.select v1913 c1_i32_1060 c8_i32_1058
  let v1915 : BitVec 32 := Scalar.remsi v1912 v1914
  let c0_i32_1062 : BitVec 32 := 0#32
  let v1917 : BitVec 1 := Scalar.cmpi .slt v1915 c0_i32_1062
  let c0_i32_1063 : BitVec 32 := 0#32
  let v1918 : BitVec 1 := Scalar.cmpi .slt v1914 c0_i32_1063
  let v1919 : BitVec 1 := Scalar.xori v1917 v1918
  let c0_i32_1061 : BitVec 32 := 0#32
  let v1916 : BitVec 1 := Scalar.cmpi .ne v1915 c0_i32_1061
  let v1920 : BitVec 1 := Scalar.andi v1919 v1916
  let v1921 : BitVec 32 := Scalar.addi v1915 v1914
  let v1922 : BitVec 32 := Scalar.select v1920 v1921 v1915
  let c1_i32_1065 : BitVec 32 := 1#32
  let v1924 : BitVec 32 := Scalar.muli v1922 c1_i32_1065
  let v1925 : BitVec 32 := Scalar.addi c0_i32_1066 v1924
  v1925.toNat
def k0_dev25 (d0 : Dev nD) : Nat :=
  let c0_i32_1081 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1072 : BitVec 32 := 4#32
  let v1933 : BitVec 32 := Scalar.addi v2 c4_i32_1072
  let c8_i32_1073 : BitVec 32 := 8#32
  let c0_i32_1074 : BitVec 32 := 0#32
  let v1934 : BitVec 1 := Scalar.cmpi .eq c8_i32_1073 c0_i32_1074
  let c1_i32_1075 : BitVec 32 := 1#32
  let v1935 : BitVec 32 := Scalar.select v1934 c1_i32_1075 c8_i32_1073
  let v1936 : BitVec 32 := Scalar.remsi v1933 v1935
  let c0_i32_1077 : BitVec 32 := 0#32
  let v1938 : BitVec 1 := Scalar.cmpi .slt v1936 c0_i32_1077
  let c0_i32_1078 : BitVec 32 := 0#32
  let v1939 : BitVec 1 := Scalar.cmpi .slt v1935 c0_i32_1078
  let v1940 : BitVec 1 := Scalar.xori v1938 v1939
  let c0_i32_1076 : BitVec 32 := 0#32
  let v1937 : BitVec 1 := Scalar.cmpi .ne v1936 c0_i32_1076
  let v1941 : BitVec 1 := Scalar.andi v1940 v1937
  let v1942 : BitVec 32 := Scalar.addi v1936 v1935
  let v1943 : BitVec 32 := Scalar.select v1941 v1942 v1936
  let c1_i32_1080 : BitVec 32 := 1#32
  let v1945 : BitVec 32 := Scalar.muli v1943 c1_i32_1080
  let v1946 : BitVec 32 := Scalar.addi c0_i32_1081 v1945
  v1946.toNat
def k0_dev26 (d0 : Dev nD) : Nat :=
  let c0_i32_1096 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1087 : BitVec 32 := 5#32
  let v1954 : BitVec 32 := Scalar.addi v2 c5_i32_1087
  let c8_i32_1088 : BitVec 32 := 8#32
  let c0_i32_1089 : BitVec 32 := 0#32
  let v1955 : BitVec 1 := Scalar.cmpi .eq c8_i32_1088 c0_i32_1089
  let c1_i32_1090 : BitVec 32 := 1#32
  let v1956 : BitVec 32 := Scalar.select v1955 c1_i32_1090 c8_i32_1088
  let v1957 : BitVec 32 := Scalar.remsi v1954 v1956
  let c0_i32_1092 : BitVec 32 := 0#32
  let v1959 : BitVec 1 := Scalar.cmpi .slt v1957 c0_i32_1092
  let c0_i32_1093 : BitVec 32 := 0#32
  let v1960 : BitVec 1 := Scalar.cmpi .slt v1956 c0_i32_1093
  let v1961 : BitVec 1 := Scalar.xori v1959 v1960
  let c0_i32_1091 : BitVec 32 := 0#32
  let v1958 : BitVec 1 := Scalar.cmpi .ne v1957 c0_i32_1091
  let v1962 : BitVec 1 := Scalar.andi v1961 v1958
  let v1963 : BitVec 32 := Scalar.addi v1957 v1956
  let v1964 : BitVec 32 := Scalar.select v1962 v1963 v1957
  let c1_i32_1095 : BitVec 32 := 1#32
  let v1966 : BitVec 32 := Scalar.muli v1964 c1_i32_1095
  let v1967 : BitVec 32 := Scalar.addi c0_i32_1096 v1966
  v1967.toNat
def k0_dev27 (d0 : Dev nD) : Nat :=
  let c0_i32_1111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1102 : BitVec 32 := 6#32
  let v1975 : BitVec 32 := Scalar.addi v2 c6_i32_1102
  let c8_i32_1103 : BitVec 32 := 8#32
  let c0_i32_1104 : BitVec 32 := 0#32
  let v1976 : BitVec 1 := Scalar.cmpi .eq c8_i32_1103 c0_i32_1104
  let c1_i32_1105 : BitVec 32 := 1#32
  let v1977 : BitVec 32 := Scalar.select v1976 c1_i32_1105 c8_i32_1103
  let v1978 : BitVec 32 := Scalar.remsi v1975 v1977
  let c0_i32_1107 : BitVec 32 := 0#32
  let v1980 : BitVec 1 := Scalar.cmpi .slt v1978 c0_i32_1107
  let c0_i32_1108 : BitVec 32 := 0#32
  let v1981 : BitVec 1 := Scalar.cmpi .slt v1977 c0_i32_1108
  let v1982 : BitVec 1 := Scalar.xori v1980 v1981
  let c0_i32_1106 : BitVec 32 := 0#32
  let v1979 : BitVec 1 := Scalar.cmpi .ne v1978 c0_i32_1106
  let v1983 : BitVec 1 := Scalar.andi v1982 v1979
  let v1984 : BitVec 32 := Scalar.addi v1978 v1977
  let v1985 : BitVec 32 := Scalar.select v1983 v1984 v1978
  let c1_i32_1110 : BitVec 32 := 1#32
  let v1987 : BitVec 32 := Scalar.muli v1985 c1_i32_1110
  let v1988 : BitVec 32 := Scalar.addi c0_i32_1111 v1987
  v1988.toNat
def k0_dev28 (d0 : Dev nD) : Nat :=
  let c0_i32_1126 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1117 : BitVec 32 := 7#32
  let v1996 : BitVec 32 := Scalar.addi v2 c7_i32_1117
  let c8_i32_1118 : BitVec 32 := 8#32
  let c0_i32_1119 : BitVec 32 := 0#32
  let v1997 : BitVec 1 := Scalar.cmpi .eq c8_i32_1118 c0_i32_1119
  let c1_i32_1120 : BitVec 32 := 1#32
  let v1998 : BitVec 32 := Scalar.select v1997 c1_i32_1120 c8_i32_1118
  let v1999 : BitVec 32 := Scalar.remsi v1996 v1998
  let c0_i32_1122 : BitVec 32 := 0#32
  let v2001 : BitVec 1 := Scalar.cmpi .slt v1999 c0_i32_1122
  let c0_i32_1123 : BitVec 32 := 0#32
  let v2002 : BitVec 1 := Scalar.cmpi .slt v1998 c0_i32_1123
  let v2003 : BitVec 1 := Scalar.xori v2001 v2002
  let c0_i32_1121 : BitVec 32 := 0#32
  let v2000 : BitVec 1 := Scalar.cmpi .ne v1999 c0_i32_1121
  let v2004 : BitVec 1 := Scalar.andi v2003 v2000
  let v2005 : BitVec 32 := Scalar.addi v1999 v1998
  let v2006 : BitVec 32 := Scalar.select v2004 v2005 v1999
  let c1_i32_1125 : BitVec 32 := 1#32
  let v2008 : BitVec 32 := Scalar.muli v2006 c1_i32_1125
  let v2009 : BitVec 32 := Scalar.addi c0_i32_1126 v2008
  v2009.toNat
def k0_off10 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2018 : Index := Scalar.indexCast v2
  let c0_1133 : Index := 0#32
  let c0_1134 : Index := 0#32
  let c0_1135 : Index := 0#32
  ![v2018.toNat, 0, 0, 0]
def k0_off11 (d0 : Dev nD) (c1_i32_1136 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2022 : BitVec 32 := Scalar.subi v2 c1_i32_1136
  let c8_i32_1137 : BitVec 32 := 8#32
  let c0_i32_1138 : BitVec 32 := 0#32
  let v2023 : BitVec 1 := Scalar.cmpi .eq c8_i32_1137 c0_i32_1138
  let c1_i32_1139 : BitVec 32 := 1#32
  let v2024 : BitVec 32 := Scalar.select v2023 c1_i32_1139 c8_i32_1137
  let v2025 : BitVec 32 := Scalar.remsi v2022 v2024
  let c0_i32_1141 : BitVec 32 := 0#32
  let v2027 : BitVec 1 := Scalar.cmpi .slt v2025 c0_i32_1141
  let c0_i32_1142 : BitVec 32 := 0#32
  let v2028 : BitVec 1 := Scalar.cmpi .slt v2024 c0_i32_1142
  let v2029 : BitVec 1 := Scalar.xori v2027 v2028
  let c0_i32_1140 : BitVec 32 := 0#32
  let v2026 : BitVec 1 := Scalar.cmpi .ne v2025 c0_i32_1140
  let v2030 : BitVec 1 := Scalar.andi v2029 v2026
  let v2031 : BitVec 32 := Scalar.addi v2025 v2024
  let v2032 : BitVec 32 := Scalar.select v2030 v2031 v2025
  let c0_i32_1145 : BitVec 32 := 0#32
  let c0_i32_1146 : BitVec 32 := 0#32
  let c0_i32_1147 : BitVec 32 := 0#32
  ![v2032.toNat, 0, 0, 0]
def k0_off12 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_1241 : BitVec 32 := 128#32
  let v2155 : BitVec 32 := Scalar.muli v2 c128_i32_1241
  let v2156 : Index := Scalar.indexCast v2155
  let c0_1242 : Index := 0#32
  let c0_1243 : Index := 0#32
  ![v2156.toNat, 0, 0]
def k0_off13 (d0 : Dev nD) : Fin 3 → Nat :=
  let c0_1250 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_1249 : BitVec 32 := 128#32
  let v2164 : BitVec 32 := Scalar.muli v2 c128_i32_1249
  let v2165 : Index := Scalar.indexCast v2164
  let c0_1251 : Index := 0#32
  ![0, v2165.toNat, 0]
def k0_off14 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_1263 : BitVec 32 := 128#32
  let v2187 : BitVec 32 := Scalar.muli v2 c128_i32_1263
  let c0_i32_1266 : BitVec 32 := 0#32
  let c0_i32_1267 : BitVec 32 := 0#32
  ![v2187.toNat, 0, 0]
def k0_dev29 (d0 : Dev nD) : Nat :=
  let c0_i32_1265 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1255 : BitVec 32 := 1#32
  let v2175 : BitVec 32 := Scalar.addi v2 c1_i32_1255
  let c8_i32_1256 : BitVec 32 := 8#32
  let c0_i32_1257 : BitVec 32 := 0#32
  let v2176 : BitVec 1 := Scalar.cmpi .eq c8_i32_1256 c0_i32_1257
  let c1_i32_1258 : BitVec 32 := 1#32
  let v2177 : BitVec 32 := Scalar.select v2176 c1_i32_1258 c8_i32_1256
  let v2178 : BitVec 32 := Scalar.remsi v2175 v2177
  let c0_i32_1260 : BitVec 32 := 0#32
  let v2180 : BitVec 1 := Scalar.cmpi .slt v2178 c0_i32_1260
  let c0_i32_1261 : BitVec 32 := 0#32
  let v2181 : BitVec 1 := Scalar.cmpi .slt v2177 c0_i32_1261
  let v2182 : BitVec 1 := Scalar.xori v2180 v2181
  let c0_i32_1259 : BitVec 32 := 0#32
  let v2179 : BitVec 1 := Scalar.cmpi .ne v2178 c0_i32_1259
  let v2183 : BitVec 1 := Scalar.andi v2182 v2179
  let v2184 : BitVec 32 := Scalar.addi v2178 v2177
  let v2185 : BitVec 32 := Scalar.select v2183 v2184 v2178
  let c1_i32_1264 : BitVec 32 := 1#32
  let v2188 : BitVec 32 := Scalar.muli v2185 c1_i32_1264
  let v2189 : BitVec 32 := Scalar.addi c0_i32_1265 v2188
  v2189.toNat
def k0_dev30 (d0 : Dev nD) : Nat :=
  let c0_i32_1280 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1270 : BitVec 32 := 2#32
  let v2196 : BitVec 32 := Scalar.addi v2 c2_i32_1270
  let c8_i32_1271 : BitVec 32 := 8#32
  let c0_i32_1272 : BitVec 32 := 0#32
  let v2197 : BitVec 1 := Scalar.cmpi .eq c8_i32_1271 c0_i32_1272
  let c1_i32_1273 : BitVec 32 := 1#32
  let v2198 : BitVec 32 := Scalar.select v2197 c1_i32_1273 c8_i32_1271
  let v2199 : BitVec 32 := Scalar.remsi v2196 v2198
  let c0_i32_1275 : BitVec 32 := 0#32
  let v2201 : BitVec 1 := Scalar.cmpi .slt v2199 c0_i32_1275
  let c0_i32_1276 : BitVec 32 := 0#32
  let v2202 : BitVec 1 := Scalar.cmpi .slt v2198 c0_i32_1276
  let v2203 : BitVec 1 := Scalar.xori v2201 v2202
  let c0_i32_1274 : BitVec 32 := 0#32
  let v2200 : BitVec 1 := Scalar.cmpi .ne v2199 c0_i32_1274
  let v2204 : BitVec 1 := Scalar.andi v2203 v2200
  let v2205 : BitVec 32 := Scalar.addi v2199 v2198
  let v2206 : BitVec 32 := Scalar.select v2204 v2205 v2199
  let c1_i32_1279 : BitVec 32 := 1#32
  let v2209 : BitVec 32 := Scalar.muli v2206 c1_i32_1279
  let v2210 : BitVec 32 := Scalar.addi c0_i32_1280 v2209
  v2210.toNat
def k0_dev31 (d0 : Dev nD) : Nat :=
  let c0_i32_1295 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1285 : BitVec 32 := 3#32
  let v2217 : BitVec 32 := Scalar.addi v2 c3_i32_1285
  let c8_i32_1286 : BitVec 32 := 8#32
  let c0_i32_1287 : BitVec 32 := 0#32
  let v2218 : BitVec 1 := Scalar.cmpi .eq c8_i32_1286 c0_i32_1287
  let c1_i32_1288 : BitVec 32 := 1#32
  let v2219 : BitVec 32 := Scalar.select v2218 c1_i32_1288 c8_i32_1286
  let v2220 : BitVec 32 := Scalar.remsi v2217 v2219
  let c0_i32_1290 : BitVec 32 := 0#32
  let v2222 : BitVec 1 := Scalar.cmpi .slt v2220 c0_i32_1290
  let c0_i32_1291 : BitVec 32 := 0#32
  let v2223 : BitVec 1 := Scalar.cmpi .slt v2219 c0_i32_1291
  let v2224 : BitVec 1 := Scalar.xori v2222 v2223
  let c0_i32_1289 : BitVec 32 := 0#32
  let v2221 : BitVec 1 := Scalar.cmpi .ne v2220 c0_i32_1289
  let v2225 : BitVec 1 := Scalar.andi v2224 v2221
  let v2226 : BitVec 32 := Scalar.addi v2220 v2219
  let v2227 : BitVec 32 := Scalar.select v2225 v2226 v2220
  let c1_i32_1294 : BitVec 32 := 1#32
  let v2230 : BitVec 32 := Scalar.muli v2227 c1_i32_1294
  let v2231 : BitVec 32 := Scalar.addi c0_i32_1295 v2230
  v2231.toNat
def k0_dev32 (d0 : Dev nD) : Nat :=
  let c0_i32_1310 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1300 : BitVec 32 := 4#32
  let v2238 : BitVec 32 := Scalar.addi v2 c4_i32_1300
  let c8_i32_1301 : BitVec 32 := 8#32
  let c0_i32_1302 : BitVec 32 := 0#32
  let v2239 : BitVec 1 := Scalar.cmpi .eq c8_i32_1301 c0_i32_1302
  let c1_i32_1303 : BitVec 32 := 1#32
  let v2240 : BitVec 32 := Scalar.select v2239 c1_i32_1303 c8_i32_1301
  let v2241 : BitVec 32 := Scalar.remsi v2238 v2240
  let c0_i32_1305 : BitVec 32 := 0#32
  let v2243 : BitVec 1 := Scalar.cmpi .slt v2241 c0_i32_1305
  let c0_i32_1306 : BitVec 32 := 0#32
  let v2244 : BitVec 1 := Scalar.cmpi .slt v2240 c0_i32_1306
  let v2245 : BitVec 1 := Scalar.xori v2243 v2244
  let c0_i32_1304 : BitVec 32 := 0#32
  let v2242 : BitVec 1 := Scalar.cmpi .ne v2241 c0_i32_1304
  let v2246 : BitVec 1 := Scalar.andi v2245 v2242
  let v2247 : BitVec 32 := Scalar.addi v2241 v2240
  let v2248 : BitVec 32 := Scalar.select v2246 v2247 v2241
  let c1_i32_1309 : BitVec 32 := 1#32
  let v2251 : BitVec 32 := Scalar.muli v2248 c1_i32_1309
  let v2252 : BitVec 32 := Scalar.addi c0_i32_1310 v2251
  v2252.toNat
def k0_dev33 (d0 : Dev nD) : Nat :=
  let c0_i32_1325 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1315 : BitVec 32 := 5#32
  let v2259 : BitVec 32 := Scalar.addi v2 c5_i32_1315
  let c8_i32_1316 : BitVec 32 := 8#32
  let c0_i32_1317 : BitVec 32 := 0#32
  let v2260 : BitVec 1 := Scalar.cmpi .eq c8_i32_1316 c0_i32_1317
  let c1_i32_1318 : BitVec 32 := 1#32
  let v2261 : BitVec 32 := Scalar.select v2260 c1_i32_1318 c8_i32_1316
  let v2262 : BitVec 32 := Scalar.remsi v2259 v2261
  let c0_i32_1320 : BitVec 32 := 0#32
  let v2264 : BitVec 1 := Scalar.cmpi .slt v2262 c0_i32_1320
  let c0_i32_1321 : BitVec 32 := 0#32
  let v2265 : BitVec 1 := Scalar.cmpi .slt v2261 c0_i32_1321
  let v2266 : BitVec 1 := Scalar.xori v2264 v2265
  let c0_i32_1319 : BitVec 32 := 0#32
  let v2263 : BitVec 1 := Scalar.cmpi .ne v2262 c0_i32_1319
  let v2267 : BitVec 1 := Scalar.andi v2266 v2263
  let v2268 : BitVec 32 := Scalar.addi v2262 v2261
  let v2269 : BitVec 32 := Scalar.select v2267 v2268 v2262
  let c1_i32_1324 : BitVec 32 := 1#32
  let v2272 : BitVec 32 := Scalar.muli v2269 c1_i32_1324
  let v2273 : BitVec 32 := Scalar.addi c0_i32_1325 v2272
  v2273.toNat
def k0_dev34 (d0 : Dev nD) : Nat :=
  let c0_i32_1340 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1330 : BitVec 32 := 6#32
  let v2280 : BitVec 32 := Scalar.addi v2 c6_i32_1330
  let c8_i32_1331 : BitVec 32 := 8#32
  let c0_i32_1332 : BitVec 32 := 0#32
  let v2281 : BitVec 1 := Scalar.cmpi .eq c8_i32_1331 c0_i32_1332
  let c1_i32_1333 : BitVec 32 := 1#32
  let v2282 : BitVec 32 := Scalar.select v2281 c1_i32_1333 c8_i32_1331
  let v2283 : BitVec 32 := Scalar.remsi v2280 v2282
  let c0_i32_1335 : BitVec 32 := 0#32
  let v2285 : BitVec 1 := Scalar.cmpi .slt v2283 c0_i32_1335
  let c0_i32_1336 : BitVec 32 := 0#32
  let v2286 : BitVec 1 := Scalar.cmpi .slt v2282 c0_i32_1336
  let v2287 : BitVec 1 := Scalar.xori v2285 v2286
  let c0_i32_1334 : BitVec 32 := 0#32
  let v2284 : BitVec 1 := Scalar.cmpi .ne v2283 c0_i32_1334
  let v2288 : BitVec 1 := Scalar.andi v2287 v2284
  let v2289 : BitVec 32 := Scalar.addi v2283 v2282
  let v2290 : BitVec 32 := Scalar.select v2288 v2289 v2283
  let c1_i32_1339 : BitVec 32 := 1#32
  let v2293 : BitVec 32 := Scalar.muli v2290 c1_i32_1339
  let v2294 : BitVec 32 := Scalar.addi c0_i32_1340 v2293
  v2294.toNat
def k0_dev35 (d0 : Dev nD) : Nat :=
  let c0_i32_1355 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1345 : BitVec 32 := 7#32
  let v2301 : BitVec 32 := Scalar.addi v2 c7_i32_1345
  let c8_i32_1346 : BitVec 32 := 8#32
  let c0_i32_1347 : BitVec 32 := 0#32
  let v2302 : BitVec 1 := Scalar.cmpi .eq c8_i32_1346 c0_i32_1347
  let c1_i32_1348 : BitVec 32 := 1#32
  let v2303 : BitVec 32 := Scalar.select v2302 c1_i32_1348 c8_i32_1346
  let v2304 : BitVec 32 := Scalar.remsi v2301 v2303
  let c0_i32_1350 : BitVec 32 := 0#32
  let v2306 : BitVec 1 := Scalar.cmpi .slt v2304 c0_i32_1350
  let c0_i32_1351 : BitVec 32 := 0#32
  let v2307 : BitVec 1 := Scalar.cmpi .slt v2303 c0_i32_1351
  let v2308 : BitVec 1 := Scalar.xori v2306 v2307
  let c0_i32_1349 : BitVec 32 := 0#32
  let v2305 : BitVec 1 := Scalar.cmpi .ne v2304 c0_i32_1349
  let v2309 : BitVec 1 := Scalar.andi v2308 v2305
  let v2310 : BitVec 32 := Scalar.addi v2304 v2303
  let v2311 : BitVec 32 := Scalar.select v2309 v2310 v2304
  let c1_i32_1354 : BitVec 32 := 1#32
  let v2314 : BitVec 32 := Scalar.muli v2311 c1_i32_1354
  let v2315 : BitVec 32 := Scalar.addi c0_i32_1355 v2314
  v2315.toNat
def k0_off15 (d0 : Dev nD) (c1_i32_1360 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2322 : BitVec 32 := Scalar.subi v2 c1_i32_1360
  let c8_i32_1361 : BitVec 32 := 8#32
  let c0_i32_1362 : BitVec 32 := 0#32
  let v2323 : BitVec 1 := Scalar.cmpi .eq c8_i32_1361 c0_i32_1362
  let c1_i32_1363 : BitVec 32 := 1#32
  let v2324 : BitVec 32 := Scalar.select v2323 c1_i32_1363 c8_i32_1361
  let v2325 : BitVec 32 := Scalar.remsi v2322 v2324
  let c0_i32_1365 : BitVec 32 := 0#32
  let v2327 : BitVec 1 := Scalar.cmpi .slt v2325 c0_i32_1365
  let c0_i32_1366 : BitVec 32 := 0#32
  let v2328 : BitVec 1 := Scalar.cmpi .slt v2324 c0_i32_1366
  let v2329 : BitVec 1 := Scalar.xori v2327 v2328
  let c0_i32_1364 : BitVec 32 := 0#32
  let v2326 : BitVec 1 := Scalar.cmpi .ne v2325 c0_i32_1364
  let v2330 : BitVec 1 := Scalar.andi v2329 v2326
  let v2331 : BitVec 32 := Scalar.addi v2325 v2324
  let v2332 : BitVec 32 := Scalar.select v2330 v2331 v2325
  let c128_i32_1368 : BitVec 32 := 128#32
  let v2334 : BitVec 32 := Scalar.muli v2332 c128_i32_1368
  let c0_i32_1371 : BitVec 32 := 0#32
  let c0_i32_1372 : BitVec 32 := 0#32
  ![v2334.toNat, 0, 0]
def k0_off16 (d0 : Dev nD) (c1_i32_1360 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2322 : BitVec 32 := Scalar.subi v2 c1_i32_1360
  let c8_i32_1361 : BitVec 32 := 8#32
  let c0_i32_1362 : BitVec 32 := 0#32
  let v2323 : BitVec 1 := Scalar.cmpi .eq c8_i32_1361 c0_i32_1362
  let c1_i32_1363 : BitVec 32 := 1#32
  let v2324 : BitVec 32 := Scalar.select v2323 c1_i32_1363 c8_i32_1361
  let v2325 : BitVec 32 := Scalar.remsi v2322 v2324
  let c0_i32_1365 : BitVec 32 := 0#32
  let v2327 : BitVec 1 := Scalar.cmpi .slt v2325 c0_i32_1365
  let c0_i32_1366 : BitVec 32 := 0#32
  let v2328 : BitVec 1 := Scalar.cmpi .slt v2324 c0_i32_1366
  let v2329 : BitVec 1 := Scalar.xori v2327 v2328
  let c0_i32_1364 : BitVec 32 := 0#32
  let v2326 : BitVec 1 := Scalar.cmpi .ne v2325 c0_i32_1364
  let v2330 : BitVec 1 := Scalar.andi v2329 v2326
  let v2331 : BitVec 32 := Scalar.addi v2325 v2324
  let v2332 : BitVec 32 := Scalar.select v2330 v2331 v2325
  let c128_i32_1375 : BitVec 32 := 128#32
  let v2341 : BitVec 32 := Scalar.muli v2332 c128_i32_1375
  let v2342 : Index := Scalar.indexCast v2341
  let c0_1376 : Index := 0#32
  let c0_1377 : Index := 0#32
  ![v2342.toNat, 0, 0]
def k0_off17 (d0 : Dev nD) (c1_i32_1360 : BitVec 32) : Fin 3 → Nat :=
  let c0_1379 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2322 : BitVec 32 := Scalar.subi v2 c1_i32_1360
  let c8_i32_1361 : BitVec 32 := 8#32
  let c0_i32_1362 : BitVec 32 := 0#32
  let v2323 : BitVec 1 := Scalar.cmpi .eq c8_i32_1361 c0_i32_1362
  let c1_i32_1363 : BitVec 32 := 1#32
  let v2324 : BitVec 32 := Scalar.select v2323 c1_i32_1363 c8_i32_1361
  let v2325 : BitVec 32 := Scalar.remsi v2322 v2324
  let c0_i32_1365 : BitVec 32 := 0#32
  let v2327 : BitVec 1 := Scalar.cmpi .slt v2325 c0_i32_1365
  let c0_i32_1366 : BitVec 32 := 0#32
  let v2328 : BitVec 1 := Scalar.cmpi .slt v2324 c0_i32_1366
  let v2329 : BitVec 1 := Scalar.xori v2327 v2328
  let c0_i32_1364 : BitVec 32 := 0#32
  let v2326 : BitVec 1 := Scalar.cmpi .ne v2325 c0_i32_1364
  let v2330 : BitVec 1 := Scalar.andi v2329 v2326
  let v2331 : BitVec 32 := Scalar.addi v2325 v2324
  let v2332 : BitVec 32 := Scalar.select v2330 v2331 v2325
  let c128_i32_1378 : BitVec 32 := 128#32
  let v2346 : BitVec 32 := Scalar.muli v2332 c128_i32_1378
  let v2347 : Index := Scalar.indexCast v2346
  let c0_1380 : Index := 0#32
  ![0, v2347.toNat, 0]
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1x1024x1024 : Shape := ⟨3, ![1, 1024, 1024]⟩
abbrev S1024x8192 : Shape := ⟨2, ![1024, 8192]⟩
abbrev S1x8192x64x128 : Shape := ⟨4, ![1, 8192, 64, 128]⟩
abbrev S8192x1024 : Shape := ⟨2, ![8192, 1024]⟩
abbrev S1x1024x8192 : Shape := ⟨3, ![1, 1024, 8192]⟩
abbrev S1x1024x64x128 : Shape := ⟨4, ![1, 1024, 64, 128]⟩
abbrev S1024 : Shape := ⟨1, ![1024]⟩
abbrev S_ : Shape := ⟨0, ![]⟩
abbrev S1024x1 : Shape := ⟨2, ![1024, 1]⟩
abbrev S8192 : Shape := ⟨1, ![8192]⟩
abbrev S1x8192 : Shape := ⟨2, ![1, 8192]⟩
abbrev S1x64x1024x8192 : Shape := ⟨4, ![1, 64, 1024, 8192]⟩
abbrev S1x1x1024x8192 : Shape := ⟨4, ![1, 1, 1024, 8192]⟩
abbrev S1x64x1024 : Shape := ⟨3, ![1, 64, 1024]⟩
abbrev S1x64x1024x1 : Shape := ⟨4, ![1, 64, 1024, 1]⟩
abbrev S1x1x1024x1 : Shape := ⟨4, ![1, 1, 1024, 1]⟩
abbrev S1x64x128x1024 : Shape := ⟨4, ![1, 64, 128, 1024]⟩

abbrev nBuf : Space → Nat
  | .hbm => 137
  | .vmem => 0
  | .smem => 0
  | _ => 0

abbrev hbmTy0_0 (i : Nat) : BufTy := match i % 128 with
  | 0 => ⟨S1x1024x1024, .f32⟩
  | 1 => ⟨S1024x8192, .f32⟩
  | 2 => ⟨S1x8192x64x128, .f32⟩
  | 3 => ⟨S1x8192x64x128, .f32⟩
  | 4 => ⟨S8192x1024, .f32⟩
  | 5 => ⟨S1x1024x8192, .f32⟩
  | 6 => ⟨S1x1024x64x128, .f32⟩
  | 7 => ⟨S1024, .i32⟩
  | 8 => ⟨S_, .i32⟩
  | 9 => ⟨S_, .i32⟩
  | 10 => ⟨S1024, .i32⟩
  | 11 => ⟨S1024, .i32⟩
  | 12 => ⟨S1024, .i32⟩
  | 13 => ⟨S_, .i32⟩
  | 14 => ⟨S1024, .i32⟩
  | 15 => ⟨S1024, .i1⟩
  | 16 => ⟨S1024, .i32⟩
  | 17 => ⟨S1024, .i32⟩
  | 18 => ⟨S_, .i32⟩
  | 19 => ⟨S1024, .i32⟩
  | 20 => ⟨S1024, .i1⟩
  | 21 => ⟨S1024, .i1⟩
  | 22 => ⟨S_, .i32⟩
  | 23 => ⟨S1024, .i32⟩
  | 24 => ⟨S1024, .i32⟩
  | 25 => ⟨S1024, .i32⟩
  | 26 => ⟨S1024x1, .i32⟩
  | 27 => ⟨S8192, .i32⟩
  | 28 => ⟨S_, .i32⟩
  | 29 => ⟨S_, .i32⟩
  | 30 => ⟨S8192, .i32⟩
  | 31 => ⟨S8192, .i32⟩
  | 32 => ⟨S8192, .i32⟩
  | 33 => ⟨S_, .i32⟩
  | 34 => ⟨S8192, .i32⟩
  | 35 => ⟨S8192, .i1⟩
  | 36 => ⟨S8192, .i32⟩
  | 37 => ⟨S8192, .i32⟩
  | 38 => ⟨S_, .i32⟩
  | 39 => ⟨S8192, .i32⟩
  | 40 => ⟨S8192, .i1⟩
  | 41 => ⟨S8192, .i1⟩
  | 42 => ⟨S_, .i32⟩
  | 43 => ⟨S8192, .i32⟩
  | 44 => ⟨S8192, .i32⟩
  | 45 => ⟨S8192, .i32⟩
  | 46 => ⟨S1x8192, .i32⟩
  | 47 => ⟨S1024x8192, .i32⟩
  | 48 => ⟨S1024x8192, .i32⟩
  | 49 => ⟨S1024x8192, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x8192, .i32⟩
  | 57 => ⟨S1x8192, .i32⟩
  | 58 => ⟨S_, .i32⟩
  | 59 => ⟨S1x8192, .i32⟩
  | 60 => ⟨S1x8192, .i1⟩
  | 61 => ⟨S_, .i32⟩
  | 62 => ⟨S1x8192, .i32⟩
  | 63 => ⟨S1x8192, .i1⟩
  | 64 => ⟨S_, .i32⟩
  | 65 => ⟨S_, .i1⟩
  | 66 => ⟨S1x8192, .i1⟩
  | 67 => ⟨S1x8192, .i1⟩
  | 68 => ⟨S1x8192, .i1⟩
  | 69 => ⟨S1x8192, .i32⟩
  | 70 => ⟨S1x8192, .i32⟩
  | 71 => ⟨S1x8192, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S1024x1, .i32⟩
  | 79 => ⟨S1024x1, .i32⟩
  | 80 => ⟨S_, .i32⟩
  | 81 => ⟨S1024x1, .i32⟩
  | 82 => ⟨S1024x1, .i1⟩
  | 83 => ⟨S_, .i32⟩
  | 84 => ⟨S1024x1, .i32⟩
  | 85 => ⟨S1024x1, .i1⟩
  | 86 => ⟨S_, .i32⟩
  | 87 => ⟨S_, .i1⟩
  | 88 => ⟨S1024x1, .i1⟩
  | 89 => ⟨S1024x1, .i1⟩
  | 90 => ⟨S1024x1, .i1⟩
  | 91 => ⟨S1024x1, .i32⟩
  | 92 => ⟨S1024x1, .i32⟩
  | 93 => ⟨S1024x1, .i32⟩
  | 94 => ⟨S1024x8192, .i32⟩
  | 95 => ⟨S1024x8192, .i32⟩
  | 96 => ⟨S1024x8192, .i1⟩
  | 97 => ⟨S1024x8192, .i1⟩
  | 98 => ⟨S1x64x1024x8192, .f32⟩
  | 99 => ⟨S_, .f32⟩
  | 100 => ⟨S1x64x1024x8192, .f32⟩
  | 101 => ⟨S1x64x1024x8192, .f32⟩
  | 102 => ⟨S1x1x1024x8192, .i1⟩
  | 103 => ⟨S_, .f32⟩
  | 104 => ⟨S_, .f32⟩
  | 105 => ⟨S1x64x1024x8192, .i1⟩
  | 106 => ⟨S1x64x1024x8192, .f32⟩
  | 107 => ⟨S1x64x1024x8192, .f32⟩
  | 108 => ⟨S_, .f32⟩
  | 109 => ⟨S1x64x1024, .f32⟩
  | 110 => ⟨S1x64x1024x1, .f32⟩
  | 111 => ⟨S1x64x1024x8192, .f32⟩
  | 112 => ⟨S1x64x1024x8192, .f32⟩
  | 113 => ⟨S1x64x1024x8192, .f32⟩
  | 114 => ⟨S_, .i1⟩
  | 115 => ⟨S1024, .i1⟩
  | 116 => ⟨S1x1x1024x1, .i1⟩
  | 117 => ⟨S_, .f32⟩
  | 118 => ⟨S1x64x1024, .f32⟩
  | 119 => ⟨S1x64x1024x1, .f32⟩
  | 120 => ⟨S_, .f32⟩
  | 121 => ⟨S_, .f32⟩
  | 122 => ⟨S1x64x1024x1, .i1⟩
  | 123 => ⟨S1x64x1024x1, .f32⟩
  | 124 => ⟨S1x64x1024x1, .f32⟩
  | 125 => ⟨S1x64x1024x8192, .f32⟩
  | 126 => ⟨S1x64x1024x8192, .f32⟩
  | 127 => ⟨S1x1x1024x1, .i1⟩
  | _ => ⟨S1x1024x1024, .f32⟩

abbrev hbmTy0_1 (i : Nat) : BufTy := match i % 128 with
  | 0 => ⟨S_, .f32⟩
  | 1 => ⟨S_, .f32⟩
  | 2 => ⟨S1x64x1024x8192, .i1⟩
  | 3 => ⟨S1x64x1024x8192, .f32⟩
  | 4 => ⟨S1x64x1024x8192, .f32⟩
  | 5 => ⟨S1x64x128x1024, .f32⟩
  | 6 => ⟨S1x1024x64x128, .f32⟩
  | 7 => ⟨S1x1024x8192, .f32⟩
  | 8 => ⟨S1x1024x1024, .f32⟩
  | _ => ⟨S1x1024x1024, .f32⟩

abbrev hbmTy (i : Nat) : BufTy := match i / 128 with
  | 0 => hbmTy0_0 i
  | 1 => hbmTy0_1 i
  | _ => ⟨S1x1024x1024, .f32⟩

abbrev bufTy : (tb : Table) → Fin (tcTables nBuf tb) → BufTy
  | .hbm, ⟨i, _⟩ => hbmTy i
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Softmax.lean ====
module

public import proofs.«01_k».proof.Proof.Gen.KernelIdeal.Skeleton

@[expose] public section

noncomputable section

/-! The kernel's pure values in a uniform spelling: the residue `r : Fin 4` and the slab `g : Fin 4` are variables. -/

namespace Cert.KernelIdeal.Att

open Idealize.ShloMosaic Idealize.SL.Sem
open Cert.KernelIdeal Cert.KernelIdeal.Gen

variable {F : FTy → Type} [FloatOps F]

/-- Residue `r`'s slice of the grouped rows is in bounds. -/
theorem slices_group (r : Fin 4) : S4x4x64x8x128.Slices ![0, r.val, 0, 0, 0] S4x1x64x8x128 := by
  revert r; decide

/-- Residue `r`'s slice of the grouped queries is in bounds. -/
theorem slices_query (r : Fin 4) : S4x8x256x128.Slices ![r.val, 0, 0, 0] S1x8x256x128 := by
  revert r; decide

/-- Slab `g`'s slice of a residue's context is in bounds. -/
theorem slices_slab (g : Fin 4) : S8x256x128.Slices ![0, 64 * g.val, 0] S8x64x128 := by
  revert g; decide

/-- The rows of residue `r`, per head. -/
def group (r : Fin 4) (x : FVec F S1024x8x128 .bf16) : FVec F S8x256x128 .bf16 :=
  shapeCast S8x256x128
    (transpose S8x4x64x128 [2, 0, 1, 3]
      (shapeCast S4x64x8x128
        (extractStridedSlice S4x1x64x8x128 ![0, r.val, 0, 0, 0] (shapeCast S4x4x64x8x128 x shapeCasts_S1024x8x128_S4x4x64x8x128) (slices_group r))
        shapeCasts_S4x1x64x8x128_S4x64x8x128)
      transposes_S4x64x8x128_p2_0_1_3_S8x4x64x128)
    shapeCasts_S8x4x64x128_S8x256x128

/-- The queries of residue `r`. -/
def query (r : Fin 4) (qg : FVec F S4x8x256x128 .bf16) : FVec F S8x256x128 .bf16 :=
  shapeCast S8x256x128 (extractStridedSlice S1x8x256x128 ![r.val, 0, 0, 0] qg (slices_query r)) shapeCasts_S1x8x256x128_S8x256x128

/-- The scores of residue `r` against one block of keys. -/
def score (r : Fin 4) (qg : FVec F S4x8x256x128 .bf16) (k : FVec F S1024x8x128 .bf16) : FVec F S8x256x256 .f32 :=
  matmul dot_S8x256x128_S8x256x128_S8x256x256_2_2_1_1_0_0 none (query r qg) (group r k) (constant S8x256x256 .f32 0x00000000#32)

/-- The running state of one residue: maximum, denominator, numerator. -/
structure St (F : FTy → Type) [FloatOps F] where
  m : FVec F S8x256 .f32
  l : FVec F S8x256 .f32
  acc : FVec F S8x256x128 .f32

/-- The state before the first block. -/
def st0 : St F :=
  ⟨broadcast S8x256 (Scalar.ofBits .f32 0xF149F2CA#32), broadcast S8x256 (Scalar.ofBits .f32 0x00000000#32),
    broadcast S8x256x128 (Scalar.ofBits .f32 0x00000000#32)⟩

/-- The maximum after a block with scores `s`. -/
def newMax (s : FVec F S8x256x256 .f32) (m : FVec F S8x256 .f32) : FVec F S8x256 .f32 :=
  maximumf m (multiReduction .maximumf [2] S8x256 s 0xFF800000#32 reduces_S8x256x256_S8x256 (.inl rfl) rfl)

/-- The factor that takes what was gathered under the old maximum to the new one. -/
def decay (s : FVec F S8x256x256 .f32) (m : FVec F S8x256 .f32) : FVec F S8x256 .f32 := exp (subf m (newMax s m))

/-- The block's weights under the new maximum. -/
def weight (s : FVec F S8x256x256 .f32) (m : FVec F S8x256 .f32) : FVec F S8x256x256 .f32 :=
  exp (subf s (broadcastTo S8x256x256 (shapeCast S8x256x1 (newMax s m) shapeCasts_S8x256_S8x256x1) broadcasts_S8x256x1_S8x256x256))

/-- One block folded into one residue's state. -/
def upd (s : FVec F S8x256x256 .f32) (v : FVec F S8x256x128 .bf16) (a : St F) : St F :=
  ⟨newMax s a.m,
   addf (mulf a.l (decay s a.m)) (multiReduction .add [2] S8x256 (weight s a.m) 0x00000000#32 reduces_S8x256x256_S8x256 (.inl rfl) rfl),
   addf (mulf a.acc (broadcastTo S8x256x128 (shapeCast S8x256x1 (decay s a.m) shapeCasts_S8x256_S8x256x1) broadcasts_S8x256x1_S8x256x128))
    (matmul dot_S8x256x256_S8x256x128_S8x256x128_2_1_1_2_0_0 none (truncf .bf16 (weight s a.m) bitsLt_bf16_f32) v
      (constant S8x256x128 .f32 0x00000000#32))⟩

/-- One block folded into residue `r`'s state, from the block's keys and values. -/
def upd4 (qg : FVec F S4x8x256x128 .bf16) (k v : FVec F S1024x8x128 .bf16) (r : Fin 4) (a : St F) : St F :=
  upd (score r qg k) (group r v) a

/-- Slab `g` of a residue's normalised context, rows first. -/
def slab (g : Fin 4) (a : St F) : FVec F S64x8x128 .f32 :=
  shapeCast S64x8x128
    (transpose S64x8x128 [1, 0, 2]
      (extractStridedSlice S8x64x128 ![0, 64 * g.val, 0]
        (divf a.acc (broadcastTo S8x256x128 (shapeCast S8x256x1 a.l shapeCasts_S8x256_S8x256x1) broadcasts_S8x256x1_S8x256x128)) (slices_slab g))
      transposes_S8x64x128_p1_0_2_S64x8x128)
    shapeCasts_S64x8x128_S64x8x128

end Cert.KernelIdeal.Att

end
-- ==== Proof.Raw.lean ====
module

public import proofs.«01_k».proof.Proof.Softmax

@[expose] public section

noncomputable section

/-! The printed payloads of each block are the uniform step. -/

namespace Cert.KernelIdeal.Att

open Idealize.ShloMosaic Idealize.SL.Sem
open Cert.KernelIdeal Cert.KernelIdeal.Gen

variable {F : FTy → Type} [FloatOps F]

/-- The states of the four residues. -/
abbrev Sts (F : FTy → Type) [FloatOps F] := Fin 4 → St F

/-- Four states by residue. -/
def mk4 (a b c d : St F) : Sts F
  | 0 => a | 1 => b | 2 => c | 3 => d

/-- One block folded into the four states. -/
def fold4 (qg : FVec F S4x8x256x128 .bf16) (k v : FVec F S1024x8x128 .bf16) (s : Sts F) : Sts F :=
  mk4 (upd4 qg k v 0 (s 0)) (upd4 qg k v 1 (s 1)) (upd4 qg k v 2 (s 2)) (upd4 qg k v 3 (s 3))

/-- What goes on from the four states, each given by its three values. -/
abbrev Cont (F : FTy → Type) [FloatOps F] (β : Type 1) :=
  FVec F S8x256 .f32 → FVec F S8x256 .f32 → FVec F S8x256x128 .f32 → FVec F S8x256 .f32 → FVec F S8x256 .f32 → FVec F S8x256x128 .f32 →
  FVec F S8x256 .f32 → FVec F S8x256 .f32 → FVec F S8x256x128 .f32 → FVec F S8x256 .f32 → FVec F S8x256 .f32 → FVec F S8x256x128 .f32 → β

/-- Go on from four states. -/
def goOn {β : Type 1} (f : Cont F β) (s : Sts F) : β :=
  f (s 0).m (s 0).l (s 0).acc (s 1).m (s 1).l (s 1).acc (s 2).m (s 2).l (s 2).acc (s 3).m (s 3).l (s 3).acc

/-- A zero accumulator. -/
abbrev zAcc : FVec F S8x256x128 .f32 := constant S8x256x128 .f32 0x00000000#32

/-- The four states before the first block, as printed. -/
def rawInit {β : Type 1} (f : Cont F β) : β :=
  f k0_pay16 k0_pay20 k0_pay24 k0_pay17 k0_pay21 k0_pay25 k0_pay18 k0_pay22 k0_pay26 k0_pay19 k0_pay23 k0_pay27

/-- The device's own block, as printed. -/
def rawOwn (qg : FVec F S4x8x256x128 .bf16) (kf vf : Vec F S1024x8x128 .f32)
    (m0 l0 : FVec F S8x256 .f32) (a0 : FVec F S8x256x128 .f32) (m1 l1 : FVec F S8x256 .f32) (a1 : FVec F S8x256x128 .f32)
    (m2 l2 : FVec F S8x256 .f32) (a2 : FVec F S8x256x128 .f32) (m3 l3 : FVec F S8x256 .f32) (a3 : FVec F S8x256x128 .f32) {β : Type 1} (f : Cont F β) : β :=
  f
    (k0_pay32 qg m0 kf) (k0_pay35 qg m0 l0 kf) (k0_pay37 a0 (k0_pay30 vf) (k0_pay33 qg m0 kf) (k0_pay36 qg m0 kf) zAcc)
    (k0_pay39 qg m1 (k0_pay28 kf)) (k0_pay42 qg m1 l1 (k0_pay28 kf)) (k0_pay43 qg m1 a1 (k0_pay28 kf) (k0_pay29 vf))
    (k0_pay46 qg m2 (k0_pay28 kf)) (k0_pay50 l2 (k0_pay45 qg (k0_pay28 kf)) (k0_pay47 qg m2 (k0_pay28 kf)) (k0_pay48 qg m2 (k0_pay28 kf))) (k0_pay51 a2 (k0_pay44 (k0_pay29 vf)) (k0_pay45 qg (k0_pay28 kf)) (k0_pay47 qg m2 (k0_pay28 kf)) (k0_pay48 qg m2 (k0_pay28 kf)))
    (k0_pay53 qg m3 (k0_pay28 kf)) (k0_pay56 qg m3 l3 (k0_pay28 kf)) (k0_pay57 qg m3 a3 (k0_pay28 kf) (k0_pay29 vf))

/-- The block of each hop, as printed. -/
def rawHop (qg : FVec F S4x8x256x128 .bf16) (k v : FVec F S1024x8x128 .bf16)
    (m0 l0 : FVec F S8x256 .f32) (a0 : FVec F S8x256x128 .f32) (m1 l1 : FVec F S8x256 .f32) (a1 : FVec F S8x256x128 .f32)
    (m2 l2 : FVec F S8x256 .f32) (a2 : FVec F S8x256x128 .f32) (m3 l3 : FVec F S8x256 .f32) (a3 : FVec F S8x256x128 .f32) {β : Type 1} (f : Cont F β) : Fin 7 → β
  | 0 => f
    (k0_pay59 qg m0 k) (k0_pay62 qg m0 l0 k) (k0_pay63 qg m0 a0 k v)
    (k0_pay66 m1 (k0_pay65 qg k)) (k0_pay69 m1 l1 (k0_pay65 qg k)) (k0_pay70 m1 a1 (k0_pay64 v) (k0_pay65 qg k))
    (k0_pay72 qg m2 k) (k0_pay75 qg m2 l2 k) (k0_pay76 qg m2 a2 k v)
    (k0_pay80 qg m3 (k0_pay77 k)) (k0_pay83 qg m3 l3 (k0_pay77 k)) (k0_pay84 qg m3 a3 (k0_pay77 k) (k0_pay78 v))
  | 1 => f
    (k0_pay88 qg m0 (k0_pay85 k)) (k0_pay91 qg m0 l0 (k0_pay85 k)) (k0_pay92 qg m0 a0 (k0_pay85 k) (k0_pay86 v))
    (k0_pay94 qg m1 k) (k0_pay97 qg m1 l1 k) (k0_pay98 qg m1 a1 k v)
    (k0_pay101 qg m2 (k0_pay99 k)) (k0_pay104 qg m2 l2 (k0_pay99 k)) (k0_pay105 qg m2 a2 v (k0_pay99 k))
    (k0_pay108 qg m3 k) (k0_pay111 qg m3 l3 k) (k0_pay112 a3 (k0_pay106 v) (k0_pay109 qg m3 k) (k0_pay110 qg m3 k))
  | 2 => f
    (k0_pay115 qg m0 k) (k0_pay118 qg m0 l0 k) (k0_pay120 a0 (k0_pay113 v) (k0_pay116 qg m0 k) (k0_pay119 qg m0 k) zAcc)
    (k0_pay122 qg m1 k) (k0_pay125 qg m1 l1 k) (k0_pay126 qg m1 a1 k v)
    (k0_pay129 qg m2 k) (k0_pay133 l2 (k0_pay128 qg k) (k0_pay130 qg m2 k) (k0_pay131 qg m2 k)) (k0_pay134 a2 (k0_pay127 v) (k0_pay128 qg k) (k0_pay130 qg m2 k) (k0_pay131 qg m2 k))
    (k0_pay136 qg m3 k) (k0_pay139 qg m3 l3 k) (k0_pay140 qg m3 a3 k v)
  | 3 => f
    (k0_pay142 qg m0 k) (k0_pay145 qg m0 l0 k) (k0_pay146 qg m0 a0 k v)
    (k0_pay149 m1 (k0_pay148 qg k)) (k0_pay152 m1 l1 (k0_pay148 qg k)) (k0_pay153 m1 a1 (k0_pay147 v) (k0_pay148 qg k))
    (k0_pay155 qg m2 k) (k0_pay158 qg m2 l2 k) (k0_pay159 qg m2 a2 k v)
    (k0_pay163 qg m3 (k0_pay160 k)) (k0_pay166 qg m3 l3 (k0_pay160 k)) (k0_pay167 qg m3 a3 (k0_pay160 k) (k0_pay161 v))
  | 4 => f
    (k0_pay171 qg m0 (k0_pay168 k)) (k0_pay174 qg m0 l0 (k0_pay168 k)) (k0_pay175 qg m0 a0 (k0_pay168 k) (k0_pay169 v))
    (k0_pay177 qg m1 k) (k0_pay180 qg m1 l1 k) (k0_pay181 qg m1 a1 k v)
    (k0_pay184 qg m2 (k0_pay182 k)) (k0_pay187 qg m2 l2 (k0_pay182 k)) (k0_pay188 qg m2 a2 v (k0_pay182 k))
    (k0_pay191 qg m3 k) (k0_pay194 qg m3 l3 k) (k0_pay195 a3 (k0_pay189 v) (k0_pay192 qg m3 k) (k0_pay193 qg m3 k))
  | 5 => f
    (k0_pay198 qg m0 k) (k0_pay201 qg m0 l0 k) (k0_pay203 a0 (k0_pay196 v) (k0_pay199 qg m0 k) (k0_pay202 qg m0 k) zAcc)
    (k0_pay205 qg m1 k) (k0_pay208 qg m1 l1 k) (k0_pay209 qg m1 a1 k v)
    (k0_pay212 qg m2 k) (k0_pay216 l2 (k0_pay211 qg k) (k0_pay213 qg m2 k) (k0_pay214 qg m2 k)) (k0_pay217 a2 (k0_pay210 v) (k0_pay211 qg k) (k0_pay213 qg m2 k) (k0_pay214 qg m2 k))
    (k0_pay219 qg m3 k) (k0_pay222 qg m3 l3 k) (k0_pay223 qg m3 a3 k v)
  | 6 => f
    (k0_pay225 qg m0 k) (k0_pay228 qg m0 l0 k) (k0_pay229 qg m0 a0 k v)
    (k0_pay232 m1 (k0_pay231 qg k)) (k0_pay235 m1 l1 (k0_pay231 qg k)) (k0_pay236 m1 a1 (k0_pay230 v) (k0_pay231 qg k))
    (k0_pay238 qg m2 k) (k0_pay241 qg m2 l2 k) (k0_pay242 qg m2 a2 k v)
    (k0_pay246 qg m3 (k0_pay243 k)) (k0_pay249 qg m3 l3 (k0_pay243 k)) (k0_pay250 qg m3 a3 (k0_pay243 k) (k0_pay244 v))

/-- The sixteen slabs, as printed: residue `r`'s are of its denominator and numerator. -/
def rawSlab (l : FVec F S8x256 .f32) (a : FVec F S8x256x128 .f32) : Fin 4 → Fin 4 → FVec F S64x8x128 .f32
  | 0, 0 => k0_pay252 l a | 0, 1 => k0_pay253 l a | 0, 2 => k0_pay254 l a | 0, 3 => k0_pay256 (k0_pay255 l a)
  | 1, 0 => k0_pay258 l a | 1, 1 => k0_pay259 l a | 1, 2 => k0_pay260 l a | 1, 3 => k0_pay261 l a
  | 2, 0 => k0_pay263 l a | 2, 1 => k0_pay265 (k0_pay264 l a) | 2, 2 => k0_pay266 (k0_pay262 l a) | 2, 3 => k0_pay267 (k0_pay262 l a)
  | 3, 0 => k0_pay269 l a | 3, 1 => k0_pay270 l a | 3, 2 => k0_pay271 l a | 3, 3 => k0_pay273 (k0_pay272 l a)

/-- The printed start is the uniform start. -/
theorem rawInit_eq {β : Type 1} (f : Cont F β) : rawInit f = goOn f fun _ => st0 := rfl

/-- The printed own block is the uniform step. -/
theorem rawOwn_eq (qg : FVec F S4x8x256x128 .bf16) (kf vf : Vec F S1024x8x128 .f32) {β : Type 1} (f : Cont F β) (s : Sts F) :
    goOn (fun m0 l0 a0 m1 l1 a1 m2 l2 a2 m3 l3 a3 => rawOwn qg kf vf m0 l0 a0 m1 l1 a1 m2 l2 a2 m3 l3 a3 f) s
      = goOn f (fold4 qg (k0_pay28 kf) (k0_pay29 vf) s) := rfl

/-- Each hop's printed block is the uniform step. -/
theorem rawHop_eq (qg : FVec F S4x8x256x128 .bf16) (k v : FVec F S1024x8x128 .bf16) {β : Type 1} (f : Cont F β) (s : Sts F) (r : Fin 7) :
    goOn (fun m0 l0 a0 m1 l1 a1 m2 l2 a2 m3 l3 a3 => rawHop qg k v m0 l0 a0 m1 l1 a1 m2 l2 a2 m3 l3 a3 f r) s
      = goOn f (fold4 qg k v s) := by
  fin_cases r <;> rfl

/-- Each printed slab is the uniform slab. -/
theorem rawSlab_eq (a : St F) (r g : Fin 4) : rawSlab a.l a.acc r g = slab g a := by
  fin_cases r <;> fin_cases g <;> rfl

end Cert.KernelIdeal.Att

end
-- ==== Proof.Body.lean ====
module

public import proofs.«01_k».proof.Proof.Raw
public import proofs.«01_k».proof.Proof.Gen.KernelIdeal.Frame

@[expose] public section

set_option maxRecDepth 65536

noncomputable section

/-! The kernel's body in steps: each step's hop `r : Fin 7` is a variable. -/

namespace Cert.KernelIdeal.Att

open Idealize.ShloMosaic Idealize.SL.Sem
open Cert.KernelIdeal Cert.KernelIdeal.Gen

variable {F : FTy → Type} [FloatOps F]

/-- The programs that the body is made of. -/
abbrev Prg (F : FTy → Type) [FloatOps F] (α : Type) := Prog (TpuEff nD τ sig (Elt F) Λ₀ .tc) α

/-- The hop as the word the kernel computes with. -/
abbrev hopW (r : Fin 7) : BitVec 32 := BitVec.ofNat 32 (1 + r.val)

/-- One of the two operands that travel round the devices: its buffers and its semaphores. -/
structure Lane where
  src : Memref sig .tc .hbm S1x1024x64x128 .f32
  ld : Memref sig .tc .vmem S1024x8x128 .f32
  hld : ld.IsWhole
  c16 : Memref sig .tc .vmem S1024x8x128 .bf16
  hc16 : c16.IsWhole
  stg : Memref sig .tc .hbm S7x1024x8x128 .bf16
  hstg : stg.IsWhole
  hbm : Memref sig .tc .hbm S8x1024x8x128 .bf16
  hhbm : hbm.IsWhole
  buf : Memref sig .tc .vmem S1024x8x128 .bf16
  hbuf : buf.IsWhole
  sIn : DmaSem sig
  sOut : DmaSem sig
  sSend : DmaSems sig S8
  sRecv : DmaSems sig S8

/-- The keys (`false`) and the values (`true`). -/
def lane : Bool → Lane
  | false => ⟨Memref.whole main_arg2, Memref.whole cc0_scratch0, Memref.isWhole_whole _, Memref.whole cc0_scratch2, Memref.isWhole_whole _,
      Memref.whole main_v3_3, Memref.isWhole_whole _, Memref.whole main_v3_1, Memref.isWhole_whole _, Memref.whole cc0_scratch4, Memref.isWhole_whole _,
      cc0_scratch15.sem, cc0_scratch16.sem, cc0_scratch7, cc0_scratch8⟩
  | true => ⟨Memref.whole main_arg3, Memref.whole cc0_scratch1, Memref.isWhole_whole _, Memref.whole cc0_scratch3, Memref.isWhole_whole _,
      Memref.whole main_v3_4, Memref.isWhole_whole _, Memref.whole main_v3_2, Memref.isWhole_whole _, Memref.whole cc0_scratch5, Memref.isWhole_whole _,
      cc0_scratch17.sem, cc0_scratch18.sem, cc0_scratch9, cc0_scratch10⟩

/-- The heads at an offset of a source. -/
abbrev headsAt (m : Memref sig .tc .hbm S1x1024x64x128 .f32) (o : Fin 4 → ℕ) (h : ∀ a, o a + S1x1024x8x128.size a ≤ S1x1024x64x128.size a) :
    Memref sig .tc .hbm S1024x8x128 .f32 :=
  (m.slice (Rect.unit (s := S1x1024x64x128) o S1x1024x8x128.size h) (fun _ => rfl)).squeeze S1024x8x128 squeezes_S1x1024x8x128_S1024x8x128

/-- The slot at an offset of a gathered operand. -/
abbrev slotAt (m : Memref sig .tc .hbm S8x1024x8x128 .bf16) (o : Fin 4 → ℕ) (h : ∀ a, o a + S1x1024x8x128.size a ≤ S8x1024x8x128.size a) :
    Memref sig .tc .hbm S1024x8x128 .bf16 :=
  (m.slice (Rect.unit (s := S8x1024x8x128) o S1x1024x8x128.size h) (fun _ => rfl)).squeeze S1024x8x128 squeezes_S1x1024x8x128_S1024x8x128

/-- Staging slot `r` is in bounds. -/
theorem inb_stage (r : Fin 7) : ∀ a, (![r.val, 0, 0, 0] : Fin 4 → ℕ) a + S1x1024x8x128.size a ≤ S7x1024x8x128.size a := by revert r; decide

/-- Staging slot `r` is made of whole words. -/
theorem words_stage (r : Fin 7) : (Rect.unit (s := S7x1024x8x128) ![r.val, 0, 0, 0] S1x1024x8x128.size (inb_stage r)).WholeWords (EltTy.packing .bf16) := by
  revert r; decide

/-- Staging slot `r`. -/
abbrev stageAt (m : Memref sig .tc .hbm S7x1024x8x128 .bf16) (r : Fin 7) : Memref sig .tc .hbm S1024x8x128 .bf16 :=
  (m.slice (Rect.unit (s := S7x1024x8x128) ![r.val, 0, 0, 0] S1x1024x8x128.size (inb_stage r)) (fun _ => rfl)).squeeze S1024x8x128 squeezes_S1x1024x8x128_S1024x8x128

/-- The slot at an offset of the gathered partial sums. -/
abbrev rslotAt (m : Memref sig .tc .vmem S8x128x8x128 .bf16) (o : Fin 4 → ℕ) (h : ∀ a, o a + S1x128x8x128.size a ≤ S8x128x8x128.size a) :
    Memref sig .tc .vmem S128x8x128 .bf16 :=
  (m.slice (Rect.unit (s := S8x128x8x128) o S1x128x8x128.size h) (fun _ => rfl)).squeeze S128x8x128 squeezes_S1x128x8x128_S128x8x128

/-- The row block at an offset. -/
abbrev rowsAt (m : Memref sig .tc .vmem S1024x8x128 .bf16) (o : Fin 3 → ℕ) (h : ∀ a, o a + S128x8x128.size a ≤ S1024x8x128.size a) :
    Memref sig .tc .vmem S128x8x128 .bf16 :=
  m.slice (Rect.unit (s := S1024x8x128) o S128x8x128.size h) (fun _ => rfl)

/-- The semaphore at an offset of an array of eight. -/
abbrev semAt (a : DmaSems sig S8) (o : Fin 1 → ℕ) (h : ∀ i, o i + S1.size i ≤ S8.size i) : DmaSem sig :=
  ((a.slice (Rect.unit (s := S8) o S1.size h)).squeeze S_ squeezes_S1_S_).sem

/-- The whole rectangle of a 1024×8×128 buffer. -/
abbrev allRect : Rect S1024x8x128 := Rect.unit (s := S1024x8x128) ![0, 0, 0] S1024x8x128.size inb_S1024x8x128_S1024x8x128_0_0_0

/-- Read a whole buffer. -/
def loadAll {e : EltTy} (m : Memref sig .tc .vmem S1024x8x128 e) : Prg F (Vec F S1024x8x128 e) :=
  Prog.lift (.load m allRect.toLoadRect (View.loadsAt_vmem h_S1024x8x128))

/-- Overwrite a whole bf16 buffer. -/
def storeAll (m : Memref sig .tc .vmem S1024x8x128 .bf16) (hm : m.IsWhole) (w : FVec F S1024x8x128 .bf16) : Prg F PUnit :=
  Prog.lift (.store m allRect w Finset.univ (View.stores_vmem h_S1024x8x128 (hm.storeExact_slice rfl _ packedbf16_S1024x8x128_S1024x8x128_0_0_0) (fun _ => rfl)) (.inl rfl))

/-- One hop of a lane: fetch the heads, round them, stage them, send them to the peer. -/
def hopSend (L : Lane) (pay : Vec F S1024x8x128 .f32 → FVec F S1024x8x128 .bf16) (d0 : Dev nD) (r : Fin 7) (dev : Dev nD) : Prg F PUnit := do
  Prog.lift (.enqueueDma (headsAt L.src (k0_off1 d0 (hopW r)) (k0_off1_inb d0 r)) (.here L.ld) (.dma L.sIn) ((View.wordExact_bits rfl).reshape _ _) L.hld.wordExact ⟨Or.inl rfl, trivial⟩)
  Prog.lift (.waitDma2 L.sIn (headsAt L.src (k0_off1 d0 (hopW r)) (k0_off1_inb d0 r)) L.ld ((View.wordExact_bits rfl).reshape _ _) L.hld.wordExact)
  let v ← loadAll L.ld
  let _ ← loadAll (F := F) L.c16
  storeAll L.c16 L.hc16 (pay v)
  Prog.lift (.enqueueDma L.c16 (.here (stageAt L.stg r)) (.dma L.sOut) L.hc16.wordExact ((L.hstg.wordExact_slice rfl _ (words_stage r)).reshape _ _) ⟨Or.inl rfl, trivial⟩)
  Prog.lift (.waitDma2 L.sOut L.c16 (stageAt L.stg r) L.hc16.wordExact ((L.hstg.wordExact_slice rfl _ (words_stage r)).reshape _ _))
  Prog.lift (.enqueueDma (stageAt L.stg r) (.remote (Dev.tc dev) (slotAt L.hbm (k0_off4 d0) (k0_off4_inb d0)) (.dma (semAt L.sSend (k0_off2 d0 (hopW r)) (k0_off2_inb d0 r))))
    (.dma (semAt L.sRecv (k0_off3 d0) (k0_off3_inb d0))) ((L.hstg.wordExact_slice rfl _ (words_stage r)).reshape _ _)
    ((L.hhbm.wordExact_slice rfl _ (k0_off4_wordsbf16 d0)).reshape _ _) ⟨⟨rfl, Or.inl rfl⟩, trivial⟩)

/-- One hop of a lane: wait for the peer's block and bring it in. -/
def hopRecv (L : Lane) (d0 : Dev nD) (r : Fin 7) : Prg F PUnit := do
  Prog.lift (.waitDma2 (semAt L.sRecv (k0_off6 d0 (hopW r)) (k0_off6_inb d0 r)) (slotAt L.hbm (k0_off7 d0 (hopW r)) (k0_off7_inb d0 r)) (slotAt L.hbm (k0_off7 d0 (hopW r)) (k0_off7_inb d0 r))
    ((L.hhbm.wordExact_slice rfl _ (k0_off7_wordsbf16 d0 r)).reshape _ _) ((L.hhbm.wordExact_slice rfl _ (k0_off7_wordsbf16 d0 r)).reshape _ _))
  Prog.lift (.enqueueDma (slotAt L.hbm (k0_off7 d0 (hopW r)) (k0_off7_inb d0 r)) (.here L.buf) (.dma L.sIn) ((L.hhbm.wordExact_slice rfl _ (k0_off7_wordsbf16 d0 r)).reshape _ _) L.hbuf.wordExact ⟨Or.inl rfl, trivial⟩)
  Prog.lift (.waitDma2 L.sIn (slotAt L.hbm (k0_off7 d0 (hopW r)) (k0_off7_inb d0 r)) L.buf ((L.hhbm.wordExact_slice rfl _ (k0_off7_wordsbf16 d0 r)).reshape _ _) L.hbuf.wordExact)

/-- One hop of a lane: wait until the peer's copy has left. -/
def hopDone (L : Lane) (d0 : Dev nD) (r : Fin 7) : Prg F PUnit :=
  Prog.lift (.waitDma2 (semAt L.sSend (k0_off2 d0 (hopW r)) (k0_off2_inb d0 r)) (slotAt L.hbm (k0_off4 d0) (k0_off4_inb d0)) (stageAt L.stg r)
    ((L.hhbm.wordExact_slice rfl _ (k0_off4_wordsbf16 d0)).reshape _ _) ((L.hstg.wordExact_slice rfl _ (words_stage r)).reshape _ _))

/-- Signal one peer at the entry barrier. -/
def barSig (dev : Dev nD) : Prg F PUnit := semSignalWord dev (SemArray.scalar (sig.barrier 0 rfl) : Sems sig S_).sem 1#32

/-- Wait for all peers at the entry barrier. -/
def barWait : Prg F PUnit := semWaitWord (SemArray.scalar (sig.barrier 0 rfl) : Sems sig S_).sem 7#32

/-- Fetch the queries' two factors. -/
def fetchQ : Prg F PUnit := do
  Prog.lift (.enqueueDma (Memref.whole main_v1) (.here (Memref.whole cc0_scratch0)) (.dma cc0_scratch15.sem) (Memref.isWhole_whole main_v1).wordExact (Memref.isWhole_whole cc0_scratch0).wordExact ⟨Or.inl rfl, trivial⟩)
  Prog.lift (.enqueueDma (Memref.whole main_v2) (.here (Memref.whole cc0_scratch1)) (.dma cc0_scratch17.sem) (Memref.isWhole_whole main_v2).wordExact (Memref.isWhole_whole cc0_scratch1).wordExact ⟨Or.inl rfl, trivial⟩)
  Prog.lift (.waitDma2 cc0_scratch15.sem (Memref.whole main_v1) (Memref.whole cc0_scratch0) (Memref.isWhole_whole main_v1).wordExact (Memref.isWhole_whole cc0_scratch0).wordExact)
  Prog.lift (.waitDma2 cc0_scratch17.sem (Memref.whole main_v2) (Memref.whole cc0_scratch1) (Memref.isWhole_whole main_v2).wordExact (Memref.isWhole_whole cc0_scratch1).wordExact)

/-- Fetch the device's own heads of a lane: start. -/
def ownStart (L : Lane) (d0 : Dev nD) : Prg F PUnit :=
  Prog.lift (.enqueueDma (headsAt L.src (k0_off5 d0) (k0_off5_inb d0)) (.here L.ld) (.dma L.sIn) ((View.wordExact_bits rfl).reshape _ _) L.hld.wordExact ⟨Or.inl rfl, trivial⟩)

/-- Fetch the device's own heads of a lane: finish. -/
def ownDone (L : Lane) (d0 : Dev nD) : Prg F PUnit :=
  Prog.lift (.waitDma2 L.sIn (headsAt L.src (k0_off5 d0) (k0_off5_inb d0)) L.ld ((View.wordExact_bits rfl).reshape _ _) L.hld.wordExact)

/-- Slab `g` of residue `r` is in bounds. -/
theorem inb_slab (r g : Fin 4) : ∀ a, (![256 * g.val + 64 * r.val, 0, 0] : Fin 3 → ℕ) a + S64x8x128.size a ≤ S1024x8x128.size a := by revert r g; decide

/-- The rows of slab `g` of residue `r`. -/
abbrev slabRect (r g : Fin 4) : Rect S1024x8x128 := Rect.unit (s := S1024x8x128) ![256 * g.val + 64 * r.val, 0, 0] S64x8x128.size (inb_slab r g)

/-- Write one slab of the context. -/
def storeSlab (r g : Fin 4) (w : FVec F S64x8x128 .f32) : Prg F PUnit := do
  let _ ← Prog.lift (.load (Memref.whole cc0_scratch0) (slabRect r g).toLoadRect (View.loadsAt_vmem h_S64x8x128))
  Prog.lift (.store (Memref.whole cc0_scratch0) (slabRect r g) w Finset.univ (View.stores_vmem_bits_univ h_S64x8x128 rfl) (.inl rfl))

/-- Write a residue's four slabs. -/
def storeSlabs (l : FVec F S8x256 .f32) (a : FVec F S8x256x128 .f32) (r : Fin 4) : Prg F PUnit := do
  storeSlab r 0 (rawSlab l a r 0); storeSlab r 1 (rawSlab l a r 1); storeSlab r 2 (rawSlab l a r 2); storeSlab r 3 (rawSlab l a r 3)

/-- Send the partial sums of the peer's rows. -/
def sumSend (d0 : Dev nD) (r : Fin 7) (dev : Dev nD) : Prg F PUnit :=
  Prog.lift (.enqueueDma (rowsAt (Memref.whole cc0_scratch2) (k0_off9 d0 (hopW r)) (k0_off9_inb d0 r))
    (.remote (Dev.tc dev) (rslotAt (Memref.whole cc0_scratch6) (k0_off8 d0) (k0_off8_inb d0)) (.dma (semAt cc0_scratch11 (k0_off2 d0 (hopW r)) (k0_off2_inb d0 r))))
    (.dma (semAt cc0_scratch12 (k0_off3 d0) (k0_off3_inb d0)))
    ((Memref.isWhole_whole cc0_scratch2).wordExact_slice rfl _ (k0_off9_wordsbf16 d0 r))
    (((Memref.isWhole_whole cc0_scratch6).wordExact_slice rfl _ (k0_off8_wordsbf16 d0)).reshape _ _) ⟨⟨rfl, Or.inl rfl⟩, trivial⟩)

/-- Wait for a peer's partial sums. -/
def sumRecv (d0 : Dev nD) (r : Fin 7) : Prg F PUnit :=
  Prog.lift (.waitDma2 (semAt cc0_scratch12 (k0_off6 d0 (hopW r)) (k0_off6_inb d0 r))
    (rslotAt (Memref.whole cc0_scratch6) (k0_off11 d0 (hopW r)) (k0_off11_inb d0 r)) (rslotAt (Memref.whole cc0_scratch6) (k0_off11 d0 (hopW r)) (k0_off11_inb d0 r))
    (((Memref.isWhole_whole cc0_scratch6).wordExact_slice rfl _ (k0_off11_wordsbf16 d0 r)).reshape _ _) (((Memref.isWhole_whole cc0_scratch6).wordExact_slice rfl _ (k0_off11_wordsbf16 d0 r)).reshape _ _))

/-- Wait until the partial sums of the peer's rows have left. -/
def sumDone (d0 : Dev nD) (r : Fin 7) : Prg F PUnit :=
  Prog.lift (.waitDma2 (semAt cc0_scratch11 (k0_off2 d0 (hopW r)) (k0_off2_inb d0 r))
    (rslotAt (Memref.whole cc0_scratch6) (k0_off8 d0) (k0_off8_inb d0)) (rowsAt (Memref.whole cc0_scratch2) (k0_off9 d0 (hopW r)) (k0_off9_inb d0 r))
    (((Memref.isWhole_whole cc0_scratch6).wordExact_slice rfl _ (k0_off8_wordsbf16 d0)).reshape _ _) ((Memref.isWhole_whole cc0_scratch2).wordExact_slice rfl _ (k0_off9_wordsbf16 d0 r)))

/-- Clear the device's own slot of the gathered partial sums. -/
def clearOwn (d0 : Dev nD) : Prg F PUnit := do
  let _ ← Prog.lift (.load (Memref.whole cc0_scratch6) (Rect.unit (s := S8x128x8x128) (k0_off10 d0) S1x128x8x128.size (k0_off10_inb d0)).toLoadRect (View.loadsAt_vmem h_S1x128x8x128))
  Prog.lift (.store (Memref.whole cc0_scratch6) (Rect.unit (s := S8x128x8x128) (k0_off10 d0) S1x128x8x128.size (k0_off10_inb d0)) (k0_pay275 (F := F)) Finset.univ
    (View.stores_vmem h_S1x128x8x128 ((Memref.isWhole_whole cc0_scratch6).storeExact_slice rfl _ (k0_off10_packedbf16 d0)) (fun _ => rfl)) (.inl rfl))

/-- Send the device's finished rows. -/
def outSend (d0 : Dev nD) (r : Fin 7) (dev : Dev nD) : Prg F PUnit :=
  Prog.lift (.enqueueDma (rowsAt (Memref.whole cc0_scratch3) (k0_off14 d0) (k0_off14_inb d0))
    (.remote (Dev.tc dev) (rowsAt (Memref.whole cc0_scratch3) (k0_off14 d0) (k0_off14_inb d0)) (.dma (semAt cc0_scratch13 (k0_off2 d0 (hopW r)) (k0_off2_inb d0 r))))
    (.dma (semAt cc0_scratch14 (k0_off3 d0) (k0_off3_inb d0)))
    ((Memref.isWhole_whole cc0_scratch3).wordExact_slice rfl _ (k0_off14_wordsbf16 d0)) ((Memref.isWhole_whole cc0_scratch3).wordExact_slice rfl _ (k0_off14_wordsbf16 d0)) ⟨⟨rfl, Or.inl rfl⟩, trivial⟩)

/-- Wait until the device's finished rows have left. -/
def outDone (d0 : Dev nD) (r : Fin 7) : Prg F PUnit :=
  Prog.lift (.waitDma2 (semAt cc0_scratch13 (k0_off2 d0 (hopW r)) (k0_off2_inb d0 r))
    (rowsAt (Memref.whole cc0_scratch3) (k0_off14 d0) (k0_off14_inb d0)) (rowsAt (Memref.whole cc0_scratch3) (k0_off14 d0) (k0_off14_inb d0))
    ((Memref.isWhole_whole cc0_scratch3).wordExact_slice rfl _ (k0_off14_wordsbf16 d0)) ((Memref.isWhole_whole cc0_scratch3).wordExact_slice rfl _ (k0_off14_wordsbf16 d0)))

/-- Wait for a peer's finished rows and write them out. -/
def outRecv (d0 : Dev nD) (r : Fin 7) : Prg F PUnit := do
  Prog.lift (.waitDma2 (semAt cc0_scratch14 (k0_off6 d0 (hopW r)) (k0_off6_inb d0 r))
    (rowsAt (Memref.whole cc0_scratch3) (k0_off15 d0 (hopW r)) (k0_off15_inb d0 r)) (rowsAt (Memref.whole cc0_scratch3) (k0_off15 d0 (hopW r)) (k0_off15_inb d0 r))
    ((Memref.isWhole_whole cc0_scratch3).wordExact_slice rfl _ (k0_off15_wordsbf16 d0 r)) ((Memref.isWhole_whole cc0_scratch3).wordExact_slice rfl _ (k0_off15_wordsbf16 d0 r)))
  let v ← Prog.lift (.load (Memref.whole cc0_scratch3) (Rect.unit (s := S1024x8x128) (k0_off16 d0 (hopW r)) S128x8x128.size (k0_off16_inb d0 r)).toLoadRect (View.loadsAt_vmem h_S128x8x128))
  let _ ← Prog.lift (.load (Memref.whole cc0_stg1_0) (Rect.unit (s := S1x1024x1024) (k0_off17 d0 (hopW r)) S1x128x1024.size (k0_off17_inb d0 r)).toLoadRect (View.loadsAt_vmem h_S1x128x1024))
  Prog.lift (.store (Memref.whole cc0_stg1_0) (Rect.unit (s := S1x1024x1024) (k0_off17 d0 (hopW r)) S1x128x1024.size (k0_off17_inb d0 r)) (k0_pay279 v) Finset.univ (View.stores_vmem_bits_univ h_S1x128x1024 rfl) (.inl rfl))

/-- Add up the device's rows, write them out and round them for the peers. -/
def outOwn (d0 : Dev nD) : Prg F PUnit := do
  let p ← Prog.lift (.load (Memref.whole cc0_scratch2) (Rect.unit (s := S1024x8x128) (k0_off12 d0) S128x8x128.size (k0_off12_inb d0)).toLoadRect (View.loadsAt_vmem h_S128x8x128))
  let q ← Prog.lift (.load (Memref.whole cc0_scratch6) (Rect.unit (s := S8x128x8x128) ![0, 0, 0, 0] S8x128x8x128.size inb_S8x128x8x128_S8x128x8x128_0_0_0_0).toLoadRect (View.loadsAt_vmem h_S8x128x8x128))
  let _ ← Prog.lift (.load (Memref.whole cc0_stg1_0) (Rect.unit (s := S1x1024x1024) (k0_off13 d0) S1x128x1024.size (k0_off13_inb d0)).toLoadRect (View.loadsAt_vmem h_S1x128x1024))
  Prog.lift (.store (Memref.whole cc0_stg1_0) (Rect.unit (s := S1x1024x1024) (k0_off13 d0) S1x128x1024.size (k0_off13_inb d0)) (k0_pay277 p q) Finset.univ (View.stores_vmem_bits_univ h_S1x128x1024 rfl) (.inl rfl))
  let _ ← Prog.lift (.load (Memref.whole cc0_scratch3) (Rect.unit (s := S1024x8x128) (k0_off12 d0) S128x8x128.size (k0_off12_inb d0)).toLoadRect (View.loadsAt_vmem h_S128x8x128))
  Prog.lift (.store (Memref.whole cc0_scratch3) (Rect.unit (s := S1024x8x128) (k0_off12 d0) S128x8x128.size (k0_off12_inb d0)) (k0_pay278 p q) Finset.univ
    (View.stores_vmem h_S128x8x128 ((Memref.isWhole_whole cc0_scratch3).storeExact_slice rfl _ (k0_off12_packedbf16 d0)) (fun _ => rfl)) (.inl rfl))

/-- The device the kernel signals at hop `r`. -/
def devB : Fin 7 → Dev nD → Dev nD
  | 0, d0 => ⟨k0_dev1 d0, k0_dev1_lt d0⟩ | 1, d0 => ⟨k0_dev2 d0, k0_dev2_lt d0⟩ | 2, d0 => ⟨k0_dev3 d0, k0_dev3_lt d0⟩ | 3, d0 => ⟨k0_dev4 d0, k0_dev4_lt d0⟩
  | 4, d0 => ⟨k0_dev5 d0, k0_dev5_lt d0⟩ | 5, d0 => ⟨k0_dev6 d0, k0_dev6_lt d0⟩ | 6, d0 => ⟨k0_dev7 d0, k0_dev7_lt d0⟩

/-- The device the keys go to at hop `r`. -/
def devK : Fin 7 → Dev nD → Dev nD
  | 0, d0 => ⟨k0_dev8 d0, k0_dev8_lt d0⟩ | 1, d0 => ⟨k0_dev10 d0, k0_dev10_lt d0⟩ | 2, d0 => ⟨k0_dev12 d0, k0_dev12_lt d0⟩ | 3, d0 => ⟨k0_dev14 d0, k0_dev14_lt d0⟩
  | 4, d0 => ⟨k0_dev16 d0, k0_dev16_lt d0⟩ | 5, d0 => ⟨k0_dev18 d0, k0_dev18_lt d0⟩ | 6, d0 => ⟨k0_dev20 d0, k0_dev20_lt d0⟩

/-- The device the values go to at hop `r`. -/
def devV : Fin 7 → Dev nD → Dev nD
  | 0, d0 => ⟨k0_dev9 d0, k0_dev9_lt d0⟩ | 1, d0 => ⟨k0_dev11 d0, k0_dev11_lt d0⟩ | 2, d0 => ⟨k0_dev13 d0, k0_dev13_lt d0⟩ | 3, d0 => ⟨k0_dev15 d0, k0_dev15_lt d0⟩
  | 4, d0 => ⟨k0_dev17 d0, k0_dev17_lt d0⟩ | 5, d0 => ⟨k0_dev19 d0, k0_dev19_lt d0⟩ | 6, d0 => ⟨k0_dev21 d0, k0_dev21_lt d0⟩

/-- The device the partial sums go to at hop `r`. -/
def devR : Fin 7 → Dev nD → Dev nD
  | 0, d0 => ⟨k0_dev22 d0, k0_dev22_lt d0⟩ | 1, d0 => ⟨k0_dev23 d0, k0_dev23_lt d0⟩ | 2, d0 => ⟨k0_dev24 d0, k0_dev24_lt d0⟩ | 3, d0 => ⟨k0_dev25 d0, k0_dev25_lt d0⟩
  | 4, d0 => ⟨k0_dev26 d0, k0_dev26_lt d0⟩ | 5, d0 => ⟨k0_dev27 d0, k0_dev27_lt d0⟩ | 6, d0 => ⟨k0_dev28 d0, k0_dev28_lt d0⟩

/-- The device the finished rows go to at hop `r`. -/
def devA : Fin 7 → Dev nD → Dev nD
  | 0, d0 => ⟨k0_dev29 d0, k0_dev29_lt d0⟩ | 1, d0 => ⟨k0_dev30 d0, k0_dev30_lt d0⟩ | 2, d0 => ⟨k0_dev31 d0, k0_dev31_lt d0⟩ | 3, d0 => ⟨k0_dev32 d0, k0_dev32_lt d0⟩
  | 4, d0 => ⟨k0_dev33 d0, k0_dev33_lt d0⟩ | 5, d0 => ⟨k0_dev34 d0, k0_dev34_lt d0⟩ | 6, d0 => ⟨k0_dev35 d0, k0_dev35_lt d0⟩

/-- A step for each of the seven hops, in order. -/
def hops (f : Fin 7 → Prg F PUnit) : Prg F PUnit := do f 0; f 1; f 2; f 3; f 4; f 5; f 6

/-- One hop's block folded into the four states. -/
def hopFold (qg : FVec F S4x8x256x128 .bf16) (d0 : Dev nD) (r : Fin 7) (f : Cont F (Prg F PUnit))
    (m0 l0 : FVec F S8x256 .f32) (a0 : FVec F S8x256x128 .f32) (m1 l1 : FVec F S8x256 .f32) (a1 : FVec F S8x256x128 .f32)
    (m2 l2 : FVec F S8x256 .f32) (a2 : FVec F S8x256x128 .f32) (m3 l3 : FVec F S8x256 .f32) (a3 : FVec F S8x256x128 .f32) : Prg F PUnit := do
  hopRecv (lane false) d0 r
  hopRecv (lane true) d0 r
  let k ← loadAll (lane false).buf
  let v ← loadAll (lane true).buf
  rawHop qg k v m0 l0 a0 m1 l1 a1 m2 l2 a2 m3 l3 a3 f r

/-- Before the attention: barrier and sends. -/
def phaseSend (d0 : Dev nD) : Prg F PUnit := do
  hops fun r => barSig (devB r d0)
  barWait
  hops fun r => do
    hopSend (lane false) k0_pay1 d0 r (devK r d0)
    hopSend (lane true) k0_pay1 d0 r (devV r d0)

/-- The attention: the queries and the device's own block, then a block for each hop. -/
def phaseAtt (d0 : Dev nD) (f : Cont F (Prg F PUnit)) : Prg F PUnit := do
  fetchQ
  let x ← loadAll (lane false).ld
  let w ← loadAll (lane true).ld
  ownStart (lane false) d0
  ownStart (lane true) d0
  ownDone (lane false) d0
  ownDone (lane true) d0
  let k ← loadAll (lane false).ld
  let v ← loadAll (lane true).ld
  rawInit fun m0 l0 a0 m1 l1 a1 m2 l2 a2 m3 l3 a3 => rawOwn (k0_pay15 x w) k v m0 l0 a0 m1 l1 a1 m2 l2 a2 m3 l3 a3
    (hopFold (k0_pay15 x w) d0 0 <| hopFold (k0_pay15 x w) d0 1 <| hopFold (k0_pay15 x w) d0 2 <| hopFold (k0_pay15 x w) d0 3
      <| hopFold (k0_pay15 x w) d0 4 <| hopFold (k0_pay15 x w) d0 5 <| hopFold (k0_pay15 x w) d0 6 f)

/-- The projection: the device's partial sums. -/
def phaseProj (m0 l0 : FVec F S8x256 .f32) (a0 : FVec F S8x256x128 .f32) (m1 l1 : FVec F S8x256 .f32) (a1 : FVec F S8x256x128 .f32)
    (m2 l2 : FVec F S8x256 .f32) (a2 : FVec F S8x256x128 .f32) (m3 l3 : FVec F S8x256 .f32) (a3 : FVec F S8x256x128 .f32) : Prg F PUnit := do
  storeSlabs l0 a0 0; storeSlabs l1 a1 1; storeSlabs l2 a2 2; storeSlabs l3 a3 3
  let c ← loadAll (Memref.whole cc0_scratch0)
  let w ← Prog.lift (.load (Memref.whole cc0_stg0_0) (Rect.unit (s := S1024x1024) ![0, 0] S1024x1024.size inb_S1024x1024_S1024x1024_0_0).toLoadRect (View.loadsAt_vmem h_S1024x1024))
  let _ ← loadAll (F := F) (Memref.whole cc0_scratch2)
  storeAll (Memref.whole cc0_scratch2) (Memref.isWhole_whole cc0_scratch2) (k0_pay274 c w)

/-- The exchange of partial sums and finished rows. -/
def phaseSum (d0 : Dev nD) : Prg F PUnit := do
  hops fun r => sumSend d0 r (devR r d0)
  clearOwn d0
  hops fun r => sumRecv d0 r
  outOwn d0
  hops fun r => outSend d0 r (devA r d0)
  hops fun r => outRecv d0 r
  hops fun r => do
    hopDone (lane false) d0 r
    hopDone (lane true) d0 r
  hops fun r => sumDone d0 r
  hops fun r => outDone d0 r

/-- The whole body. -/
def body : Prg F PUnit := do
  let d0 : Dev nD ← Prog.lift .deviceId
  phaseSend d0
  phaseAtt d0 phaseProj
  phaseSum d0

end Cert.KernelIdeal.Att

end
-- ==== Proof.Geom.lean ====
module

public import proofs.«01_k».proof.Proof.Body

@[expose] public section

set_option maxRecDepth 65536

noncomputable section

/-! Who talks to whom: the peers of a device, and the closed forms of the kernel's addresses. -/

namespace Cert.KernelIdeal.Att

open Idealize.ShloMosaic Idealize.SL.Sem
open Cert.KernelIdeal Cert.KernelIdeal.Gen

variable {F : FTy → Type} [FloatOps F]

/-- The device that `c` sends to at hop `r`. -/
def nx (r : Fin 7) (c : Dev nD) : Dev nD := ⟨(c.val + (r.val + 1)) % 8, Nat.mod_lt _ (by decide)⟩
/-- The device that `c` hears from at hop `r`. -/
def pv (r : Fin 7) (c : Dev nD) : Dev nD := ⟨(c.val + (7 - r.val)) % 8, Nat.mod_lt _ (by decide)⟩
/-- The hop that leads back. -/
def rv (r : Fin 7) : Fin 7 := ⟨6 - r.val, by omega⟩

theorem nx_pv (r : Fin 7) (c : Dev nD) : nx r (pv r c) = c := by revert r c; decide
theorem pv_nx (r : Fin 7) (c : Dev nD) : pv r (nx r c) = c := by revert r c; decide
theorem nx_rv (r : Fin 7) (c : Dev nD) : nx (rv r) c = pv r c := by revert r c; decide
theorem pv_rv (r : Fin 7) (c : Dev nD) : pv (rv r) c = nx r c := by revert r c; decide
theorem nx_rv_nx (r : Fin 7) (c : Dev nD) : nx (rv r) (nx r c) = c := by revert r c; decide
theorem rv_rv (r : Fin 7) : rv (rv r) = r := by revert r; decide
theorem nx_ne (r : Fin 7) (c : Dev nD) : nx r c ≠ c := by revert r c; decide
theorem pv_ne (r : Fin 7) (c : Dev nD) : pv r c ≠ c := by revert r c; decide
theorem nx_inj (c : Dev nD) : Function.Injective fun r => nx r c := by revert c; decide
theorem pv_inj (c : Dev nD) : Function.Injective fun r => pv r c := by revert c; decide

/-- The hop at which `c` sends to `e`. -/
def hopTo (c e : Dev nD) : Fin 7 := ⟨(e.val + (7 - c.val)) % 8 % 7, Nat.mod_lt _ (by decide)⟩
theorem hopTo_nx (r : Fin 7) (c : Dev nD) : hopTo c (nx r c) = r := by revert r c; decide

/-! The addresses. -/

set_option maxHeartbeats 4000000 in
theorem off1_eq (c : Dev nD) (r : Fin 7) : k0_off1 c (hopW r) = ![0, 0, 8 * (nx r c).val, 0] := by revert c r; decide +kernel
theorem off2_eq (c : Dev nD) (r : Fin 7) : k0_off2 c (hopW r) = ![(nx r c).val] := by revert c r; decide +kernel
theorem off3_eq (c : Dev nD) : k0_off3 c = ![c.val] := by revert c; decide +kernel
theorem off4_eq (c : Dev nD) : k0_off4 c = ![c.val, 0, 0, 0] := by revert c; decide +kernel
theorem off5_eq (c : Dev nD) : k0_off5 c = ![0, 0, 8 * c.val, 0] := by revert c; decide +kernel
theorem off6_eq (c : Dev nD) (r : Fin 7) : k0_off6 c (hopW r) = ![(pv r c).val] := by revert c r; decide +kernel
theorem off7_eq (c : Dev nD) (r : Fin 7) : k0_off7 c (hopW r) = ![(pv r c).val, 0, 0, 0] := by revert c r; decide +kernel
theorem off8_eq (c : Dev nD) : k0_off8 c = ![c.val, 0, 0, 0] := by revert c; decide +kernel
theorem off9_eq (c : Dev nD) (r : Fin 7) : k0_off9 c (hopW r) = ![128 * (nx r c).val, 0, 0] := by revert c r; decide +kernel
theorem off10_eq (c : Dev nD) : k0_off10 c = ![c.val, 0, 0, 0] := by revert c; decide +kernel
theorem off11_eq (c : Dev nD) (r : Fin 7) : k0_off11 c (hopW r) = ![(pv r c).val, 0, 0, 0] := by revert c r; decide +kernel
theorem off12_eq (c : Dev nD) : k0_off12 c = ![128 * c.val, 0, 0] := by revert c; decide +kernel
theorem off13_eq (c : Dev nD) : k0_off13 c = ![0, 128 * c.val, 0] := by revert c; decide +kernel
theorem off14_eq (c : Dev nD) : k0_off14 c = ![128 * c.val, 0, 0] := by revert c; decide +kernel
theorem off15_eq (c : Dev nD) (r : Fin 7) : k0_off15 c (hopW r) = ![128 * (pv r c).val, 0, 0] := by revert c r; decide +kernel
theorem off16_eq (c : Dev nD) (r : Fin 7) : k0_off16 c (hopW r) = ![128 * (pv r c).val, 0, 0] := by revert c r; decide +kernel
theorem off17_eq (c : Dev nD) (r : Fin 7) : k0_off17 c (hopW r) = ![0, 128 * (pv r c).val, 0] := by revert c r; decide +kernel

theorem devB_eq (r : Fin 7) (c : Dev nD) : devB r c = nx r c := by revert c r; decide +kernel
theorem devK_eq (r : Fin 7) (c : Dev nD) : devK r c = nx r c := by revert c r; decide +kernel
theorem devV_eq (r : Fin 7) (c : Dev nD) : devV r c = nx r c := by revert c r; decide +kernel
theorem devR_eq (r : Fin 7) (c : Dev nD) : devR r c = nx r c := by revert c r; decide +kernel
theorem devA_eq (r : Fin 7) (c : Dev nD) : devA r c = nx r c := by revert c r; decide +kernel

/-! The semaphores. -/

/-- The eight arrays of semaphores, each with one for each device. -/
def semIx (a : Fin 8) (s : Dev nD) : DmaSem sig := ⟨2 + 8 * a.val + s.val, by have := s.isLt; show _ < 70; change s.val < 8 at this; omega⟩
/-- The array of a semaphore, and its place there. -/
def semK (i : DmaSem sig) : Fin 8 := ⟨(i.val - 2) / 8 % 8, Nat.mod_lt _ (by decide)⟩
def semD (i : DmaSem sig) : Dev nD := ⟨(i.val - 2) % 8, Nat.mod_lt _ (by decide)⟩

theorem semK_ix (a : Fin 8) (s : Dev nD) : semK (semIx a s) = a := by revert a s; decide
theorem semD_ix (a : Fin 8) (s : Dev nD) : semD (semIx a s) = s := by revert a s; decide
theorem semIx_lo (a : Fin 8) (s : Dev nD) : 2 ≤ (semIx a s).val := by show 2 ≤ 2 + 8 * a.val + s.val; omega
theorem semIx_hi (a : Fin 8) (s : Dev nD) : (semIx a s).val < 66 := by revert a s; decide

/-- The semaphores that a lane sends and receives by. -/
def snd : Bool → Fin 8 | false => 0 | true => 2
def rcv : Bool → Fin 8 | false => 1 | true => 3

theorem semAt_eq {a : DmaSems sig S8} {o : Fin 1 → ℕ} {h : ∀ i, o i + S1.size i ≤ S8.size i} {s : Dev nD} (ho : o = ![s.val]) (k : Fin 8)
    (hk : ∀ s : Dev nD, ∀ h : (∀ i, (![s.val] : Fin 1 → ℕ) i + S1.size i ≤ S8.size i), semAt a ![s.val] h = semIx k s) : semAt a o h = semIx k s := by
  subst ho; exact hk s h

theorem sSend_ix (b : Bool) (s : Dev nD) (h) : semAt (lane b).sSend ![s.val] h = semIx (snd b) s := by revert b s h; decide
theorem sRecv_ix (b : Bool) (s : Dev nD) (h) : semAt (lane b).sRecv ![s.val] h = semIx (rcv b) s := by revert b s h; decide
theorem s11_ix (s : Dev nD) (h) : semAt cc0_scratch11 ![s.val] h = semIx 4 s := by revert s h; decide
theorem s12_ix (s : Dev nD) (h) : semAt cc0_scratch12 ![s.val] h = semIx 5 s := by revert s h; decide
theorem s13_ix (s : Dev nD) (h) : semAt cc0_scratch13 ![s.val] h = semIx 6 s := by revert s h; decide
theorem s14_ix (s : Dev nD) (h) : semAt cc0_scratch14 ![s.val] h = semIx 7 s := by revert s h; decide

/-! The blocks. -/

theorem inb_heads (s : Dev nD) : ∀ a, (![0, 0, 8 * s.val, 0] : Fin 4 → ℕ) a + S1x1024x8x128.size a ≤ S1x1024x64x128.size a := by revert s; decide
theorem inb_slot (s : Dev nD) : ∀ a, (![s.val, 0, 0, 0] : Fin 4 → ℕ) a + S1x1024x8x128.size a ≤ S8x1024x8x128.size a := by revert s; decide
theorem inb_rslot (s : Dev nD) : ∀ a, (![s.val, 0, 0, 0] : Fin 4 → ℕ) a + S1x128x8x128.size a ≤ S8x128x8x128.size a := by revert s; decide
theorem inb_rows (s : Dev nD) : ∀ a, (![128 * s.val, 0, 0] : Fin 3 → ℕ) a + S128x8x128.size a ≤ S1024x8x128.size a := by revert s; decide
theorem inb_orows (s : Dev nD) : ∀ a, (![0, 128 * s.val, 0] : Fin 3 → ℕ) a + S1x128x1024.size a ≤ S1x1024x1024.size a := by revert s; decide

/-- Device `s`'s heads, slot, row block. -/
abbrev headsR (s : Dev nD) : Rect S1x1024x64x128 := Rect.unit (s := S1x1024x64x128) ![0, 0, 8 * s.val, 0] S1x1024x8x128.size (inb_heads s)
abbrev slotR (s : Dev nD) : Rect S8x1024x8x128 := Rect.unit (s := S8x1024x8x128) ![s.val, 0, 0, 0] S1x1024x8x128.size (inb_slot s)
abbrev stageR (r : Fin 7) : Rect S7x1024x8x128 := Rect.unit (s := S7x1024x8x128) ![r.val, 0, 0, 0] S1x1024x8x128.size (inb_stage r)
abbrev rslotR (s : Dev nD) : Rect S8x128x8x128 := Rect.unit (s := S8x128x8x128) ![s.val, 0, 0, 0] S1x128x8x128.size (inb_rslot s)
abbrev rowsR (s : Dev nD) : Rect S1024x8x128 := Rect.unit (s := S1024x8x128) ![128 * s.val, 0, 0] S128x8x128.size (inb_rows s)
abbrev orowsR (s : Dev nD) : Rect S1x1024x1024 := Rect.unit (s := S1x1024x1024) ![0, 128 * s.val, 0] S1x128x1024.size (inb_orows s)

abbrev headsM (b : Bool) (s : Dev nD) := headsAt (lane b).src ![0, 0, 8 * s.val, 0] (inb_heads s)
abbrev slotM (b : Bool) (s : Dev nD) := slotAt (lane b).hbm ![s.val, 0, 0, 0] (inb_slot s)
abbrev stageM (b : Bool) (r : Fin 7) := stageAt (lane b).stg r
abbrev rslotM (s : Dev nD) := rslotAt (Memref.whole cc0_scratch6) ![s.val, 0, 0, 0] (inb_rslot s)
abbrev kRows (s : Dev nD) := rowsAt (Memref.whole cc0_scratch2) ![128 * s.val, 0, 0] (inb_rows s)
abbrev vRows (s : Dev nD) := rowsAt (Memref.whole cc0_scratch3) ![128 * s.val, 0, 0] (inb_rows s)

theorem headsAt_eq (m : Memref sig .tc .hbm S1x1024x64x128 .f32) {o o' : Fin 4 → ℕ} {h : ∀ a, o a + S1x1024x8x128.size a ≤ S1x1024x64x128.size a} (e : o = o') :
    headsAt m o h = headsAt m o' (e ▸ h) := by subst e; rfl
theorem slotAt_eq (m : Memref sig .tc .hbm S8x1024x8x128 .bf16) {o o' : Fin 4 → ℕ} {h : ∀ a, o a + S1x1024x8x128.size a ≤ S8x1024x8x128.size a} (e : o = o') :
    slotAt m o h = slotAt m o' (e ▸ h) := by subst e; rfl
theorem rslotAt_eq (m : Memref sig .tc .vmem S8x128x8x128 .bf16) {o o' : Fin 4 → ℕ} {h : ∀ a, o a + S1x128x8x128.size a ≤ S8x128x8x128.size a} (e : o = o') :
    rslotAt m o h = rslotAt m o' (e ▸ h) := by subst e; rfl
theorem rowsAt_eq (m : Memref sig .tc .vmem S1024x8x128 .bf16) {o o' : Fin 3 → ℕ} {h : ∀ a, o a + S128x8x128.size a ≤ S1024x8x128.size a} (e : o = o') :
    rowsAt m o h = rowsAt m o' (e ▸ h) := by subst e; rfl

end Cert.KernelIdeal.Att

end
-- ==== Proof.Steps.lean ====
module

public import proofs.«01_k».proof.Proof.Geom
public import Idealize.ShloMosaic.Lib.MemrefSat
public import Idealize.ShloMosaic.Lib.Transfers

@[expose] public section

noncomputable section

/-! The rules that the run uses, one for each kind of step, over owned blocks. -/

namespace Cert.KernelIdeal.Att

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's rounds, the exchange's rounds, the local copies' counters. -/
abbrev UB : Type := URounds (GSem nD τ sig) (Fin 7)
abbrev UU : Type := UR sig nD τ × (UB × Counters)

local notation "𝕄" => MT nD τ sig Unit (Elt F) ℕ UU ℕ

abbrev EP : Emb (UR sig nD τ) (MT nD τ sig Unit (Elt F) ℕ UU ℕ) := embL
/-- Where the exchange's rounds live. -/
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
instance ER_landsIn : (ER : Emb UB 𝕄).LandsIn (upEmb : UEmb _ 𝕄) := by unfold ER; infer_instance

abbrev ECm : UEmb Counters (MT nD τ sig Unit (Elt F) ℕ UU ℕ) := countersEmb
instance EC_landsIn : (ECm : UEmb Counters 𝕄).LandsIn (upEmb : UEmb _ 𝕄) := by infer_instance

abbrev 𝒱₀ : Variants := Variants.none

/-- The run of a piece of the body on device `c`. -/
abbrev run {α : Type} (c : Dev nD) (p : Prg F α) (Q : α → sProp 𝕄) : sProp 𝕄 :=
  wp frame (wpE (defs₀ (F := F)) 𝒱₀ (c : Thread nD τ) none) Set.univ p Q

/-- A block owned in full at `X`, and at contents unknown. -/
abbrev full {sp : Space} {s : Shape} {e : EltTy} (c : Dev nD) (m : Memref sig .tc sp s e) (X : s.Idx → Elt F e) : sProp 𝕄 :=
  owns (c : Thread nD τ) m fullShare X
abbrev any {sp : Space} {s : Shape} {e : EltTy} (c : Dev nD) (m : Memref sig .tc sp s e) : sProp 𝕄 :=
  iprop(∃ X, full c m X)

/-- What a device owes, whatever it has waited for. -/
abbrev debt (c : Dev nD) (O : CellTallies nD τ sig Unit) : sProp 𝕄 := iprop(∃ W, owes (c : Thread nD τ) O W)

/-- A cell of device `c`. -/
abbrev gcell (c : Dev nD) (s : SemLoc sig) : GSem nD τ sig := ((c : Thread nD τ), s)

theorem any_intro {sp : Space} {s : Shape} {e : EltTy} (c : Dev nD) (m : Memref sig .tc sp s e) (X : s.Idx → Elt F e) :
    (full c m X : sProp 𝕄) ⊢ any c m := by iintro H; iexists X; iexact H

section
variable {α : Type} (c : Dev nD) (Q : α → sProp (MT nD τ sig Unit (Elt F) ℕ UU ℕ))

/-- Two pieces one after the other. -/
theorem run_bind {β : Type} (p : Prg F β) (k : β → Prg F α) : run c (p >>= k) Q = run c p fun a => run c (k a) Q :=
  wp_bind _ _ _ p k Q

/-- A load of a block. -/
theorem run_load {sp : CoreSpace} {s : Shape} {e : EltTy} {m : Memref sig .tc sp s e} {r : Rect s} (hr : ∀ a, r.stride a = 1) {hl : m.view.LoadsAt r.toLoadRect}
    {q : PosShare TreeShare} {X : r.shape.Idx → Elt F e} {K : (r.shape.Idx → Elt F e) → sProp 𝕄} :
    iprop(owns (c : Thread nD τ) (m.slice r hr) q X ∗ (owns (c : Thread nD τ) (m.slice r hr) q X -∗ K X))
      ⊢ run c (Prog.lift (.load m r.toLoadRect hl)) K := by
  unfold owns Prog.lift
  iintro ⟨⟨%f, %hf, H⟩, HK⟩
  iapply (wp_load_rect 𝒱₀ (c : Thread nD τ) none Set.univ (S := (m.access r).set) (q := q) (f := f) subset_rfl) $$ [H]
  · iexact H
  iintro H
  rw [show (m.access r).read (Elt F) f = X from hf]
  rw [wp_ret]; imodintro
  iapply HK
  iexists f
  isplitr; · ipureintro; exact hf
  iexact H

/-- A store of a block. -/
theorem run_store {sp : CoreSpace} {s : Shape} {e : EltTy} {m : Memref sig .tc sp s e} {r : Rect s} (hr : ∀ a, r.stride a = 1) {w : r.shape.Idx → Elt F e}
    {hx : (m.access r).Stores Finset.univ} {hm : (Finset.univ : Finset r.shape.Idx) = Finset.univ ∨ ∀ a, r.stride a = 1} {K : PUnit → sProp 𝕄} :
    iprop(any c (m.slice r hr) ∗ (full c (m.slice r hr) w -∗ K ⟨⟩)) ⊢ run c (Prog.lift (.store m r w Finset.univ hx hm)) K := by
  unfold any full owns Prog.lift
  iintro ⟨⟨%X, %f, %hf, H⟩, HK⟩
  iapply (wp_store 𝒱₀ (c : Thread nD τ) none Set.univ (S := (m.access r).set) (f := f) subset_rfl) $$ [H]
  · iexact H
  iintro H
  rw [wp_ret]; imodintro
  iapply HK
  iexists _
  isplitr [H]
  rotate_left
  · iexact H
  ipureintro; exact View.read_write_univ _ _

/-- A local copy, started and finished. -/
theorem run_copy {sp sp' : Space} {s : Shape} {e : EltTy} {src : Memref sig .tc sp s e} {dst : Memref sig .tc sp' s e} {sm : DmaSem sig} {hsrc hsrc' : src.view.WordExact}
    {hdst hdst' : dst.view.WordExact} {hsem : DmaTarget.Typed (nD := nD) (p := (.tc : Proc τ)) sp (.dma sm) (.here dst)} {q : PosShare TreeShare} {X : s.Idx → Elt F e} {O : CellTallies nD τ sig Unit}
    (hpos : 0 < s.numel) {K : PUnit → sProp 𝕄} :
    iprop(owns (c : Thread nD τ) src q X ∗ any c dst ∗ semVal (gcell c (.dma sm)) 0 ∗ debt c O ∗ MayWait (c : Thread nD τ) (.dma sm) () O
        ∗ ((owns (c : Thread nD τ) src q X ∗ full c dst X ∗ semVal (gcell c (.dma sm)) 0 ∗ debt c O) -∗ K ⟨⟩))
      ⊢ run c (do Prog.lift (.enqueueDma src (.here dst) (.dma sm) hsrc hdst hsem); Prog.lift (.waitDma2 sm src dst hsrc' hdst')) K := by
  unfold any full owns
  simp only [Prog.lift, Prog.bind_op, Prog.bind_ret]
  iintro ⟨⟨%f, %hf, Hs⟩, ⟨%Y, %g, %hg, Hd⟩, Hv, ⟨%W, HO⟩, Hm, HK⟩
  iapply (Transfers.wp_dmaLocal ECm 𝒱₀ (c : Thread nD τ) none (Sd := dst.view.set) (fd := g) (fs := f) (q := q) () (dst.view.dmaCredit) rfl
    (View.dmaCredit_pos _ hpos) subset_rfl) $$ [Hs Hd Hv]
  · isplitl [Hs]; · iexact Hs
    isplitl [Hd]; · iexact Hd
    iexact Hv
  iintro HF
  iapply (Transfers.wp_waitLocalO ECm 𝒱₀ (c : Thread nD τ) none () (N := dst.view.dmaCredit) rfl) $$ [HF HO Hm]
  · isplitl [HF]; · iexact HF
    isplitl [HO]; · iexact HO
    iexact Hm
  iintro ⟨⟨Hd, Hs⟩, Hv, HO⟩
  rw [wp_ret]; imodintro
  iapply HK
  isplitl [Hs]
  · iexists f; isplitr; · ipureintro; exact hf
    iexact Hs
  isplitl [Hd]
  · iexists _
    isplitr [Hd]
    rotate_left
    · iexact Hd
    ipureintro; rw [View.read_write_univ]; exact hf
  isplitl [Hv]; · iexact Hv
  iexists _; iexact HO

/-- A local copy started: its flight. -/
def flight {sp sp' : Space} {s : Shape} {e : EltTy} (c : Dev nD) (src : Memref sig .tc sp s e) (dst : Memref sig .tc sp' s e) (sm : DmaSem sig) (q : PosShare TreeShare) (X : s.Idx → Elt F e) : sProp 𝕄 :=
  iprop(∃ f g, ⌜src.view.read (Elt F) f = X⌝ ∗ Transfers.Flight ECm (c : Thread nD τ) (.dma sm) () dst.view.dmaCredit
    iprop((dst.view.loc (c : Thread nD τ) ↦[dst.view.set]{fullShare} (dst.view.write (Elt F) g (src.view.read (Elt F) f) Finset.univ)) ∗ (src.view.loc (c : Thread nD τ) ↦[src.view.set]{q} f)))

/-- A local copy's start. -/
theorem run_start {sp sp' : Space} {s : Shape} {e : EltTy} {src : Memref sig .tc sp s e} {dst : Memref sig .tc sp' s e} {sm : DmaSem sig} {hsrc : src.view.WordExact}
    {hdst : dst.view.WordExact} {hsem : DmaTarget.Typed (nD := nD) (p := (.tc : Proc τ)) sp (.dma sm) (.here dst)} {q : PosShare TreeShare} {X : s.Idx → Elt F e}
    (hpos : 0 < s.numel) {K : PUnit → sProp 𝕄} :
    iprop(owns (c : Thread nD τ) src q X ∗ any c dst ∗ semVal (gcell c (.dma sm)) 0 ∗ (flight c src dst sm q X -∗ K ⟨⟩))
      ⊢ run c (Prog.lift (.enqueueDma src (.here dst) (.dma sm) hsrc hdst hsem)) K := by
  unfold any full owns flight
  simp only [Prog.lift]
  iintro ⟨⟨%f, %hf, Hs⟩, ⟨%Y, %g, %hg, Hd⟩, Hv, HK⟩
  iapply (Transfers.wp_dmaLocal ECm 𝒱₀ (c : Thread nD τ) none (Sd := dst.view.set) (fd := g) (fs := f) (q := q) () (dst.view.dmaCredit) rfl
    (View.dmaCredit_pos _ hpos) subset_rfl) $$ [Hs Hd Hv]
  · isplitl [Hs]; · iexact Hs
    isplitl [Hd]; · iexact Hd
    iexact Hv
  iintro HF
  rw [wp_ret]; imodintro
  iapply HK
  iexists f; iexists g
  isplitr; · ipureintro; exact hf
  iexact HF

/-- A local copy's end. -/
theorem run_finish {sp sp' : Space} {s : Shape} {e : EltTy} {src : Memref sig .tc sp s e} {dst : Memref sig .tc sp' s e} {sm : DmaSem sig} {hsrc : src.view.WordExact}
    {hdst : dst.view.WordExact} {q : PosShare TreeShare} {X : s.Idx → Elt F e} {O : CellTallies nD τ sig Unit} {K : PUnit → sProp 𝕄} :
    iprop(flight c src dst sm q X ∗ debt c O ∗ MayWait (c : Thread nD τ) (.dma sm) () O
        ∗ ((owns (c : Thread nD τ) src q X ∗ full c dst X ∗ semVal (gcell c (.dma sm)) 0 ∗ debt c O) -∗ K ⟨⟩))
      ⊢ run c (Prog.lift (.waitDma2 sm src dst hsrc hdst)) K := by
  unfold full owns flight
  simp only [Prog.lift]
  iintro ⟨⟨%f, %g, %hf, HF⟩, ⟨%W, HO⟩, Hm, HK⟩
  iapply (Transfers.wp_waitLocalO ECm 𝒱₀ (c : Thread nD τ) none () (N := dst.view.dmaCredit) rfl) $$ [HF HO Hm]
  · isplitl [HF]; · iexact HF
    isplitl [HO]; · iexact HO
    iexact Hm
  iintro ⟨⟨Hd, Hs⟩, Hv, HO⟩
  rw [wp_ret]; imodintro
  iapply HK
  isplitl [Hs]
  · iexists f; isplitr; · ipureintro; exact hf
    iexact Hs
  isplitl [Hd]
  · iexists _
    isplitr [Hd]
    rotate_left
    · iexact Hd
    ipureintro; rw [View.read_write_univ]; exact hf
  isplitl [Hv]; · iexact Hv
  iexists _; iexact HO

variable (Rd : Schedule (GSem nD τ sig) (Fin 7) (MT nD τ sig Unit (Elt F) ℕ UU ℕ)) (κ : GSem nD τ sig → ℕ)

/-- A cell's invariant. -/
abbrev cinv (g : GSem nD τ sig) : sProp 𝕄 := cellInv ER Rd (κ g) g

/-- A copy to device `n`. -/
theorem run_send {sp sp' : Space} {s : Shape} {e : EltTy} {n : Dev nD} {src : Memref sig .tc sp s e} {dst : Memref sig .tc sp' s e} {sS sR : DmaSem sig}
    {hsc : dst.view.ref.isScScratch = false} {hsrc : src.view.WordExact} {hdst : dst.view.WordExact}
    {hsem : DmaTarget.Typed (p := (.tc : Proc τ)) sp (.dma sR) (.remote (Dev.tc n) dst (.dma sS) hsc)} {q : PosShare TreeShare} {X : s.Idx → Elt F e} {P : sProp 𝕄} {d₁ d₂ : Fin 7} {N : ℕ}
    (hN : dst.view.dmaCredit = N) (hd₁ : d₁ ∈ Rd.duties (gcell c (.dma sS)) 0) (hd₂ : d₂ ∈ Rd.duties (gcell n (.dma sR)) 0)
    (hk₁ : Rd.amount (gcell c (.dma sS)) 0 d₁ = N) (hk₂ : Rd.amount (gcell n (.dma sR)) 0 d₂ = N)
    {O₀ O : CellTallies nD τ sig Unit} (hO : O₀ = O + tallyAt (gcell n (.dma sR)) () N)
    (hp₁ : owns (c : Thread nD τ) src q X ⊢ Rd.payload (gcell c (.dma sS)) 0 d₁)
    (hp₂ : iprop(full n dst X ∗ P) ⊢ Rd.payload (gcell n (.dma sR)) 0 d₂) {K : PUnit → sProp 𝕄} :
    iprop(cinv Rd κ (gcell c (.dma sS)) ∗ cinv Rd κ (gcell n (.dma sR)) ∗ owns (c : Thread nD τ) src q X ∗ any n dst ∗ P ∗ debt c O₀
        ∗ dutyTok ER (gcell c (.dma sS)) 0 d₁ ∗ reached ER (gcell c (.dma sS)) 0 ∗ dutyTok ER (gcell n (.dma sR)) 0 d₂ ∗ reached ER (gcell n (.dma sR)) 0
        ∗ ((cred (tallyAt (gcell c (.dma sS)) () N) ∗ debt c O) -∗ K ⟨⟩))
      ⊢ run c (Prog.lift (.enqueueDma src (.remote (Dev.tc n) dst (.dma sS) hsc) (.dma sR) hsrc hdst hsem)) K := by
  unfold any full owns
  simp only [Prog.lift]
  iintro ⟨#HI₁, #HI₂, ⟨%f, %hf, Hs⟩, ⟨%Y, %g, %hg, Hd⟩, HP, ⟨%W, HO⟩, Ht₁, Hr₁, Ht₂, Hr₂, HK⟩
  iapply (Rounds.wp_send_pointsTo_with 𝒱₀ ER Rd (c : Thread nD τ) none (κ₁ := κ (gcell c (.dma sS))) (κ₂ := κ (gcell n (.dma sR))) (r₁ := 0) (r₂ := 0) (d₁ := d₁) (d₂ := d₂)
    (fs := f) (fd := g) (q := q) (F := P) hd₁ hd₂ () () N hN hk₁ hk₂ (O₀ := O₀) O hO (W := W)
    ((by
      unfold owns
      iintro H; iexists f; isplitr; · ipureintro; exact hf
      iexact H : _ ⊢ owns (c : Thread nD τ) src q X).trans hp₁)
    ((by
      unfold full owns
      iintro ⟨H, HP⟩
      isplitr [HP]
      · iexists _
        isplitr [H]
        rotate_left
        · iexact H
        ipureintro; rw [View.read_write_univ]; exact hf
      iexact HP : _ ⊢ iprop(full n dst X ∗ P)).trans hp₂)) $$ [Hs Hd HP HO Ht₁ Hr₁ Ht₂ Hr₂]
  · isplitr; · iexact HI₁
    isplitr; · iexact HI₂
    isplitl [Hs]; · iexact Hs
    isplitl [Hd HP]
    · isplitl [Hd]; · iexact Hd
      iexact HP
    isplitl [HO]; · iexact HO
    isplitl [Ht₁]; · iexact Ht₁
    isplitl [Hr₁]; · iexact Hr₁
    isplitl [Ht₂]; · iexact Ht₂
    iexact Hr₂
  iintro ⟨Hc, HO⟩
  rw [wp_ret]; imodintro
  iapply HK
  isplitl [Hc]; · iexact Hc
  iexists W; iexact HO

/-- A wait for a copy, at the one duty of the cell's round. -/
theorem run_wait {sp sp' : Space} {s s' : Shape} {e e' : EltTy} {srcw : Memref sig .tc sp' s' e'} {dstw : Memref sig .tc sp s e} {sm : DmaSem sig}
    {hsrc : srcw.view.WordExact} {hdst : dstw.view.WordExact} {d : Fin 7} {N : ℕ}
    (hN : dstw.view.dmaCredit = N) (hd : Rd.duties (gcell c (.dma sm)) 0 = {d}) (hk : Rd.amount (gcell c (.dma sm)) 0 d = N)
    {O : CellTallies nD τ sig Unit} {P : sProp 𝕄} (hp : Rd.payload (gcell c (.dma sm)) 0 d ⊢ P) {K : PUnit → sProp 𝕄} :
    iprop(cinv Rd κ (gcell c (.dma sm)) ∗ cred (tallyAt (gcell c (.dma sm)) () N) ∗ debt c O ∗ MayWait (c : Thread nD τ) (.dma sm) () O ∗ atPos ER (gcell c (.dma sm)) 0 ∅ 0
        ∗ ((debt c O ∗ atPos ER (gcell c (.dma sm)) 1 ∅ 0 ∗ P) -∗ K ⟨⟩))
      ⊢ run c (Prog.lift (.waitDma2 sm srcw dstw hsrc hdst)) K := by
  simp only [Prog.lift]
  iintro ⟨#HI, Hc, ⟨%W, HO⟩, Hm, Ha, HK⟩
  iapply (Rounds.wp_wait_rest_token 𝒱₀ ER Rd (c : Thread nD τ) none (κ := κ (gcell c (.dma sm)))
      (wpE_waitDma2_eq 𝒱₀ (c : Thread nD τ) none Set.univ) (Set.mem_univ _) () (O := O) (W := W) (R := 0) (m := 0) (T := ∅)
      (by unfold Schedule.expect Schedule.amountOf; rw [hd, Finset.sum_singleton, hk, Nat.zero_add, hN])) $$ [Hc HO Hm Ha]
  · isplitr; · iexact HI
    isplitl [Hc]; · rw [hN]; iexact Hc
    isplitl [HO]; · iexact HO
    isplitl [Hm]; · iexact Hm
    iexact Ha
  iintro ⟨HO, Ha, -, Hp⟩
  ihave Hp' := (Entails.of_eq (show bigSep (Rd.duties (gcell c (.dma sm)) 0 \ ∅) (fun d => Rd.payload (gcell c (.dma sm)) 0 d) = Rd.payload (gcell c (.dma sm)) 0 d by
    rw [Finset.sdiff_empty, hd, bigSep_singleton])) $$ Hp
  rw [wp_ret]; imodintro
  iapply HK
  isplitl [HO]; · iexists _; iexact HO
  isplitl [Ha]; · iexact Ha
  iapply hp; iexact Hp'

end

/-! Steps over the seven hops. -/

theorem bigSep_fin7 (Φ : Fin 7 → sProp 𝕄) : bigSep Finset.univ Φ = iprop(Φ 0 ∗ Φ 1 ∗ Φ 2 ∗ Φ 3 ∗ Φ 4 ∗ Φ 5 ∗ Φ 6) := by
  rw [bigSep_univ_eq_bigSepL [0, 1, 2, 3, 4, 5, 6] (by decide) (by decide)]; rfl

/-- A step for each hop, with what it goes from and to and what is passed along. -/
theorem run_hops (c : Dev nD) (f : Fin 7 → Prg F PUnit) (I : ℕ → sProp 𝕄) (A B : Fin 7 → sProp 𝕄)
    (h : ∀ (r : Fin 7) (K : PUnit → sProp 𝕄), iprop(I r.val ∗ A r ∗ ((I (r.val + 1) ∗ B r) -∗ K ⟨⟩)) ⊢ run c (f r) K) (K : PUnit → sProp 𝕄) :
    iprop(I 0 ∗ bigSep Finset.univ A ∗ ((I 7 ∗ bigSep Finset.univ B) -∗ K ⟨⟩)) ⊢ run c (hops f) K := by
  have h0 : ∀ K : PUnit → sProp 𝕄, iprop(I 0 ∗ A 0 ∗ ((I 1 ∗ B 0) -∗ K ⟨⟩)) ⊢ run c (f 0) K := h 0
  have h1 : ∀ K : PUnit → sProp 𝕄, iprop(I 1 ∗ A 1 ∗ ((I 2 ∗ B 1) -∗ K ⟨⟩)) ⊢ run c (f 1) K := h 1
  have h2 : ∀ K : PUnit → sProp 𝕄, iprop(I 2 ∗ A 2 ∗ ((I 3 ∗ B 2) -∗ K ⟨⟩)) ⊢ run c (f 2) K := h 2
  have h3 : ∀ K : PUnit → sProp 𝕄, iprop(I 3 ∗ A 3 ∗ ((I 4 ∗ B 3) -∗ K ⟨⟩)) ⊢ run c (f 3) K := h 3
  have h4 : ∀ K : PUnit → sProp 𝕄, iprop(I 4 ∗ A 4 ∗ ((I 5 ∗ B 4) -∗ K ⟨⟩)) ⊢ run c (f 4) K := h 4
  have h5 : ∀ K : PUnit → sProp 𝕄, iprop(I 5 ∗ A 5 ∗ ((I 6 ∗ B 5) -∗ K ⟨⟩)) ⊢ run c (f 5) K := h 5
  have h6 : ∀ K : PUnit → sProp 𝕄, iprop(I 6 ∗ A 6 ∗ ((I 7 ∗ B 6) -∗ K ⟨⟩)) ⊢ run c (f 6) K := h 6
  unfold hops
  simp only [run_bind, bigSep_fin7]
  iintro ⟨HI, ⟨A0, A1, A2, A3, A4, A5, A6⟩, HK⟩
  iapply (h0 _) $$ [-]; isplitl [HI]; · iexact HI
  isplitl [A0]; · iexact A0
  iintro ⟨HI, B0⟩
  iapply (h1 _) $$ [-]; isplitl [HI]; · iexact HI
  isplitl [A1]; · iexact A1
  iintro ⟨HI, B1⟩
  iapply (h2 _) $$ [-]; isplitl [HI]; · iexact HI
  isplitl [A2]; · iexact A2
  iintro ⟨HI, B2⟩
  iapply (h3 _) $$ [-]; isplitl [HI]; · iexact HI
  isplitl [A3]; · iexact A3
  iintro ⟨HI, B3⟩
  iapply (h4 _) $$ [-]; isplitl [HI]; · iexact HI
  isplitl [A4]; · iexact A4
  iintro ⟨HI, B4⟩
  iapply (h5 _) $$ [-]; isplitl [HI]; · iexact HI
  isplitl [A5]; · iexact A5
  iintro ⟨HI, B5⟩
  iapply (h6 _) $$ [-]; isplitl [HI]; · iexact HI
  isplitl [A6]; · iexact A6
  iintro ⟨HI, B6⟩
  iapply HK
  isplitl [HI]; · iexact HI
  isplitl [B0]; · iexact B0
  isplitl [B1]; · iexact B1
  isplitl [B2]; · iexact B2
  isplitl [B3]; · iexact B3
  isplitl [B4]; · iexact B4
  isplitl [B5]; · iexact B5
  iexact B6

end Cert.KernelIdeal.Att

end
-- ==== Proof.Protocol.lean ====
module

public import proofs.«01_k».proof.Proof.Steps
public import Idealize.ShloMosaic.Lib.ValueIdxCore
public import Idealize.ShloMosaic.Lib.Pipeline.Launch

@[expose] public section

set_option maxRecDepth 65536

noncomputable section

/-! What the devices compute, and what they tell each other: the contents of every block, the schedule of every
    semaphore, the levels and what each device owes. -/

namespace Cert.KernelIdeal.Att

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

/-! ## Gluing blocks -/

section Glue
variable {α : Type}

/-- Row blocks of 128 rows as one. -/
def glueRows (X : Dev nD → S128x8x128.Idx → α) : S1024x8x128.Idx → α := fun i =>
  X ⟨(i 0).val / 128, by have h := (i 0).isLt; change (i 0).val < 1024 at h; show _ < 8; omega⟩ (ix3 ⟨(i 0).val % 128, Nat.mod_lt _ (by decide)⟩ (i 1) (i 2))
/-- Row blocks of the result as one. -/
def glueOut (X : Dev nD → S1x128x1024.Idx → α) : S1x1024x1024.Idx → α := fun i =>
  X ⟨(i 1).val / 128, by have h := (i 1).isLt; change (i 1).val < 1024 at h; show _ < 8; omega⟩ (ix3 (i 0) ⟨(i 1).val % 128, Nat.mod_lt _ (by decide)⟩ (i 2))
/-- The eight slots as one. -/
def glueSlots (X : Dev nD → S1x128x8x128.Idx → α) : S8x128x8x128.Idx → α := fun i =>
  X (i 0) (ix4 (0 : Fin 1) (i 1) (i 2) (i 3))
/-- The sixteen slabs as one. -/
def glueSlabs (X : Fin 4 → Fin 4 → S64x8x128.Idx → α) : S1024x8x128.Idx → α := fun i =>
  X ⟨(i 0).val % 256 / 64, by omega⟩ ⟨(i 0).val / 256, by have h := (i 0).isLt; change (i 0).val < 1024 at h; omega⟩
    (ix3 ⟨(i 0).val % 64, Nat.mod_lt _ (by decide)⟩ (i 1) (i 2))

theorem glueRows_emb (X : Dev nD → S128x8x128.Idx → α) (s : Dev nD) (j : S128x8x128.Idx) : glueRows X ((rowsR s).emb j) = X s j := by
  have h0 : ((rowsR s).emb j 0).val = 128 * s.val + (j 0).val := congrArg (128 * s.val + ·) (Nat.one_mul _)
  have h1 : ((rowsR s).emb j 1).val = 0 + (j 1).val := congrArg (0 + ·) (Nat.one_mul _)
  have h2 : ((rowsR s).emb j 2).val = 0 + (j 2).val := congrArg (0 + ·) (Nat.one_mul _)
  have hj : (j 0).val < 128 := (j 0).isLt
  unfold glueRows
  refine congrArg₂ X (Fin.ext ?_) (funext fun a => ?_)
  · show _ / 128 = _; rw [h0]; omega
  · fin_cases a
    · exact Fin.ext (by show _ % 128 = _; rw [h0]; show _ = (j 0).val; omega)
    · exact Fin.ext (by show ((rowsR s).emb j 1).val = _; rw [h1]; show _ = (j 1).val; omega)
    · exact Fin.ext (by show ((rowsR s).emb j 2).val = _; rw [h2]; show _ = (j 2).val; omega)

theorem glueOut_emb (X : Dev nD → S1x128x1024.Idx → α) (s : Dev nD) (j : S1x128x1024.Idx) : glueOut X ((orowsR s).emb j) = X s j := by
  have h0 : ((orowsR s).emb j 0).val = 0 + (j 0).val := congrArg (0 + ·) (Nat.one_mul _)
  have h1 : ((orowsR s).emb j 1).val = 128 * s.val + (j 1).val := congrArg (128 * s.val + ·) (Nat.one_mul _)
  have h2 : ((orowsR s).emb j 2).val = 0 + (j 2).val := congrArg (0 + ·) (Nat.one_mul _)
  have hj : (j 1).val < 128 := (j 1).isLt
  unfold glueOut
  refine congrArg₂ X (Fin.ext ?_) (funext fun a => ?_)
  · show _ / 128 = _; rw [h1]; omega
  · fin_cases a
    · exact Fin.ext (by show ((orowsR s).emb j 0).val = _; rw [h0]; show _ = (j 0).val; omega)
    · exact Fin.ext (by show _ % 128 = _; rw [h1]; show _ = (j 1).val; omega)
    · exact Fin.ext (by show ((orowsR s).emb j 2).val = _; rw [h2]; show _ = (j 2).val; omega)

theorem glueSlots_emb (X : Dev nD → S1x128x8x128.Idx → α) (s : Dev nD) (j : S1x128x8x128.Idx) : glueSlots X ((rslotR s).emb j) = X s j := by
  have h0 : ((rslotR s).emb j 0).val = s.val + (j 0).val := congrArg (s.val + ·) (Nat.one_mul _)
  have h1 : ((rslotR s).emb j 1).val = 0 + (j 1).val := congrArg (0 + ·) (Nat.one_mul _)
  have h2 : ((rslotR s).emb j 2).val = 0 + (j 2).val := congrArg (0 + ·) (Nat.one_mul _)
  have h3 : ((rslotR s).emb j 3).val = 0 + (j 3).val := congrArg (0 + ·) (Nat.one_mul _)
  have hj : (j 0).val < 1 := (j 0).isLt
  unfold glueSlots
  refine congrArg₂ X (Fin.ext ?_) (funext fun a => ?_)
  · rw [h0]; omega
  · fin_cases a
    · exact Fin.ext (by show 0 = (j 0).val; omega)
    · exact Fin.ext (by show ((rslotR s).emb j 1).val = _; rw [h1]; show _ = (j 1).val; omega)
    · exact Fin.ext (by show ((rslotR s).emb j 2).val = _; rw [h2]; show _ = (j 2).val; omega)
    · exact Fin.ext (by show ((rslotR s).emb j 3).val = _; rw [h3]; show _ = (j 3).val; omega)

theorem glueSlabs_emb (X : Fin 4 → Fin 4 → S64x8x128.Idx → α) (r g : Fin 4) (j : S64x8x128.Idx) : glueSlabs X ((slabRect r g).emb j) = X r g j := by
  have h0 : ((slabRect r g).emb j 0).val = 256 * g.val + 64 * r.val + (j 0).val := congrArg (256 * g.val + 64 * r.val + ·) (Nat.one_mul _)
  have h1 : ((slabRect r g).emb j 1).val = 0 + (j 1).val := congrArg (0 + ·) (Nat.one_mul _)
  have h2 : ((slabRect r g).emb j 2).val = 0 + (j 2).val := congrArg (0 + ·) (Nat.one_mul _)
  have hj : (j 0).val < 64 := (j 0).isLt
  unfold glueSlabs
  refine congr (congrArg₂ X (Fin.ext ?_) (Fin.ext ?_)) (funext fun a => ?_)
  · show _ % 256 / 64 = _; rw [h0]; omega
  · show _ / 256 = _; rw [h0]; omega
  · fin_cases a
    · exact Fin.ext (by show _ % 64 = _; rw [h0]; show _ = (j 0).val; omega)
    · exact Fin.ext (by show ((slabRect r g).emb j 1).val = _; rw [h1]; show _ = (j 1).val; omega)
    · exact Fin.ext (by show ((slabRect r g).emb j 2).val = _; rw [h2]; show _ = (j 2).val; omega)

end Glue

/-! ## Contents -/

section Contents
variable (m : (ℓ : Loc nD τ sig) → Buf (Elt F) ℓ)

/-- A slot's block with its leading axis dropped, and put back. -/
abbrev flat {α : Type} (X : S1x1024x8x128.Idx → α) : S1024x8x128.Idx → α := fun i => X (Shape.reshapeEquiv (squeezes_S1x1024x8x128_S1024x8x128).numel_eq i)
abbrev lift {α : Type} (Y : S128x8x128.Idx → α) : S1x128x8x128.Idx → α := fun i => Y ((Shape.reshapeEquiv (squeezes_S1x128x8x128_S128x8x128).numel_eq).symm i)

/-- A lane's source on device `c`. -/
def srcV (b : Bool) (c : Dev nD) : S1x1024x64x128.Idx → Elt F .f32 := match b with | false => V m c main_arg2 | true => V m c main_arg3
/-- The heads of device `d` in device `s`'s source. -/
def headV (b : Bool) (s d : Dev nD) : S1024x8x128.Idx → Elt F .f32 := flat fun j => srcV m b s ((headsR d).emb j)
/-- What device `s` sends device `d`. -/
def kvV (b : Bool) (s d : Dev nD) : FVec F S1024x8x128 .bf16 := k0_pay1 (headV m b s d)
/-- The queries of device `c`. -/
def qV (c : Dev nD) : FVec F S4x8x256x128 .bf16 := k0_pay15 (V m c main_v1) (V m c main_v2)
/-- The states after the device's own block, then after each hop's. -/
def att0 (c : Dev nD) : Sts F := fold4 (qV m c) (k0_pay28 (headV m false c c)) (k0_pay29 (headV m true c c)) fun _ => st0
def attStep (c : Dev nD) (r : Fin 7) (s : Sts F) : Sts F := fold4 (qV m c) (kvV m false (pv r c) c) (kvV m true (pv r c) c) s
def att (c : Dev nD) : Sts F :=
  attStep m c 6 (attStep m c 5 (attStep m c 4 (attStep m c 3 (attStep m c 2 (attStep m c 1 (attStep m c 0 (att0 m c)))))))
/-- The device's context, its partial sums, and their rows for device `p`. -/
def ctxV (c : Dev nD) : S1024x8x128.Idx → Elt F .f32 := glueSlabs fun r g => slab g (att m c r)
/-- The device's block of the last matrix. -/
def woV (c : Dev nD) : S1024x1024.Idx → Elt F .f32 := iblk m c 0 t0_0
def partV (c : Dev nD) : FVec F S1024x8x128 .bf16 := k0_pay274 (ctxV m c) (woV m c)
def prowV (c p : Dev nD) : S128x8x128.Idx → Elt F .bf16 := fun j => partV m c ((rowsR p).emb j)
/-- The partial sums gathered on device `c`. -/
def gathV (c : Dev nD) : FVec F S8x128x8x128 .bf16 := glueSlots fun s => if s = c then k0_pay275 (F := F) else lift (prowV m s c)
/-- The finished rows of device `c`, as sent. -/
def redV (c : Dev nD) : FVec F S128x8x128 .bf16 := k0_pay278 (prowV m c c) (gathV m c)
/-- The result on device `c`. -/
def outV (c : Dev nD) : S1x1024x1024.Idx → Elt F .f32 :=
  glueOut fun s => if s = c then k0_pay277 (prowV m c c) (gathV m c) else k0_pay279 (redV m s)

end Contents

/-! ## Cells -/

abbrev barS : Sem sig := (SemArray.scalar (sig.barrier 0 rfl) : Sems sig S_).sem
abbrev barC (c : Dev nD) : GSem nD τ sig := gcell c (.reg barS)
abbrev xC (c : Dev nD) (a : Fin 8) (s : Dev nD) : GSem nD τ sig := gcell c (.dma (semIx a s))

/-- The array and the place of a cell of the exchange. -/
def kind (s : SemLoc sig) : Option (Fin 8 × Dev nD) :=
  match s with
  | .dma i => if 2 ≤ i.val ∧ i.val < 66 then some (semK i, semD i) else none
  | .reg _ => none

theorem kind_ix (a : Fin 8) (s : Dev nD) : kind (.dma (semIx a s)) = some (a, s) := by
  show (if 2 ≤ (semIx a s).val ∧ (semIx a s).val < 66 then some (semK (semIx a s), semD (semIx a s)) else none) = _
  rw [if_pos ⟨semIx_lo a s, semIx_hi a s⟩, semK_ix, semD_ix]

theorem dma_ne_bar (i : DmaSem sig) : (SemLoc.dma i : SemLoc sig) ≠ .reg barS := fun h => by cases h

/-- The credit of a slot, and of a row block. -/
def NK : ℕ := (slotM false 0).view.dmaCredit
def NR : ℕ := (rslotM 0).view.dmaCredit
theorem NK_pos : 0 < NK := View.dmaCredit_pos _ (by decide)
theorem NR_pos : 0 < NR := View.dmaCredit_pos _ (by decide)
/-- The credit of a cell's copy. -/
def amt (a : Fin 8) : ℕ := if a.val < 4 then NK else NR
theorem amt_pos (a : Fin 8) : 0 < amt a := by unfold amt; split; exacts [NK_pos, NR_pos]

/-- The shares in which a device lends its finished rows: the share left before hop `k`, and the one lent at it. -/
def restQ : ℕ → PosShare TreeShare
  | 0 => fullShare
  | k + 1 => (restQ k).right
def lentQ (r : Fin 7) : PosShare TreeShare := (restQ r.val).left

/-! ## The schedule -/

section Sched
variable (m : (ℓ : Loc nD τ sig) → Buf (Elt F) ℓ)

/-- What the signal of the device at hop `d` from `p` brings `p`: that device's slots for `p`'s blocks, and that it is ready. -/
def barPay (p : Dev nD) (d : Fin 7) : sProp 𝕄 :=
  iprop(any (nx d p) (slotM false p) ∗ any (nx d p) (slotM true p) ∗ any (nx d p) (rslotM p)
    ∗ reached ER (xC (nx d p) 1 p) 0 ∗ reached ER (xC (nx d p) 3 p) 0 ∗ reached ER (xC (nx d p) 5 p) 0 ∗ reached ER (xC (nx d p) 7 p) 0)

/-- What a copy on device `c`'s cell `(a, s)` brings. -/
def xPay (c : Dev nD) (a : Fin 8) (s : Dev nD) : sProp 𝕄 :=
  match a with
  | 0 => iprop(emp)
  | 1 => full c (slotM false s) (kvV m false s c)
  | 2 => iprop(emp)
  | 3 => full c (slotM true s) (kvV m true s c)
  | 4 => full c (kRows s) (prowV m c s)
  | 5 => iprop(full c (rslotM s) (prowV m s c) ∗ any s (vRows c))
  | 6 => owns (c : Thread nD τ) (vRows c) (lentQ (hopTo c s)) (redV m c)
  | 7 => full c (vRows s) (redV m s)

instance xPay_storable (c : Dev nD) (a : Fin 8) (s : Dev nD) : BI.Storable (upEmb : UEmb _ 𝕄) (xPay m c a s) := by
  unfold xPay full any; split <;> infer_instance
instance barPay_storable (p : Dev nD) (d : Fin 7) : BI.Storable (upEmb : UEmb _ 𝕄) (barPay (F := F) p d) := by
  unfold barPay any full; infer_instance

/-- One round: each device's barrier has a unit from every other; each cell of the exchange has one copy. -/
def sched : Rounds.Schedule (GSem nD τ sig) (Fin 7) 𝕄 where
  duties g r := if r = 0 ∧ g.1.2 = .tc then
      (if g.2 = .reg barS then Finset.univ else match kind g.2 with | some (_, s) => if s = g.1.1 then ∅ else {0} | none => ∅)
    else ∅
  unitless _ := False
  amount g _ _ := if g.2 = .reg barS then 1 else match kind g.2 with | some (a, _) => amt a | none => 1
  payload g _ d := if g.2 = .reg barS then barPay g.1.1 d else match kind g.2 with | some (a, s) => xPay m g.1.1 a s | none => iprop(emp)
  amount_pos g _ _ _ := by
    split
    · exact Nat.one_pos
    · split
      · exact amt_pos _
      · exact Nat.one_pos

instance sched_storable (g : GSem nD τ sig) (r : ℕ) (d : Fin 7) : BI.Storable (upEmb : UEmb _ 𝕄) ((sched (F := F) m).payload g r d) := by
  show BI.Storable upEmb (if g.2 = .reg barS then barPay g.1.1 d else match kind g.2 with | some (a, s) => xPay m g.1.1 a s | none => iprop(emp))
  (repeat' split) <;> infer_instance

theorem duties_bar (c : Dev nD) : (sched m).duties (barC c) 0 = Finset.univ := by
  dsimp only [sched]; rw [if_pos ⟨rfl, rfl⟩, if_pos rfl]
theorem duties_x (c : Dev nD) (a : Fin 8) (s : Dev nD) (h : s ≠ c) : (sched m).duties (xC c a s) 0 = {0} := by
  dsimp only [sched]; rw [if_pos ⟨rfl, rfl⟩, if_neg (dma_ne_bar _), kind_ix]; exact if_neg h
theorem duties_self (c : Dev nD) (a : Fin 8) (r : ℕ) : (sched m).duties (xC c a c) r = ∅ := by
  dsimp only [sched]; split
  · rw [if_neg (dma_ne_bar _), kind_ix]; exact if_pos rfl
  · rfl
theorem duties_later (g : GSem nD τ sig) : ∀ r, 1 ≤ r → (sched m).duties g r = ∅ :=
  fun r hr => by dsimp only [sched]; rw [if_neg fun h => by omega]
theorem amount_bar (c : Dev nD) (d : Fin 7) : (sched m).amount (barC c) 0 d = 1 := by dsimp only [sched]; exact if_pos rfl
theorem amount_x (c : Dev nD) (a : Fin 8) (s : Dev nD) (d : Fin 7) : (sched m).amount (xC c a s) 0 d = amt a := by
  dsimp only [sched]; rw [if_neg (dma_ne_bar _), kind_ix]
theorem payload_bar (c : Dev nD) (d : Fin 7) : (sched m).payload (barC c) 0 d = barPay c d := by dsimp only [sched]; exact if_pos rfl
theorem payload_x (c : Dev nD) (a : Fin 8) (s : Dev nD) (d : Fin 7) : (sched m).payload (xC c a s) 0 d = xPay m c a s := by
  dsimp only [sched]; rw [if_neg (dma_ne_bar _), kind_ix]
theorem expect_bar (c : Dev nD) : (sched m).expect (barC c) 0 = 7 := by
  unfold Schedule.expect Schedule.amountOf
  rw [duties_bar, Finset.sum_congr rfl fun d _ => amount_bar m c d, Finset.sum_const, Finset.card_univ, Fintype.card_fin, smul_eq_mul]

end Sched

/-! ## Levels, and what is owed -/

def L (g : GSem nD τ sig) : Finset Unit := if g.1.2 = .tc then {()} else ∅
/-- The level of an array of cells. -/
def lvA (a : Fin 8) : ℕ := if a = 1 ∨ a = 3 then 2 else if a = 5 then 3 else if a = 7 then 4 else 0
def lv (g : GSem nD τ sig) (_ : Unit) : ℕ := if g.2 = .reg barS then 1 else match kind g.2 with | some (a, _) => lvA a | none => 0

theorem L_tc (c : Dev nD) (sm : SemLoc sig) : L (gcell c sm) = {()} := if_pos rfl
theorem L_of_ne (g : GSem nD τ sig) (h : g.1.2 ≠ .tc) : L g = ∅ := if_neg h
theorem lv_bar (c : Dev nD) (u : Unit) : lv (barC c) u = 1 := if_pos rfl
theorem lv_x (c : Dev nD) (a : Fin 8) (s : Dev nD) (u : Unit) : lv (xC c a s) u = lvA a := by
  unfold lv; rw [if_neg (dma_ne_bar _), kind_ix]
theorem lv_none (c : Dev nD) (i : DmaSem sig) (h : kind (.dma i) = none) (u : Unit) : lv (gcell c (.dma i)) u = 0 := by
  unfold lv; rw [if_neg (dma_ne_bar _), h]

/-- What is left of a sum over the hops from hop `k` on. -/
def rem (f : Fin 7 → CellTallies nD τ sig Unit) (k : ℕ) : CellTallies nD τ sig Unit := ∑ r : Fin 7, if k ≤ r.val then f r else 0

theorem rem_step (f : Fin 7 → CellTallies nD τ sig Unit) (r : Fin 7) : rem f r.val = rem f (r.val + 1) + f r := by
  unfold rem
  have h (x : Fin 7) : (if r.val ≤ x.val then f x else 0) = (if r.val + 1 ≤ x.val then f x else 0) + (if x = r then f x else 0) := by
    by_cases hx : x = r
    · subst hx; rw [if_pos le_rfl, if_neg (by omega), if_pos rfl, zero_add]
    · have : x.val ≠ r.val := fun h => hx (Fin.ext h)
      rw [if_neg hx, add_zero]
      by_cases hl : r.val ≤ x.val
      · rw [if_pos hl, if_pos (by omega)]
      · rw [if_neg hl, if_neg (by omega)]
  rw [Finset.sum_congr rfl fun x _ => h x, Finset.sum_add_distrib, Finset.sum_ite_eq' Finset.univ r f, if_pos (Finset.mem_univ _)]

theorem rem_last (f : Fin 7 → CellTallies nD τ sig Unit) : rem f 7 = 0 := by
  unfold rem; exact Finset.sum_eq_zero fun x _ => if_neg (by have := x.isLt; omega)

def owB (c : Dev nD) (r : Fin 7) : CellTallies nD τ sig Unit := tallyAt (barC (nx r c)) () 1
def owX (a : Fin 8) (c : Dev nD) (r : Fin 7) : CellTallies nD τ sig Unit := tallyAt (xC (nx r c) a c) () (amt a)
def owKV (c : Dev nD) (r : Fin 7) : CellTallies nD τ sig Unit := owX 3 c r + owX 1 c r

/-- What a device owes at each stage: finished rows; and partial sums; and blocks; and signals. -/
def OA (c : Dev nD) (k : ℕ) : CellTallies nD τ sig Unit := rem (owX 7 c) k
def OR (c : Dev nD) (k : ℕ) : CellTallies nD τ sig Unit := OA c 0 + rem (owX 5 c) k
def OK (c : Dev nD) (k : ℕ) : CellTallies nD τ sig Unit := OR c 0 + rem (owKV c) k
def OB (c : Dev nD) (k : ℕ) : CellTallies nD τ sig Unit := OK c 0 + rem (owB c) k
/-- What a device owes at launch. -/
abbrev O₀ (c : Dev nD) : CellTallies nD τ sig Unit := OB c 0

theorem OA_step (c : Dev nD) (r : Fin 7) : OA c r.val = OA c (r.val + 1) + owX 7 c r := rem_step _ r
theorem OR_step (c : Dev nD) (r : Fin 7) : OR c r.val = OR c (r.val + 1) + owX 5 c r := by unfold OR; rw [rem_step _ r, add_assoc]
theorem OK_step (c : Dev nD) (r : Fin 7) : OK c r.val = (OK c (r.val + 1) + owX 3 c r) + owX 1 c r := by
  unfold OK; rw [rem_step _ r]; unfold owKV; rw [← add_assoc, ← add_assoc]
theorem OB_step (c : Dev nD) (r : Fin 7) : OB c r.val = OB c (r.val + 1) + owB c r := by unfold OB; rw [rem_step _ r, add_assoc]
theorem OA_last (c : Dev nD) : OA c 7 = 0 := rem_last _
theorem OR_last (c : Dev nD) : OR c 7 = OA c 0 := by unfold OR; rw [rem_last, add_zero]
theorem OK_last (c : Dev nD) : OK c 7 = OR c 0 := by unfold OK; rw [rem_last, add_zero]
theorem OB_last (c : Dev nD) : OB c 7 = OK c 0 := by unfold OB; rw [rem_last, add_zero]

/-- Everything owed is at a level above `n`. -/
def Above (n : ℕ) (O : CellTallies nD τ sig Unit) : Prop := ∀ g u, 0 < O g u → g.1.2 = .tc ∧ n < lv g u

theorem Above.mono {n n' : ℕ} (h : n' ≤ n) {O : CellTallies nD τ sig Unit} (ho : Above n O) : Above n' O := fun g u hg => ⟨(ho g u hg).1, lt_of_le_of_lt h (ho g u hg).2⟩
theorem Above.add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem Above.zero {n : ℕ} : Above n 0 := fun g u hg => absurd hg (Nat.lt_irrefl 0)
theorem Above.tally {n k : ℕ} {g : GSem nD τ sig} (h : g.1.2 = .tc) (hl : n < lv g ()) : Above n (tallyAt g () k) := fun g' u hg => by
  rw [tallyAt_apply] at hg
  by_cases he : g' = g ∧ u = ()
  · rw [he.1]; exact ⟨h, hl⟩
  · rw [if_neg he] at hg; exact absurd hg (Nat.lt_irrefl 0)
theorem Above.rem {n : ℕ} {f : Fin 7 → CellTallies nD τ sig Unit} (h : ∀ r, Above n (f r)) (k : ℕ) : Above n (rem f k) := by
  unfold Att.rem
  refine Finset.sum_induction _ (Above n) (fun _ _ => Above.add) Above.zero fun r _ => ?_
  split
  · exact h r
  · exact Above.zero

theorem above_x (a : Fin 8) (c : Dev nD) (r : Fin 7) {n : ℕ} (h : n < lvA a) : Above n (owX a c r) := Above.tally rfl (by rw [lv_x]; exact h)
theorem above_OA (c : Dev nD) (k : ℕ) : Above 3 (OA c k) := Above.rem (fun r => above_x 7 c r (by decide)) k
theorem above_OR (c : Dev nD) (k : ℕ) : Above 2 (OR c k) := ((above_OA c 0).mono (by decide)).add (Above.rem (fun r => above_x 5 c r (by decide)) k)
theorem above_OK (c : Dev nD) (k : ℕ) : Above 1 (OK c k) :=
  ((above_OR c 0).mono (by decide)).add (Above.rem (fun r => (above_x 3 c r (by decide)).add (above_x 1 c r (by decide))) k)
theorem above_OB (c : Dev nD) (k : ℕ) : Above 0 (OB c k) :=
  ((above_OK c 0).mono (by decide)).add (Above.rem (fun r => Above.tally rfl (by rw [lv_bar]; decide)) k)

/-- A device may wait at a cell below everything it owes. -/
theorem mayWait (c : Dev nD) (sm : SemLoc sig) {n : ℕ} (h : lv (gcell c sm) () ≤ n) {O : CellTallies nD τ sig Unit} (ho : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (ho g u hg).1]; exact Finset.mem_singleton_self _)
    (fun p hp => by rw [Finset.mem_singleton.mp hp]; exact h) (fun g u hg => (ho g u hg).2)

end Cert.KernelIdeal.Att

end
-- ==== Proof.Split.lean ====
module

public import proofs.«01_k».proof.Proof.Protocol

@[expose] public section

set_option maxRecDepth 65536

noncomputable section

/-! Taking buffers apart into blocks and putting them together again. -/

namespace Cert.KernelIdeal.Att

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

/-! ## Families of rectangles -/

/-- Disjoint unit rectangles that are met along one axis. -/
theorem cover_of {s : Shape} {T : Type} [Fintype T] (r : T → Rect s) (h : ∀ i : s.Idx, ∃ t, i ∈ (r t).set) :
    (Finset.univ : Finset T).biUnion (fun t => (r t).set) = Finset.univ :=
  Finset.eq_univ_of_forall fun i => let ⟨t, ht⟩ := h i; Finset.mem_biUnion.mpr ⟨t, Finset.mem_univ _, ht⟩

theorem rows_disj (s s' : Dev nD) (h : s ≠ s') : Disjoint (rowsR s).set (rowsR s').set :=
  Rect.unit_disjoint 0 (by
    have : s.val ≠ s'.val := fun e => h (Fin.ext e)
    show 128 * s.val + 128 ≤ 128 * s'.val ∨ 128 * s'.val + 128 ≤ 128 * s.val; omega)
theorem slot_disj (s s' : Dev nD) (h : s ≠ s') : Disjoint (slotR s).set (slotR s').set :=
  Rect.unit_disjoint 0 (by
    have : s.val ≠ s'.val := fun e => h (Fin.ext e)
    show s.val + 1 ≤ s'.val ∨ s'.val + 1 ≤ s.val; omega)
theorem rslot_disj (s s' : Dev nD) (h : s ≠ s') : Disjoint (rslotR s).set (rslotR s').set :=
  Rect.unit_disjoint 0 (by
    have : s.val ≠ s'.val := fun e => h (Fin.ext e)
    show s.val + 1 ≤ s'.val ∨ s'.val + 1 ≤ s.val; omega)
theorem stage_disj (s s' : Fin 7) (h : s ≠ s') : Disjoint (stageR s).set (stageR s').set :=
  Rect.unit_disjoint 0 (by
    have : s.val ≠ s'.val := fun e => h (Fin.ext e)
    show s.val + 1 ≤ s'.val ∨ s'.val + 1 ≤ s.val; omega)
theorem orows_disj (s s' : Dev nD) (h : s ≠ s') : Disjoint (orowsR s).set (orowsR s').set :=
  Rect.unit_disjoint 1 (by
    have : s.val ≠ s'.val := fun e => h (Fin.ext e)
    show 128 * s.val + 128 ≤ 128 * s'.val ∨ 128 * s'.val + 128 ≤ 128 * s.val; omega)
/-- A slab by its residue and its group. -/
abbrev slabR (t : Fin 4 × Fin 4) : Rect S1024x8x128 := slabRect t.1 t.2
theorem slab_disj (t t' : Fin 4 × Fin 4) (h : t ≠ t') : Disjoint (slabR t).set (slabR t').set :=
  Rect.unit_disjoint 0 (by
    have : t.1.val ≠ t'.1.val ∨ t.2.val ≠ t'.2.val := by
      by_contra hc; simp only [not_or, not_not] at hc; exact h (Prod.ext (Fin.ext hc.1) (Fin.ext hc.2))
    have := t.1.isLt; have := t'.1.isLt
    show 256 * t.2.val + 64 * t.1.val + 64 ≤ 256 * t'.2.val + 64 * t'.1.val ∨ 256 * t'.2.val + 64 * t'.1.val + 64 ≤ 256 * t.2.val + 64 * t.1.val
    omega)

theorem rows_cover : (Finset.univ : Finset (Dev nD)).biUnion (fun t => (rowsR t).set) = Finset.univ := cover_of _ fun i => by
  have h0 : (i 0).val < 1024 := (i 0).isLt
  have h1 : (i 1).val < 8 := (i 1).isLt
  have h2 : (i 2).val < 128 := (i 2).isLt
  refine ⟨⟨(i 0).val / 128, by show _ < 8; omega⟩, Rect.mem_set_unit.mpr fun a => ?_⟩
  fin_cases a
  · show 128 * ((i 0).val / 128) ≤ (i 0).val ∧ (i 0).val < 128 * ((i 0).val / 128) + 128; omega
  · show 0 ≤ (i 1).val ∧ (i 1).val < 0 + 8; omega
  · show 0 ≤ (i 2).val ∧ (i 2).val < 0 + 128; omega
theorem slot_cover : (Finset.univ : Finset (Dev nD)).biUnion (fun t => (slotR t).set) = Finset.univ := cover_of _ fun i => by
  have h1 : (i 1).val < 1024 := (i 1).isLt
  have h2 : (i 2).val < 8 := (i 2).isLt
  have h3 : (i 3).val < 128 := (i 3).isLt
  refine ⟨i 0, Rect.mem_set_unit.mpr fun a => ?_⟩
  fin_cases a
  · show (i 0).val ≤ (i 0).val ∧ (i 0).val < (i 0).val + 1; omega
  · show 0 ≤ (i 1).val ∧ (i 1).val < 0 + 1024; omega
  · show 0 ≤ (i 2).val ∧ (i 2).val < 0 + 8; omega
  · show 0 ≤ (i 3).val ∧ (i 3).val < 0 + 128; omega
theorem rslot_cover : (Finset.univ : Finset (Dev nD)).biUnion (fun t => (rslotR t).set) = Finset.univ := cover_of _ fun i => by
  have h1 : (i 1).val < 128 := (i 1).isLt
  have h2 : (i 2).val < 8 := (i 2).isLt
  have h3 : (i 3).val < 128 := (i 3).isLt
  refine ⟨i 0, Rect.mem_set_unit.mpr fun a => ?_⟩
  fin_cases a
  · show (i 0).val ≤ (i 0).val ∧ (i 0).val < (i 0).val + 1; omega
  · show 0 ≤ (i 1).val ∧ (i 1).val < 0 + 128; omega
  · show 0 ≤ (i 2).val ∧ (i 2).val < 0 + 8; omega
  · show 0 ≤ (i 3).val ∧ (i 3).val < 0 + 128; omega
theorem stage_cover : (Finset.univ : Finset (Fin 7)).biUnion (fun t => (stageR t).set) = Finset.univ := cover_of _ fun i => by
  have h1 : (i 1).val < 1024 := (i 1).isLt
  have h2 : (i 2).val < 8 := (i 2).isLt
  have h3 : (i 3).val < 128 := (i 3).isLt
  refine ⟨i 0, Rect.mem_set_unit.mpr fun a => ?_⟩
  fin_cases a
  · show (i 0).val ≤ (i 0).val ∧ (i 0).val < (i 0).val + 1; omega
  · show 0 ≤ (i 1).val ∧ (i 1).val < 0 + 1024; omega
  · show 0 ≤ (i 2).val ∧ (i 2).val < 0 + 8; omega
  · show 0 ≤ (i 3).val ∧ (i 3).val < 0 + 128; omega
theorem orows_cover : (Finset.univ : Finset (Dev nD)).biUnion (fun t => (orowsR t).set) = Finset.univ := cover_of _ fun i => by
  have h0 : (i 0).val < 1 := (i 0).isLt
  have h1 : (i 1).val < 1024 := (i 1).isLt
  have h2 : (i 2).val < 1024 := (i 2).isLt
  refine ⟨⟨(i 1).val / 128, by show _ < 8; omega⟩, Rect.mem_set_unit.mpr fun a => ?_⟩
  fin_cases a
  · show 0 ≤ (i 0).val ∧ (i 0).val < 0 + 1; omega
  · show 128 * ((i 1).val / 128) ≤ (i 1).val ∧ (i 1).val < 128 * ((i 1).val / 128) + 128; omega
  · show 0 ≤ (i 2).val ∧ (i 2).val < 0 + 1024; omega
theorem slab_cover : (Finset.univ : Finset (Fin 4 × Fin 4)).biUnion (fun t => (slabR t).set) = Finset.univ := cover_of _ fun i => by
  have h0 : (i 0).val < 1024 := (i 0).isLt
  have h1 : (i 1).val < 8 := (i 1).isLt
  have h2 : (i 2).val < 128 := (i 2).isLt
  refine ⟨(⟨(i 0).val % 256 / 64, by omega⟩, ⟨(i 0).val / 256, by omega⟩), Rect.mem_set_unit.mpr fun a => ?_⟩
  fin_cases a
  · show 256 * ((i 0).val / 256) + 64 * ((i 0).val % 256 / 64) ≤ (i 0).val ∧ (i 0).val < 256 * ((i 0).val / 256) + 64 * ((i 0).val % 256 / 64) + 64; omega
  · show 0 ≤ (i 1).val ∧ (i 1).val < 0 + 8; omega
  · show 0 ≤ (i 2).val ∧ (i 2).val < 0 + 128; omega

section
variable {sp : Space} {s : Shape} {e : EltTy} (c : Dev nD) (m : Memref sig .tc sp s e)

/-- A block at unknown contents, apart. -/
theorem any_split {T : Type} [Fintype T] [DecidableEq T] (r : T → Rect s) (hr : ∀ t a, (r t).stride a = 1) (hd : ∀ t t', t ≠ t' → Disjoint (r t).set (r t').set)
    (hcov : (Finset.univ : Finset T).biUnion (fun t => (r t).set) = Finset.univ) :
    (any c m : sProp 𝕄) ⊢ bigSep Finset.univ fun t => any c (m.slice (r t) (hr t)) := by
  iintro ⟨%X, H⟩
  have h := (owns_rects (c : Thread nD τ) m fullShare r hr hd hcov X).trans
    (bigSep_mono fun t _ => any_intro (F := F) c (m.slice (r t) (hr t)) (fun j => X ((r t).emb j)))
  iapply h
  iexact H

/-- Blocks at known contents, together. -/
theorem full_join {T : Type} [Fintype T] [DecidableEq T] (r : T → Rect s) (hr : ∀ t a, (r t).stride a = 1) (hd : ∀ t t', t ≠ t' → Disjoint (r t).set (r t').set)
    (hcov : (Finset.univ : Finset T).biUnion (fun t => (r t).set) = Finset.univ) {X : ∀ t, (r t).shape.Idx → Elt F e} {G : s.Idx → Elt F e}
    (hG : ∀ t j, G ((r t).emb j) = X t j) :
    bigSep Finset.univ (fun t => full c (m.slice (r t) (hr t)) (X t)) ⊢ (full c m G : sProp 𝕄) := by
  rw [bigSep_congr (fun t _ => congrArg (full c (m.slice (r t) (hr t))) (funext fun j => (hG t j).symm))]
  exact owns_of_rects (c : Thread nD τ) m fullShare r hr hd hcov G

/-- A rectangle borrowed from a block. -/
theorem borrow (r : Rect s) (hr : ∀ a, r.stride a = 1) (q : PosShare TreeShare) (X : s.Idx → Elt F e) :
    (owns (c : Thread nD τ) m q X : sProp 𝕄)
      ⊢ iprop(owns (c : Thread nD τ) (m.slice r hr) q (fun j => X (r.emb j)) ∗ (owns (c : Thread nD τ) (m.slice r hr) q (fun j => X (r.emb j)) -∗ owns (c : Thread nD τ) m q X)) := by
  iintro H
  ihave H' := (owns_slice_split (c : Thread nD τ) m q r hr X) $$ H
  icases H' with ⟨H, %f, %hf, Hr⟩
  isplitl [H]; · iexact H
  iintro H
  ihave H' := (owns_slice_join (c : Thread nD τ) m q r hr (fun j => X (r.emb j)) f) $$ [H Hr]
  · isplitl [H]; · iexact H
    iexact Hr
  rw [show r.overlay (m.view.read (Elt F) f) (fun j => X (r.emb j)) = X by
    rw [hf]; funext i
    by_cases hi : i ∈ r.set
    · obtain ⟨j, rfl⟩ := r.exists_idx_of_mem hi
      exact Rect.overlay_emb r X (fun j => X (r.emb j)) j
    · exact Rect.overlay_of_not_mem r X _ hi]
  iexact H'

/-- A block with its unit axes dropped. -/
theorem squeeze_owns {s' : Shape} (h : s.Squeezes s') (q : PosShare TreeShare) (X : s.Idx → Elt F e) :
    (owns (c : Thread nD τ) (m.squeeze s' h) q (fun i => X (Shape.reshapeEquiv h.numel_eq i)) : sProp 𝕄) = owns (c : Thread nD τ) m q X := by
  have hset : (m.squeeze s' h).view.set = m.view.set := m.view.set_reshape h.numel_eq
  have hread (f) : (m.squeeze s' h).view.read (Elt F) f = fun i => m.view.read (Elt F) f (Shape.reshapeEquiv h.numel_eq i) := rfl
  have h₁ : (owns (c : Thread nD τ) (m.squeeze s' h) q (fun i => X (Shape.reshapeEquiv h.numel_eq i)) : sProp 𝕄) ⊢ owns (c : Thread nD τ) m q X := by
    unfold owns
    iintro ⟨%f, %hf, H⟩
    iexists f
    isplitr
    · ipureintro
      funext i
      have := congrFun hf ((Shape.reshapeEquiv h.numel_eq).symm i)
      rw [hread] at this
      simpa only [Equiv.apply_symm_apply] using this
    rw [hset]; iexact H
  have h₂ : (owns (c : Thread nD τ) m q X : sProp 𝕄) ⊢ owns (c : Thread nD τ) (m.squeeze s' h) q (fun i => X (Shape.reshapeEquiv h.numel_eq i)) := by
    unfold owns
    iintro ⟨%f, %hf, H⟩
    iexists f
    isplitr
    · ipureintro; rw [hread, hf]
    rw [hset]; iexact H
  exact BI.equiv_iff.mp ⟨h₁, h₂⟩

theorem any_squeeze {s' : Shape} (h : s.Squeezes s') : (any c m : sProp 𝕄) ⊢ any c (m.squeeze s' h) := by
  iintro ⟨%X, H⟩
  iexists (fun i => X (Shape.reshapeEquiv h.numel_eq i))
  iapply (Entails.of_eq (squeeze_owns c m h fullShare X).symm)
  iexact H

theorem unit_disj (t t' : Unit) (h : t ≠ t') (r : Rect s) : Disjoint r.set r.set := absurd (Subsingleton.elim t t') h

/-- The whole rectangle of a block is the block. -/
theorem owns_all (r : Rect s) (hr : ∀ a, r.stride a = 1) (ho : ∀ a, r.off a = 0) (hs : ∀ a, r.size a = s.size a) (q : PosShare TreeShare)
    (X : s.Idx → Elt F e) : (owns (c : Thread nD τ) m q X : sProp 𝕄) = owns (c : Thread nD τ) (m.slice r hr) q (fun j => X (r.emb j)) := by
  have hcov : (Finset.univ : Finset Unit).biUnion (fun _ => r.set) = Finset.univ := by
    refine cover_of (fun _ : Unit => r) fun i => ⟨(), ?_⟩
    rw [LoadRect.mem_set]
    intro a
    exact ⟨(i a).val, by rw [hs]; exact (i a).isLt, by rw [ho, hr]; omega⟩
  refine BI.equiv_iff.mp ⟨?_, ?_⟩
  · refine (owns_rects (c : Thread nD τ) m q (fun _ : Unit => r) (fun _ => hr) (fun t t' h => unit_disj t t' h r) hcov X).trans (Entails.of_eq ?_)
    rw [show (Finset.univ : Finset Unit) = {()} from rfl, bigSep_singleton]
  · refine (Entails.of_eq ?_).trans (owns_of_rects (c : Thread nD τ) m q (fun _ : Unit => r) (fun _ => hr) (fun t t' h => unit_disj t t' h r) hcov X)
    rw [show (Finset.univ : Finset Unit) = {()} from rfl, bigSep_singleton]

end

theorem all_emb (i : S1024x8x128.Idx) : allRect.emb i = i := by
  funext a; fin_cases a
  · exact Fin.ext ((congrArg (0 + ·) (Nat.one_mul _)).trans (Nat.zero_add _))
  · exact Fin.ext ((congrArg (0 + ·) (Nat.one_mul _)).trans (Nat.zero_add _))
  · exact Fin.ext ((congrArg (0 + ·) (Nat.one_mul _)).trans (Nat.zero_add _))

theorem owns_allRect {sp : Space} {e : EltTy} (c : Dev nD) (m : Memref sig .tc sp S1024x8x128 e) (q : PosShare TreeShare) (X : S1024x8x128.Idx → Elt F e) :
    (owns (c : Thread nD τ) (m.slice allRect (fun _ => rfl)) q X : sProp 𝕄) = owns (c : Thread nD τ) m q X := by
  rw [owns_all c m allRect (fun _ => rfl) (by intro a; fin_cases a <;> rfl) (by intro a; fin_cases a <;> rfl) q X]
  exact congrArg _ (funext fun i => congrArg X (all_emb i).symm)

/-- A load of a whole block. -/
theorem run_loadAll {e : EltTy} (c : Dev nD) {m : Memref sig .tc .vmem S1024x8x128 e} {q : PosShare TreeShare} {X : S1024x8x128.Idx → Elt F e}
    {K : (S1024x8x128.Idx → Elt F e) → sProp 𝕄} :
    iprop(owns (c : Thread nD τ) m q X ∗ (owns (c : Thread nD τ) m q X -∗ K X)) ⊢ run c (loadAll m) K := by
  rw [← owns_allRect c m q X]
  exact run_load c (fun _ => rfl)

/-- A store of a whole block. -/
theorem run_storeAll (c : Dev nD) {m : Memref sig .tc .vmem S1024x8x128 .bf16} {hm : m.IsWhole} {w : FVec F S1024x8x128 .bf16} {K : PUnit → sProp 𝕄} :
    iprop(any c m ∗ (full c m w -∗ K ⟨⟩)) ⊢ run c (storeAll m hm w) K := by
  have hany : (any c (m.slice allRect (fun _ => rfl)) : sProp 𝕄) = any c m := by unfold any full; simp only [owns_allRect]; rfl
  rw [← hany, show (full c m w : sProp 𝕄) = full c (m.slice allRect (fun _ => rfl)) w from (owns_allRect c m fullShare w).symm]
  unfold storeAll; exact run_store (F := F) c (m := m) (r := allRect) (fun _ => rfl)

/-! ## A device and its seven peers -/

theorem bigSep_nx (c : Dev nD) (Φ : Dev nD → sProp 𝕄) : bigSep Finset.univ Φ = iprop(Φ c ∗ bigSep Finset.univ fun r => Φ (nx r c)) := by
  rw [show (Finset.univ : Finset (Dev nD)) = insert c (Finset.univ.map ⟨fun r => nx r c, nx_inj c⟩) by revert c; decide,
    bigSep_insert (by revert c; decide), bigSep_map]; rfl

theorem bigSep_pv (c : Dev nD) (Φ : Dev nD → sProp 𝕄) : bigSep Finset.univ Φ = iprop(Φ c ∗ bigSep Finset.univ fun r => Φ (pv r c)) := by
  rw [show (Finset.univ : Finset (Dev nD)) = insert c (Finset.univ.map ⟨fun r => pv r c, pv_inj c⟩) by revert c; decide,
    bigSep_insert (by revert c; decide), bigSep_map]; rfl

theorem bigSep_rv (Φ : Fin 7 → sProp 𝕄) : bigSep Finset.univ Φ = bigSep Finset.univ fun r => Φ (rv r) :=
  bigSep_univ_equiv ⟨rv, rv, rv_rv, rv_rv⟩ Φ

theorem bigSep_pv_nx (c : Dev nD) (Φ : Dev nD → sProp 𝕄) : (bigSep Finset.univ fun r => Φ (pv r c)) = bigSep Finset.univ fun r => Φ (nx r c) := by
  rw [bigSep_rv]; exact bigSep_congr fun r _ => by rw [pv_rv]

end Cert.KernelIdeal.Att

end
-- ==== Proof.Phase1.lean ====
module

public import proofs.«01_k».proof.Proof.Split

@[expose] public section

set_option maxRecDepth 65536

noncomputable section

/-! The barrier, the copies of keys and values, and the attention. -/

namespace Cert.KernelIdeal.Att

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ) (κ : GSem nD τ sig → ℕ)

/-! ## What every device knows -/

/-- The invariants of all cells, and the levels. -/
def Ctx : sProp 𝕄 :=
  iprop((bigSep Finset.univ fun c : Dev nD => cinv (sched m) κ (barC c))
    ∗ (bigSep Finset.univ fun p : Dev nD × Fin 8 × Dev nD => cinv (sched m) κ (xC p.1 p.2.1 p.2.2)) ∗ levAts L lv)

instance ctx_persistent : BI.Persistent (Ctx m κ) := by unfold Ctx; infer_instance

theorem ctx_bar (c : Dev nD) : Ctx m κ ⊢ cinv (sched m) κ (barC c) := by
  unfold Ctx
  iintro ⟨H, -, -⟩
  iapply (show (bigSep Finset.univ fun c : Dev nD => cinv (sched m) κ (barC c) : sProp 𝕄) ⊢ cinv (sched m) κ (barC c) from bigSep_elim (Finset.mem_univ c))
  iexact H
theorem ctx_x (c : Dev nD) (a : Fin 8) (s : Dev nD) : Ctx m κ ⊢ cinv (sched m) κ (xC c a s) := by
  unfold Ctx
  iintro ⟨-, H, -⟩
  iapply (show (bigSep Finset.univ fun p : Dev nD × Fin 8 × Dev nD => cinv (sched m) κ (xC p.1 p.2.1 p.2.2) : sProp 𝕄) ⊢ cinv (sched m) κ (xC c a s) from
    bigSep_elim (Finset.mem_univ (c, a, s)))
  iexact H
theorem ctx_lev : Ctx m κ ⊢ levAts L lv := by
  unfold Ctx
  iintro ⟨-, -, H⟩; iexact H

theorem ctx_may (c : Dev nD) (sm : SemLoc sig) {n : ℕ} (h : lv (gcell c sm) () ≤ n) {O : CellTallies nD τ sig Unit} (ho : Above n O) :
    Ctx m κ ⊢ MayWait (c : Thread nD τ) sm () O := (ctx_lev m κ).trans (mayWait c sm h ho)

/-! ## The cells of a lane -/

theorem lv_sIn (c : Dev nD) (b : Bool) : lv (gcell c (.dma (lane b).sIn)) () ≤ 0 := by
  rw [lv_none c _ (by cases b <;> decide)]
theorem lv_sOut (c : Dev nD) (b : Bool) : lv (gcell c (.dma (lane b).sOut)) () ≤ 0 := by
  rw [lv_none c _ (by cases b <;> decide)]
theorem amt_snd (b : Bool) : amt (snd b) = NK := by cases b <;> rfl
theorem amt_rcv (b : Bool) : amt (rcv b) = NK := by cases b <;> rfl
theorem lvA_snd (b : Bool) : lvA (snd b) = 0 := by cases b <;> rfl
theorem lvA_rcv (b : Bool) : lvA (rcv b) = 2 := by cases b <;> rfl
theorem xPay_snd (c : Dev nD) (b : Bool) (s : Dev nD) : xPay m c (snd b) s = iprop(emp) := by cases b <;> rfl
theorem xPay_rcv (c : Dev nD) (b : Bool) (s : Dev nD) : xPay m c (rcv b) s = full c (slotM b s) (kvV m b s c) := by cases b <;> rfl
theorem credit_slot (b : Bool) (s : Dev nD) : (slotM b s).view.dmaCredit = NK := by cases b <;> rfl
theorem credit_stage (b : Bool) (r : Fin 7) : (stageM b r).view.dmaCredit = NK := by cases b <;> rfl

/-- A local copy started and finished, then what follows. -/
theorem run_copies {sp sp' : Space} {s : Shape} {e : EltTy} (c : Dev nD) {src : Memref sig .tc sp s e} {dst : Memref sig .tc sp' s e} {sm : DmaSem sig} {hsrc hsrc' : src.view.WordExact}
    {hdst hdst' : dst.view.WordExact} {hsem : DmaTarget.Typed (nD := nD) (p := (.tc : Proc τ)) sp (.dma sm) (.here dst)} {q : PosShare TreeShare} {X : s.Idx → Elt F e} {O : CellTallies nD τ sig Unit}
    (hpos : 0 < s.numel) {K : PUnit → sProp 𝕄} :
    iprop(owns (c : Thread nD τ) src q X ∗ any c dst ∗ semVal (gcell c (.dma sm)) 0 ∗ debt c O ∗ MayWait (c : Thread nD τ) (.dma sm) () O
        ∗ ((owns (c : Thread nD τ) src q X ∗ full c dst X ∗ semVal (gcell c (.dma sm)) 0 ∗ debt c O) -∗ K ⟨⟩))
      ⊢ run c (Prog.lift (.enqueueDma src (.here dst) (.dma sm) hsrc hdst hsem)) fun _ => run c (Prog.lift (.waitDma2 sm src dst hsrc' hdst')) K :=
  (run_copy c hpos).trans (Entails.of_eq (run_bind c K _ _))

/-! ## Sending -/

/-- What a lane needs to stage a block. -/
def laneRes (b : Bool) (c : Dev nD) : sProp 𝕄 :=
  iprop(full c (lane b).src (srcV m b c) ∗ any c (lane b).ld ∗ any c (lane b).c16 ∗ semVal (gcell c (.dma (lane b).sIn)) 0 ∗ semVal (gcell c (.dma (lane b).sOut)) 0)
/-- What a hop of a lane uses up. -/
def sendA (b : Bool) (c : Dev nD) (r : Fin 7) : sProp 𝕄 :=
  iprop(any c (stageM b r) ∗ any (nx r c) (slotM b c) ∗ dutyTok ER (xC c (snd b) (nx r c)) 0 0 ∗ reached ER (xC c (snd b) (nx r c)) 0
    ∗ dutyTok ER (xC (nx r c) (rcv b) c) 0 0 ∗ reached ER (xC (nx r c) (rcv b) c) 0)
/-- What a hop of a lane leaves to wait for. -/
def sendB (b : Bool) (c : Dev nD) (r : Fin 7) : sProp 𝕄 := cred (tallyAt (xC c (snd b) (nx r c)) () NK)

theorem run_hopSend (b : Bool) (c : Dev nD) (r : Fin 7) {dev : Dev nD} (hdev : dev = nx r c) {O : CellTallies nD τ sig Unit}
    (hO : Above 0 (O + owX (rcv b) c r)) (K : PUnit → sProp 𝕄) :
    iprop(Ctx m κ ∗ laneRes m b c ∗ sendA b c r ∗ debt c (O + owX (rcv b) c r) ∗ ((laneRes m b c ∗ sendB b c r ∗ debt c O) -∗ K ⟨⟩))
      ⊢ run c (hopSend (lane b) k0_pay1 c r dev) K := by
  subst hdev
  unfold hopSend laneRes sendA sendB
  simp only [off1_eq, off2_eq, off3_eq, off4_eq, sSend_ix, sRecv_ix]
  iintro ⟨#HC, ⟨Hsrc, Hld, H16, HvI, HvO⟩, ⟨Hst, Hsl, Ht₁, Hr₁, Ht₂, Hr₂⟩, HO, HK⟩
  ihave HmI := (ctx_may m κ c (.dma (lane b).sIn) (lv_sIn c b) hO) $$ HC
  ihave HmO := (ctx_may m κ c (.dma (lane b).sOut) (lv_sOut c b) hO) $$ HC
  ihave Hb := (borrow c (lane b).src (headsR (nx r c)) (fun _ => rfl) fullShare (srcV m b c)) $$ Hsrc
  icases Hb with ⟨Hh, Hback⟩
  ihave Hh := (Entails.of_eq (squeeze_owns c ((lane b).src.slice (headsR (nx r c)) (fun _ => rfl)) squeezes_S1x1024x8x128_S1024x8x128 fullShare
    (fun j => srcV m b c ((headsR (nx r c)).emb j))).symm) $$ Hh
  simp only [run_bind]
  iapply (run_copies c (by decide)) $$ [-]
  isplitl [Hh]; · iexact Hh
  isplitl [Hld]; · iexact Hld
  isplitl [HvI]; · iexact HvI
  isplitl [HO]; · iexact HO
  isplitl [HmI]; · iexact HmI
  iintro ⟨Hh, Hld, HvI, HO⟩
  ihave Hh := (Entails.of_eq (squeeze_owns c ((lane b).src.slice (headsR (nx r c)) (fun _ => rfl)) squeezes_S1x1024x8x128_S1024x8x128 fullShare
    (fun j => srcV m b c ((headsR (nx r c)).emb j)))) $$ Hh
  ihave Hsrc := Hback $$ Hh
  iapply (run_loadAll c) $$ [-]
  isplitl [Hld]; · iexact Hld
  iintro Hld
  icases H16 with ⟨%X16, H16⟩
  iapply (run_loadAll c) $$ [-]
  isplitl [H16]; · iexact H16
  iintro H16
  iapply (run_storeAll c) $$ [-]
  isplitl [H16]; · iexists X16; iexact H16
  iintro H16
  iapply (run_copies c (by decide)) $$ [-]
  isplitl [H16]; · iexact H16
  isplitl [Hst]; · iexact Hst
  isplitl [HvO]; · iexact HvO
  isplitl [HO]; · iexact HO
  isplitl [HmO]; · iexact HmO
  iintro ⟨H16, Hst, HvO, HO⟩
  iapply (run_send c (sched m) κ (src := stageM b r) (dst := slotM b c) (sS := semIx (snd b) (nx r c)) (sR := semIx (rcv b) c) (n := nx r c) (q := fullShare)
    (X := kvV m b c (nx r c)) (d₁ := 0) (d₂ := 0) (P := iprop(emp)) (O₀ := O + owX (rcv b) c r) (credit_slot b c)
    (by rw [duties_x m c _ _ (nx_ne r c)]; exact Finset.mem_singleton_self _) (by rw [duties_x m _ _ _ (nx_ne r c).symm]; exact Finset.mem_singleton_self _)
    ((amount_x m c _ _ 0).trans (amt_snd b)) ((amount_x m _ _ _ 0).trans (amt_rcv b)) (O := O) (by unfold owX; rw [amt_rcv])
    (by rw [payload_x, xPay_snd]; iintro -; iempintro) (by rw [payload_x, xPay_rcv]; iintro ⟨H, -⟩; iexact H)) $$ [-]
  isplitr; · iapply (ctx_x m κ c (snd b) (nx r c)); iexact HC
  isplitr; · iapply (ctx_x m κ (nx r c) (rcv b) c); iexact HC
  isplitl [Hst]; · iexact Hst
  isplitl [Hsl]; · iexact Hsl
  isplitr; · iempintro
  isplitl [HO]; · iexact HO
  isplitl [Ht₁]; · iexact Ht₁
  isplitl [Hr₁]; · iexact Hr₁
  isplitl [Ht₂]; · iexact Ht₂
  isplitl [Hr₂]; · iexact Hr₂
  iintro ⟨Hc, HO⟩
  iapply HK
  isplitl [Hsrc Hld H16 HvI HvO]
  · isplitl [Hsrc]; · iexact Hsrc
    isplitl [Hld]; · iexists _; iexact Hld
    isplitl [H16]; · iexists _; iexact H16
    isplitl [HvI]; · iexact HvI
    iexact HvO
  isplitl [Hc]; · iexact Hc
  iexact HO

/-- What a hop of a lane waits for, at the cell's position. -/
def recvA (b : Bool) (c : Dev nD) (r : Fin 7) : sProp 𝕄 :=
  iprop(cred (tallyAt (xC c (rcv b) (pv r c)) () NK) ∗ atPos ER (xC c (rcv b) (pv r c)) 0 ∅ 0)

/-- A hop's block received and brought in. -/
theorem run_hopRecv (b : Bool) (c : Dev nD) (r : Fin 7) {O : CellTallies nD τ sig Unit} (hO : Above 2 O) (K : PUnit → sProp 𝕄) :
    iprop(Ctx m κ ∗ any c (lane b).buf ∗ semVal (gcell c (.dma (lane b).sIn)) 0 ∗ recvA b c r ∗ debt c O
        ∗ ((full c (lane b).buf (kvV m b (pv r c) c) ∗ semVal (gcell c (.dma (lane b).sIn)) 0 ∗ atPos ER (xC c (rcv b) (pv r c)) 1 ∅ 0 ∗ debt c O) -∗ K ⟨⟩))
      ⊢ run c (hopRecv (lane b) c r) K := by
  unfold hopRecv recvA
  simp only [off6_eq, off7_eq, sRecv_ix, run_bind]
  iintro ⟨#HC, Hb, HvI, ⟨Hc, Ha⟩, HO, HK⟩
  ihave Hm := (ctx_may m κ c (.dma (semIx (rcv b) (pv r c))) (n := 2) (by rw [lv_x, lvA_rcv]) hO) $$ HC
  ihave HmI := (ctx_may m κ c (.dma (lane b).sIn) (lv_sIn c b) (hO.mono (by decide))) $$ HC
  iapply (run_wait c (sched m) κ (d := 0) (N := NK) (sm := semIx (rcv b) (pv r c)) (dstw := slotM b (pv r c)) (P := full c (slotM b (pv r c)) (kvV m b (pv r c) c))
    (credit_slot b (pv r c)) (duties_x m c _ _ (pv_ne r c)) ((amount_x m c _ _ 0).trans (amt_rcv b)) (Entails.of_eq ((payload_x m c _ _ 0).trans (xPay_rcv m c b _)))) $$ [-]
  isplitr; · iapply (ctx_x m κ c (rcv b) (pv r c)); iexact HC
  isplitl [Hc]; · iexact Hc
  isplitl [HO]; · iexact HO
  isplitl [Hm]; · iexact Hm
  isplitl [Ha]; · iexact Ha
  iintro ⟨HO, Ha, Hs⟩
  iapply (run_copies c (by decide)) $$ [-]
  isplitl [Hs]; · iexact Hs
  isplitl [Hb]; · iexact Hb
  isplitl [HvI]; · iexact HvI
  isplitl [HO]; · iexact HO
  isplitl [HmI]; · iexact HmI
  iintro ⟨-, Hb, HvI, HO⟩
  iapply HK
  isplitl [Hb]; · iexact Hb
  isplitl [HvI]; · iexact HvI
  isplitl [Ha]; · iexact Ha
  iexact HO

/-- A hop's copy has left. -/
theorem run_hopDone (b : Bool) (c : Dev nD) (r : Fin 7) (K : PUnit → sProp 𝕄) :
    iprop(Ctx m κ ∗ sendB b c r ∗ atPos ER (xC c (snd b) (nx r c)) 0 ∅ 0 ∗ debt c 0 ∗ ((atPos ER (xC c (snd b) (nx r c)) 1 ∅ 0 ∗ debt c 0) -∗ K ⟨⟩))
      ⊢ run c (hopDone (lane b) c r) K := by
  unfold hopDone sendB
  simp only [off2_eq, off4_eq, sSend_ix]
  iintro ⟨#HC, Hc, Ha, HO, HK⟩
  ihave Hm := (ctx_may m κ c (.dma (semIx (snd b) (nx r c))) (n := 0) (by rw [lv_x, lvA_snd]) Above.zero) $$ HC
  iapply (run_wait c (sched m) κ (d := 0) (N := NK) (sm := semIx (snd b) (nx r c)) (dstw := stageM b r) (P := iprop(emp))
    (credit_stage b r) (duties_x m c _ _ (nx_ne r c)) ((amount_x m c _ _ 0).trans (amt_snd b)) (Entails.of_eq ((payload_x m c _ _ 0).trans (xPay_snd m c b _)))) $$ [-]
  isplitr; · iapply (ctx_x m κ c (snd b) (nx r c)); iexact HC
  isplitl [Hc]; · iexact Hc
  isplitl [HO]; · iexact HO
  isplitl [Hm]; · iexact Hm
  isplitl [Ha]; · iexact Ha
  iintro ⟨HO, Ha, -⟩
  iapply HK
  isplitl [Ha]; · iexact Ha
  iexact HO

/-! ## The barrier -/

/-- What a signal uses up. -/
def sigA (c : Dev nD) (r : Fin 7) : sProp 𝕄 :=
  iprop(dutyTok ER (barC (nx r c)) 0 (rv r) ∗ barPay (nx r c) (rv r) ∗ reached ER (barC (nx r c)) 0)

theorem run_barSig (c : Dev nD) (r : Fin 7) {dev : Dev nD} (hdev : dev = nx r c) (O : CellTallies nD τ sig Unit) (K : PUnit → sProp 𝕄) :
    iprop(Ctx m κ ∗ sigA c r ∗ debt c (O + owB c r) ∗ (debt c O -∗ K ⟨⟩)) ⊢ run c (barSig dev) K := by
  subst hdev
  unfold barSig sigA
  simp only [semSignalWord]
  iintro ⟨#HC, ⟨Ht, Hp, Hr⟩, ⟨%W, HO⟩, HK⟩
  iapply (Rounds.wp_signal 𝒱₀ ER (sched m) (c : Thread nD τ) none (dst := (nx r c : Thread nD τ)) (κ := κ (barC (nx r c))) (d := rv r)
    (by rw [duties_bar]; exact Finset.mem_univ _) ((amount_bar m _ _).trans (by decide)) () (O₀ := O + owB c r) O rfl) $$ [Ht Hp Hr HO]
  · isplitr; · iapply (ctx_bar m κ (nx r c)); iexact HC
    isplitl [HO]; · iexact HO
    isplitl [Ht]; · iexact Ht
    isplitl [Hp]; · rw [payload_bar]; iexact Hp
    iexact Hr
  iintro HO
  rw [wp_ret]; imodintro
  iapply HK
  iexists W; iexact HO

theorem run_barWait (c : Dev nD) {O : CellTallies nD τ sig Unit} (hO : Above 1 O) (K : PUnit → sProp 𝕄) :
    iprop(Ctx m κ ∗ cred (tallyAt (barC c) () 7) ∗ atPos ER (barC c) 0 ∅ 0 ∗ debt c O
        ∗ ((atPos ER (barC c) 1 ∅ 0 ∗ debt c O ∗ bigSep Finset.univ fun d => barPay c d) -∗ K ⟨⟩)) ⊢ run c barWait K := by
  unfold barWait
  simp only [semWaitWord]
  iintro ⟨#HC, Hc, Ha, ⟨%W, HO⟩, HK⟩
  ihave Hm := (ctx_may m κ c (.reg barS) (n := 1) (by rw [lv_bar]) hO) $$ HC
  iapply (Rounds.wp_wait_rest_token 𝒱₀ ER (sched m) (c : Thread nD τ) none (κ := κ (barC c)) (wpE_semWait_eq 𝒱₀ (c : Thread nD τ) none Set.univ) (Set.mem_univ _) ()
    (O := O) (W := W) (R := 0) (m := 0) (T := ∅) (by rw [expect_bar]; decide)) $$ [Hc Ha HO Hm]
  · isplitr; · iapply (ctx_bar m κ c); iexact HC
    isplitl [Hc]; · iexact Hc
    isplitl [HO]; · iexact HO
    isplitl [Hm]; · iexact Hm
    iexact Ha
  iintro ⟨HO, Ha, -, Hp⟩
  ihave Hp := (Entails.of_eq (show bigSep ((sched m).duties (barC c) 0 \ ∅) (fun d => (sched m).payload (barC c) 0 d) = bigSep Finset.univ fun d => barPay c d by
    rw [Finset.sdiff_empty, duties_bar]; exact bigSep_congr fun d _ => payload_bar m c d)) $$ Hp
  rw [wp_ret]; imodintro
  iapply HK
  isplitl [Ha]; · iexact Ha
  isplitl [HO]; · iexists _; iexact HO
  iexact Hp

/-! ## Barrier and sends -/

/-- What a hop of a lane has from the start. -/
def tokA (b : Bool) (c : Dev nD) (r : Fin 7) : sProp 𝕄 :=
  iprop(any c (stageM b r) ∗ dutyTok ER (xC c (snd b) (nx r c)) 0 0 ∗ reached ER (xC c (snd b) (nx r c)) 0 ∗ dutyTok ER (xC (nx r c) (rcv b) c) 0 0)
/-- What is kept of a peer's signal for the exchange of sums. -/
def sumKeep (c : Dev nD) (r : Fin 7) : sProp 𝕄 :=
  iprop(any (nx r c) (rslotM c) ∗ reached ER (xC (nx r c) 5 c) 0 ∗ reached ER (xC (nx r c) 7 c) 0)

theorem sendA_intro (c : Dev nD) (r : Fin 7) :
    (iprop(barPay c r ∗ tokA false c r ∗ tokA true c r) : sProp 𝕄) ⊢ iprop((sendA false c r ∗ sendA true c r) ∗ sumKeep c r) := by
  unfold barPay tokA sendA sumKeep
  iintro ⟨⟨Hk, Hv, Hs, R1, R3, R5, R7⟩, ⟨A1, A2, A3, A4⟩, B1, B2, B3, B4⟩
  isplitr [Hs R5 R7]
  · isplitl [Hk A1 A2 A3 A4 R1]
    · isplitl [A1]; · iexact A1
      isplitl [Hk]; · iexact Hk
      isplitl [A2]; · iexact A2
      isplitl [A3]; · iexact A3
      isplitl [A4]; · iexact A4
      iexact R1
    isplitl [B1]; · iexact B1
    isplitl [Hv]; · iexact Hv
    isplitl [B2]; · iexact B2
    isplitl [B3]; · iexact B3
    isplitl [B4]; · iexact B4
    iexact R3
  isplitl [Hs]; · iexact Hs
  isplitl [R5]; · iexact R5
  iexact R7

theorem run_phaseSend (c : Dev nD) (K : PUnit → sProp 𝕄) :
    iprop(Ctx m κ ∗ debt c (O₀ c) ∗ (bigSep Finset.univ fun r => sigA c r) ∗ cred (tallyAt (barC c) () 7) ∗ atPos ER (barC c) 0 ∅ 0
        ∗ laneRes m false c ∗ laneRes m true c ∗ (bigSep Finset.univ fun r => tokA false c r) ∗ (bigSep Finset.univ fun r => tokA true c r)
        ∗ ((debt c (OR c 0) ∗ atPos ER (barC c) 1 ∅ 0 ∗ laneRes m false c ∗ laneRes m true c
            ∗ (bigSep Finset.univ fun r => iprop(sendB false c r ∗ sendB true c r)) ∗ bigSep Finset.univ fun r => sumKeep c r) -∗ K ⟨⟩))
      ⊢ run c (phaseSend c) K := by
  unfold phaseSend
  simp only [run_bind]
  iintro ⟨#HC, HO, Hsig, Hc, Ha, HL0, HL1, HT0, HT1, HK⟩
  iapply (run_hops c (fun r => barSig (devB r c)) (fun k => iprop(Ctx m κ ∗ debt c (OB c k))) (fun r => sigA c r) (fun _ => iprop(emp)) (fun r K => by
    iintro ⟨⟨#HC, HO⟩, HA, HK⟩
    iapply (run_barSig m κ c r (devB_eq r c) (OB c (r.val + 1)) K)
    isplitr; · iexact HC
    isplitl [HA]; · iexact HA
    isplitl [HO]; · rw [← OB_step]; iexact HO
    iintro HO
    iapply HK
    isplitl [HO]
    · isplitr; · iexact HC
      iexact HO
    iempintro)) $$ [-]
  isplitl [HO]
  · isplitr; · iexact HC
    iexact HO
  isplitl [Hsig]; · iexact Hsig
  iintro ⟨⟨-, HO⟩, -⟩
  rw [OB_last]
  iapply (run_barWait m κ c (above_OK c 0)) $$ [-]
  isplitr; · iexact HC
  isplitl [Hc]; · iexact Hc
  isplitl [Ha]; · iexact Ha
  isplitl [HO]; · iexact HO
  iintro ⟨Ha, HO, HP⟩
  ihave HA := (show iprop((bigSep Finset.univ fun d => barPay c d) ∗ (bigSep Finset.univ fun r => tokA false c r) ∗ (bigSep Finset.univ fun r => tokA true c r))
      ⊢ (iprop((bigSep Finset.univ fun r => iprop(sendA false c r ∗ sendA true c r)) ∗ bigSep Finset.univ fun r => sumKeep c r) : sProp 𝕄) by
    rw [← bigSep_sep', ← bigSep_sep', ← bigSep_sep']
    exact bigSep_mono fun r _ => sendA_intro c r) $$ [HP HT0 HT1]
  · isplitl [HP]; · iexact HP
    isplitl [HT0]; · iexact HT0
    iexact HT1
  icases HA with ⟨HA, Hkeep⟩
  iapply (run_hops c _ (fun k => iprop(Ctx m κ ∗ laneRes m false c ∗ laneRes m true c ∗ debt c (OK c k))) (fun r => iprop(sendA false c r ∗ sendA true c r))
    (fun r => iprop(sendB false c r ∗ sendB true c r)) (fun r K => by
    simp only [run_bind]
    iintro ⟨⟨#HC, HL0, HL1, HO⟩, ⟨HA0, HA1⟩, HK⟩
    iapply (run_hopSend m κ false c r (devK_eq r c) (O := OK c (r.val + 1) + owX 3 c r) (by
      show Above 0 (OK c (r.val + 1) + owX 3 c r + owX 1 c r); rw [← OK_step]; exact (above_OK c _).mono (by decide))) $$ [-]
    isplitr; · iexact HC
    isplitl [HL0]; · iexact HL0
    isplitl [HA0]; · iexact HA0
    isplitl [HO]; · iapply (Entails.of_eq (congrArg (fun O => debt (F := F) c O) (OK_step c r))); iexact HO
    iintro ⟨HL0, HB0, HO⟩
    iapply (run_hopSend m κ true c r (devV_eq r c) (O := OK c (r.val + 1)) (by
      exact ((above_OK c _).mono (by decide)).add (above_x 3 c r (by decide)))) $$ [-]
    isplitr; · iexact HC
    isplitl [HL1]; · iexact HL1
    isplitl [HA1]; · iexact HA1
    isplitl [HO]; · iexact HO
    iintro ⟨HL1, HB1, HO⟩
    iapply HK
    isplitl [HL0 HL1 HO]
    · isplitr; · iexact HC
      isplitl [HL0]; · iexact HL0
      isplitl [HL1]; · iexact HL1
      iexact HO
    isplitl [HB0]; · iexact HB0
    iexact HB1)) $$ [-]
  isplitl [HL0 HL1 HO]
  · isplitr; · iexact HC
    isplitl [HL0]; · iexact HL0
    isplitl [HL1]; · iexact HL1
    iexact HO
  isplitl [HA]; · iexact HA
  iintro ⟨⟨-, HL0, HL1, HO⟩, HB⟩
  rw [OK_last]
  iapply HK
  isplitl [HO]; · iexact HO
  isplitl [Ha]; · iexact Ha
  isplitl [HL0]; · iexact HL0
  isplitl [HL1]; · iexact HL1
  isplitl [HB]; · iexact HB
  iexact Hkeep

/-! ## The attention -/

theorem fetchQ_eq : fetchQ (F := F) = (do
    Prog.lift (.enqueueDma (Memref.whole main_v1) (.here (lane false).ld) (.dma (lane false).sIn) (Memref.isWhole_whole main_v1).wordExact (lane false).hld.wordExact ⟨Or.inl rfl, trivial⟩)
    Prog.lift (.enqueueDma (Memref.whole main_v2) (.here (lane true).ld) (.dma (lane true).sIn) (Memref.isWhole_whole main_v2).wordExact (lane true).hld.wordExact ⟨Or.inl rfl, trivial⟩)
    Prog.lift (.waitDma2 (lane false).sIn (Memref.whole main_v1) (lane false).ld (Memref.isWhole_whole main_v1).wordExact (lane false).hld.wordExact)
    Prog.lift (.waitDma2 (lane true).sIn (Memref.whole main_v2) (lane true).ld (Memref.isWhole_whole main_v2).wordExact (lane true).hld.wordExact)) := rfl

/-- What a lane needs to bring blocks in. -/
def laneIn (b : Bool) (c : Dev nD) : sProp 𝕄 := iprop(any c (lane b).buf ∗ semVal (gcell c (.dma (lane b).sIn)) 0)

/-- One hop's block folded into the states, and on. -/
theorem run_hopFold (c : Dev nD) (r : Fin 7) (f : Cont F (Prg F PUnit)) (s : Sts F) (Q : PUnit → sProp 𝕄) :
    iprop(Ctx m κ ∗ debt c (OR c 0) ∗ laneIn false c ∗ laneIn true c ∗ recvA false c r ∗ recvA true c r
        ∗ ((debt c (OR c 0) ∗ laneIn false c ∗ laneIn true c ∗ atPos ER (xC c 1 (pv r c)) 1 ∅ 0 ∗ atPos ER (xC c 3 (pv r c)) 1 ∅ 0) -∗ run c (goOn f (attStep m c r s)) Q))
      ⊢ run c (goOn (hopFold (qV m c) c r f) s) Q := by
  unfold laneIn
  show _ ⊢ run c (do
    hopRecv (lane false) c r
    hopRecv (lane true) c r
    let k ← loadAll (lane false).buf
    let v ← loadAll (lane true).buf
    goOn (fun m0 l0 a0 m1 l1 a1 m2 l2 a2 m3 l3 a3 => rawHop (qV m c) k v m0 l0 a0 m1 l1 a1 m2 l2 a2 m3 l3 a3 f r) s) Q
  simp only [rawHop_eq, run_bind]
  iintro ⟨#HC, HO, ⟨Hb0, Hv0⟩, ⟨Hb1, Hv1⟩, HA0, HA1, HK⟩
  iapply (run_hopRecv m κ false c r (above_OR c 0)) $$ [-]
  isplitr; · iexact HC
  isplitl [Hb0]; · iexact Hb0
  isplitl [Hv0]; · iexact Hv0
  isplitl [HA0]; · iexact HA0
  isplitl [HO]; · iexact HO
  iintro ⟨Hb0, Hv0, Ha0, HO⟩
  iapply (run_hopRecv m κ true c r (above_OR c 0)) $$ [-]
  isplitr; · iexact HC
  isplitl [Hb1]; · iexact Hb1
  isplitl [Hv1]; · iexact Hv1
  isplitl [HA1]; · iexact HA1
  isplitl [HO]; · iexact HO
  iintro ⟨Hb1, Hv1, Ha1, HO⟩
  iapply (run_loadAll c) $$ [-]
  isplitl [Hb0]; · iexact Hb0
  iintro Hb0
  iapply (run_loadAll c) $$ [-]
  isplitl [Hb1]; · iexact Hb1
  iintro Hb1
  iapply HK
  isplitl [HO]; · iexact HO
  isplitl [Hb0 Hv0]
  · isplitl [Hb0]; · iexists _; iexact Hb0
    iexact Hv0
  isplitl [Hb1 Hv1]
  · isplitl [Hb1]; · iexists _; iexact Hb1
    iexact Hv1
  isplitl [Ha0]; · iexact Ha0
  iexact Ha1

/-- Where a hop leaves its cells. -/
def recvB (c : Dev nD) (r : Fin 7) : sProp 𝕄 := iprop(atPos ER (xC c 1 (pv r c)) 1 ∅ 0 ∗ atPos ER (xC c 3 (pv r c)) 1 ∅ 0)

/-- The seven hops' blocks folded into the states, and on. -/
theorem run_hopFolds (c : Dev nD) (f : Cont F (Prg F PUnit)) (s : Sts F) (Q : PUnit → sProp 𝕄) :
    iprop(Ctx m κ ∗ debt c (OR c 0) ∗ laneIn false c ∗ laneIn true c ∗ (bigSep Finset.univ fun r => iprop(recvA false c r ∗ recvA true c r))
        ∗ ((debt c (OR c 0) ∗ laneIn false c ∗ laneIn true c ∗ bigSep Finset.univ fun r => recvB c r) -∗
            run c (goOn f (attStep m c 6 (attStep m c 5 (attStep m c 4 (attStep m c 3 (attStep m c 2 (attStep m c 1 (attStep m c 0 s)))))))) Q))
      ⊢ run c (goOn (hopFold (qV m c) c 0 <| hopFold (qV m c) c 1 <| hopFold (qV m c) c 2 <| hopFold (qV m c) c 3 <| hopFold (qV m c) c 4 <| hopFold (qV m c) c 5 <| hopFold (qV m c) c 6 f) s) Q := by
  simp only [bigSep_fin7]
  iintro ⟨#HC, HO, HI0, HI1, ⟨⟨A0, B0⟩, ⟨A1, B1⟩, ⟨A2, B2⟩, ⟨A3, B3⟩, ⟨A4, B4⟩, ⟨A5, B5⟩, A6, B6⟩, HK⟩
  iapply (run_hopFold m κ c 0 _ _ Q) $$ [-]
  isplitr; · iexact HC
  isplitl [HO]; · iexact HO
  isplitl [HI0]; · iexact HI0
  isplitl [HI1]; · iexact HI1
  isplitl [A0]; · iexact A0
  isplitl [B0]; · iexact B0
  iintro ⟨HO, HI0, HI1, A0, B0⟩
  iapply (run_hopFold m κ c 1 _ _ Q) $$ [-]
  isplitr; · iexact HC
  isplitl [HO]; · iexact HO
  isplitl [HI0]; · iexact HI0
  isplitl [HI1]; · iexact HI1
  isplitl [A1]; · iexact A1
  isplitl [B1]; · iexact B1
  iintro ⟨HO, HI0, HI1, A1, B1⟩
  iapply (run_hopFold m κ c 2 _ _ Q) $$ [-]
  isplitr; · iexact HC
  isplitl [HO]; · iexact HO
  isplitl [HI0]; · iexact HI0
  isplitl [HI1]; · iexact HI1
  isplitl [A2]; · iexact A2
  isplitl [B2]; · iexact B2
  iintro ⟨HO, HI0, HI1, A2, B2⟩
  iapply (run_hopFold m κ c 3 _ _ Q) $$ [-]
  isplitr; · iexact HC
  isplitl [HO]; · iexact HO
  isplitl [HI0]; · iexact HI0
  isplitl [HI1]; · iexact HI1
  isplitl [A3]; · iexact A3
  isplitl [B3]; · iexact B3
  iintro ⟨HO, HI0, HI1, A3, B3⟩
  iapply (run_hopFold m κ c 4 _ _ Q) $$ [-]
  isplitr; · iexact HC
  isplitl [HO]; · iexact HO
  isplitl [HI0]; · iexact HI0
  isplitl [HI1]; · iexact HI1
  isplitl [A4]; · iexact A4
  isplitl [B4]; · iexact B4
  iintro ⟨HO, HI0, HI1, A4, B4⟩
  iapply (run_hopFold m κ c 5 _ _ Q) $$ [-]
  isplitr; · iexact HC
  isplitl [HO]; · iexact HO
  isplitl [HI0]; · iexact HI0
  isplitl [HI1]; · iexact HI1
  isplitl [A5]; · iexact A5
  isplitl [B5]; · iexact B5
  iintro ⟨HO, HI0, HI1, A5, B5⟩
  iapply (run_hopFold m κ c 6 _ _ Q) $$ [-]
  isplitr; · iexact HC
  isplitl [HO]; · iexact HO
  isplitl [HI0]; · iexact HI0
  isplitl [HI1]; · iexact HI1
  isplitl [A6]; · iexact A6
  isplitl [B6]; · iexact B6
  iintro ⟨HO, HI0, HI1, A6, B6⟩
  iapply HK
  isplitl [HO]; · iexact HO
  isplitl [HI0]; · iexact HI0
  isplitl [HI1]; · iexact HI1
  unfold recvB
  isplitl [A0 B0]
  · isplitl [A0]; · iexact A0
    iexact B0
  isplitl [A1 B1]
  · isplitl [A1]; · iexact A1
    iexact B1
  isplitl [A2 B2]
  · isplitl [A2]; · iexact A2
    iexact B2
  isplitl [A3 B3]
  · isplitl [A3]; · iexact A3
    iexact B3
  isplitl [A4 B4]
  · isplitl [A4]; · iexact A4
    iexact B4
  isplitl [A5 B5]
  · isplitl [A5]; · iexact A5
    iexact B5
  isplitl [A6]; · iexact A6
  iexact B6

theorem run_phaseAtt (c : Dev nD) (f : Cont F (Prg F PUnit)) (Q : PUnit → sProp 𝕄) :
    iprop(Ctx m κ ∗ debt c (OR c 0) ∗ laneRes m false c ∗ laneRes m true c ∗ full c (Memref.whole main_v1) (V m c main_v1) ∗ full c (Memref.whole main_v2) (V m c main_v2)
        ∗ any c (lane false).buf ∗ any c (lane true).buf ∗ (bigSep Finset.univ fun r => iprop(recvA false c r ∗ recvA true c r))
        ∗ ((debt c (OR c 0) ∗ laneRes m false c ∗ laneRes m true c ∗ any c (lane false).buf ∗ any c (lane true).buf ∗ bigSep Finset.univ fun r => recvB c r) -∗
            run c (goOn f (att m c)) Q))
      ⊢ run c (phaseAtt c f) Q := by
  unfold phaseAtt laneRes ownStart ownDone
  rw [fetchQ_eq]
  simp only [run_bind, off5_eq]
  iintro ⟨#HC, HO, ⟨Hsrc0, Hld0, H160, HvI0, HvO0⟩, ⟨Hsrc1, Hld1, H161, HvI1, HvO1⟩, Hx, Hw, Hb0, Hb1, HA, HK⟩
  ihave Hm0 := (ctx_may m κ c (.dma (lane false).sIn) (lv_sIn c false) ((above_OR c 0).mono (by decide))) $$ HC
  ihave Hm1 := (ctx_may m κ c (.dma (lane true).sIn) (lv_sIn c true) ((above_OR c 0).mono (by decide))) $$ HC
  iapply (run_start c (by decide)) $$ [-]
  isplitl [Hx]; · iexact Hx
  isplitl [Hld0]; · iexact Hld0
  isplitl [HvI0]; · iexact HvI0
  iintro HF0
  iapply (run_start c (by decide)) $$ [-]
  isplitl [Hw]; · iexact Hw
  isplitl [Hld1]; · iexact Hld1
  isplitl [HvI1]; · iexact HvI1
  iintro HF1
  iapply (run_finish c) $$ [-]
  isplitl [HF0]; · iexact HF0
  isplitl [HO]; · iexact HO
  isplitl [Hm0]; · iexact Hm0
  iintro ⟨-, Hld0, HvI0, HO⟩
  iapply (run_finish c) $$ [-]
  isplitl [HF1]; · iexact HF1
  isplitl [HO]; · iexact HO
  isplitl [Hm1]; · iexact Hm1
  iintro ⟨-, Hld1, HvI1, HO⟩
  iapply (run_loadAll c) $$ [-]
  isplitl [Hld0]; · iexact Hld0
  iintro Hld0
  iapply (run_loadAll c) $$ [-]
  isplitl [Hld1]; · iexact Hld1
  iintro Hld1
  ihave Hm0 := (ctx_may m κ c (.dma (lane false).sIn) (lv_sIn c false) ((above_OR c 0).mono (by decide))) $$ HC
  ihave Hm1 := (ctx_may m κ c (.dma (lane true).sIn) (lv_sIn c true) ((above_OR c 0).mono (by decide))) $$ HC
  ihave Hb := (borrow c (lane false).src (headsR c) (fun _ => rfl) fullShare (srcV m false c)) $$ Hsrc0
  icases Hb with ⟨Hh0, Hback0⟩
  ihave Hh0 := (Entails.of_eq (squeeze_owns c ((lane false).src.slice (headsR c) (fun _ => rfl)) squeezes_S1x1024x8x128_S1024x8x128 fullShare
    (fun j => srcV m false c ((headsR c).emb j))).symm) $$ Hh0
  ihave Hb := (borrow c (lane true).src (headsR c) (fun _ => rfl) fullShare (srcV m true c)) $$ Hsrc1
  icases Hb with ⟨Hh1, Hback1⟩
  ihave Hh1 := (Entails.of_eq (squeeze_owns c ((lane true).src.slice (headsR c) (fun _ => rfl)) squeezes_S1x1024x8x128_S1024x8x128 fullShare
    (fun j => srcV m true c ((headsR c).emb j))).symm) $$ Hh1
  iapply (run_start c (by decide)) $$ [-]
  isplitl [Hh0]; · iexact Hh0
  isplitl [Hld0]; · iexists _; iexact Hld0
  isplitl [HvI0]; · iexact HvI0
  iintro HF0
  iapply (run_start c (by decide)) $$ [-]
  isplitl [Hh1]; · iexact Hh1
  isplitl [Hld1]; · iexists _; iexact Hld1
  isplitl [HvI1]; · iexact HvI1
  iintro HF1
  iapply (run_finish c) $$ [-]
  isplitl [HF0]; · iexact HF0
  isplitl [HO]; · iexact HO
  isplitl [Hm0]; · iexact Hm0
  iintro ⟨Hh0, Hld0, HvI0, HO⟩
  iapply (run_finish c) $$ [-]
  isplitl [HF1]; · iexact HF1
  isplitl [HO]; · iexact HO
  isplitl [Hm1]; · iexact Hm1
  iintro ⟨Hh1, Hld1, HvI1, HO⟩
  ihave Hh0 := (Entails.of_eq (squeeze_owns c ((lane false).src.slice (headsR c) (fun _ => rfl)) squeezes_S1x1024x8x128_S1024x8x128 fullShare
    (fun j => srcV m false c ((headsR c).emb j)))) $$ Hh0
  ihave Hsrc0 := Hback0 $$ Hh0
  ihave Hh1 := (Entails.of_eq (squeeze_owns c ((lane true).src.slice (headsR c) (fun _ => rfl)) squeezes_S1x1024x8x128_S1024x8x128 fullShare
    (fun j => srcV m true c ((headsR c).emb j)))) $$ Hh1
  ihave Hsrc1 := Hback1 $$ Hh1
  iapply (run_loadAll c) $$ [-]
  isplitl [Hld0]; · iexact Hld0
  iintro Hld0
  iapply (run_loadAll c) $$ [-]
  isplitl [Hld1]; · iexact Hld1
  iintro Hld1
  rw [rawInit_eq, rawOwn_eq]
  iapply (run_hopFolds m κ c f (att0 m c) Q) $$ [-]
  isplitr; · iexact HC
  isplitl [HO]; · iexact HO
  unfold laneIn
  isplitl [Hb0 HvI0]
  · isplitl [Hb0]; · iexact Hb0
    iexact HvI0
  isplitl [Hb1 HvI1]
  · isplitl [Hb1]; · iexact Hb1
    iexact HvI1
  isplitl [HA]; · iexact HA
  iintro ⟨HO, ⟨Hb0, HvI0⟩, ⟨Hb1, HvI1⟩, HB⟩
  iapply HK
  isplitl [HO]; · iexact HO
  isplitl [Hsrc0 Hld0 H160 HvI0 HvO0]
  · isplitl [Hsrc0]; · iexact Hsrc0
    isplitl [Hld0]; · iexists _; iexact Hld0
    isplitl [H160]; · iexact H160
    isplitl [HvI0]; · iexact HvI0
    iexact HvO0
  isplitl [Hsrc1 Hld1 H161 HvI1 HvO1]
  · isplitl [Hsrc1]; · iexact Hsrc1
    isplitl [Hld1]; · iexists _; iexact Hld1
    isplitl [H161]; · iexact H161
    isplitl [HvI1]; · iexact HvI1
    iexact HvO1
  isplitl [Hb0]; · iexact Hb0
  isplitl [Hb1]; · iexact Hb1
  iexact HB

end Cert.KernelIdeal.Att

end
-- ==== Proof.Phase2.lean ====
module

public import proofs.«01_k».proof.Proof.Phase1

@[expose] public section

set_option maxRecDepth 65536

noncomputable section

/-! The projection, and the exchange of partial sums and finished rows. -/

namespace Cert.KernelIdeal.Att

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ) (κ : GSem nD τ sig → ℕ)

/-! ## The projection -/

theorem run_storeSlab (c : Dev nD) (r g : Fin 4) (w : FVec F S64x8x128 .f32) (K : PUnit → sProp 𝕄) :
    iprop(any c ((Memref.whole cc0_scratch0).slice (slabR (r, g)) (fun _ => rfl)) ∗ (full c ((Memref.whole cc0_scratch0).slice (slabR (r, g)) (fun _ => rfl)) w -∗ K ⟨⟩))
      ⊢ run c (storeSlab r g w) K := by
  unfold storeSlab
  simp only [run_bind]
  iintro ⟨⟨%X, H⟩, HK⟩
  iapply (run_load c (r := slabR (r, g)) (fun _ => rfl)) $$ [-]
  isplitl [H]; · iexact H
  iintro H
  iapply (run_store c (r := slabR (r, g)) (fun _ => rfl)) $$ [-]
  isplitl [H]; · iexists X; iexact H
  iexact HK

theorem bigSep_fin4 (Φ : Fin 4 → sProp 𝕄) : bigSep Finset.univ Φ = iprop(Φ 0 ∗ Φ 1 ∗ Φ 2 ∗ Φ 3) := by
  rw [bigSep_univ_eq_bigSepL [0, 1, 2, 3] (by decide) (by decide)]; rfl

theorem run_storeSlabs (c : Dev nD) (r : Fin 4) (a : St F) (K : PUnit → sProp 𝕄) :
    iprop((bigSep Finset.univ fun g => any c ((Memref.whole cc0_scratch0).slice (slabR (r, g)) (fun _ => rfl)))
        ∗ ((bigSep Finset.univ fun g => full c ((Memref.whole cc0_scratch0).slice (slabR (r, g)) (fun _ => rfl)) (slab g a)) -∗ K ⟨⟩))
      ⊢ run c (storeSlabs a.l a.acc r) K := by
  unfold storeSlabs
  simp only [run_bind, bigSep_fin4, rawSlab_eq]
  iintro ⟨⟨H0, H1, H2, H3⟩, HK⟩
  iapply (run_storeSlab c r 0) $$ [-]
  isplitl [H0]; · iexact H0
  iintro H0
  iapply (run_storeSlab c r 1) $$ [-]
  isplitl [H1]; · iexact H1
  iintro H1
  iapply (run_storeSlab c r 2) $$ [-]
  isplitl [H2]; · iexact H2
  iintro H2
  iapply (run_storeSlab c r 3) $$ [-]
  isplitl [H3]; · iexact H3
  iintro H3
  iapply HK
  isplitl [H0]; · iexact H0
  isplitl [H1]; · iexact H1
  isplitl [H2]; · iexact H2
  iexact H3

/-- A load of the whole last matrix. -/
theorem sq_emb (i : S1024x1024.Idx) : (Rect.unit (s := S1024x1024) ![0, 0] S1024x1024.size inb_S1024x1024_S1024x1024_0_0).emb i = i := by
  funext a; fin_cases a
  · exact Fin.ext ((congrArg (0 + ·) (Nat.one_mul _)).trans (Nat.zero_add _))
  · exact Fin.ext ((congrArg (0 + ·) (Nat.one_mul _)).trans (Nat.zero_add _))

abbrev sqRect : Rect S1024x1024 := Rect.unit (s := S1024x1024) ![0, 0] S1024x1024.size inb_S1024x1024_S1024x1024_0_0

theorem owns_sqRect (c : Dev nD) (X : S1024x1024.Idx → Elt F .f32) :
    (full c ((Memref.whole cc0_stg0_0).slice sqRect (fun _ => rfl)) X : sProp 𝕄) = full c (Memref.whole cc0_stg0_0) X :=
  ((owns_all c (Memref.whole cc0_stg0_0) sqRect (fun _ => rfl) (by intro a; fin_cases a <;> rfl) (by intro a; fin_cases a <;> rfl) fullShare X).trans
    (congrArg (fun Y => owns (c : Thread nD τ) ((Memref.whole cc0_stg0_0).slice sqRect (fun _ => rfl)) fullShare Y) (funext fun j => congrArg X (sq_emb j)))).symm

theorem phaseProj_eq (s : Sts F) : goOn phaseProj s = (do
    storeSlabs (s 0).l (s 0).acc 0; storeSlabs (s 1).l (s 1).acc 1; storeSlabs (s 2).l (s 2).acc 2; storeSlabs (s 3).l (s 3).acc 3
    let x ← loadAll (Memref.whole cc0_scratch0)
    let w ← Prog.lift (.load (Memref.whole cc0_stg0_0) sqRect.toLoadRect (View.loadsAt_vmem h_S1024x1024))
    let _ ← loadAll (F := F) (Memref.whole cc0_scratch2)
    storeAll (Memref.whole cc0_scratch2) (Memref.isWhole_whole cc0_scratch2) (k0_pay274 x w)) := rfl

theorem run_phaseProj (c : Dev nD) (s : Sts F) (wo : S1024x1024.Idx → Elt F .f32) (K : PUnit → sProp 𝕄) :
    iprop(any c (Memref.whole cc0_scratch0) ∗ full c (Memref.whole cc0_stg0_0) wo ∗ any c (Memref.whole cc0_scratch2)
        ∗ ((any c (Memref.whole cc0_scratch0) ∗ full c (Memref.whole cc0_stg0_0) wo ∗ full c (Memref.whole cc0_scratch2) (k0_pay274 (glueSlabs fun r g => slab g (s r)) wo)) -∗ K ⟨⟩))
      ⊢ run c (goOn phaseProj s) K := by
  rw [phaseProj_eq]
  simp only [run_bind]
  iintro ⟨H, Hw, H2, HK⟩
  ihave H := (any_split c (Memref.whole cc0_scratch0) slabR (fun _ _ => rfl) slab_disj slab_cover) $$ H
  ihave H := (Entails.of_eq ((bigSep_univ_prod (fun t : Fin 4 × Fin 4 => any c ((Memref.whole cc0_scratch0).slice (slabR t) (fun _ => rfl)))).trans (bigSep_fin4 _))) $$ H
  icases H with ⟨H0, H1, H2', H3⟩
  iapply (run_storeSlabs c 0 (s 0)) $$ [-]
  isplitl [H0]; · iexact H0
  iintro H0
  iapply (run_storeSlabs c 1 (s 1)) $$ [-]
  isplitl [H1]; · iexact H1
  iintro H1
  iapply (run_storeSlabs c 2 (s 2)) $$ [-]
  isplitl [H2']; · iexact H2'
  iintro H2'
  iapply (run_storeSlabs c 3 (s 3)) $$ [-]
  isplitl [H3]; · iexact H3
  iintro H3
  ihave H := (show (iprop((bigSep Finset.univ fun g => full c ((Memref.whole cc0_scratch0).slice (slabR (0, g)) (fun _ => rfl)) (slab g (s 0)))
        ∗ (bigSep Finset.univ fun g => full c ((Memref.whole cc0_scratch0).slice (slabR (1, g)) (fun _ => rfl)) (slab g (s 1)))
        ∗ (bigSep Finset.univ fun g => full c ((Memref.whole cc0_scratch0).slice (slabR (2, g)) (fun _ => rfl)) (slab g (s 2)))
        ∗ (bigSep Finset.univ fun g => full c ((Memref.whole cc0_scratch0).slice (slabR (3, g)) (fun _ => rfl)) (slab g (s 3)))) : sProp 𝕄)
      ⊢ full c (Memref.whole cc0_scratch0) (glueSlabs fun r g => slab g (s r)) from
    (Entails.of_eq ((bigSep_univ_prod (fun t : Fin 4 × Fin 4 => full c ((Memref.whole cc0_scratch0).slice (slabR t) (fun _ => rfl)) (slab t.2 (s t.1)))).trans
      (bigSep_fin4 _)).symm).trans
    (full_join c (Memref.whole cc0_scratch0) slabR (fun _ _ => rfl) slab_disj slab_cover fun t j => glueSlabs_emb _ t.1 t.2 j)) $$ [H0 H1 H2' H3]
  · isplitl [H0]; · iexact H0
    isplitl [H1]; · iexact H1
    isplitl [H2']; · iexact H2'
    iexact H3
  iapply (run_loadAll c) $$ [-]
  isplitl [H]; · iexact H
  iintro H
  ihave Hw := (Entails.of_eq (owns_sqRect c wo).symm) $$ Hw
  iapply (run_load c (m := Memref.whole cc0_stg0_0) (r := sqRect) (X := wo) (q := fullShare) (fun _ => rfl)) $$ [-]
  isplitl [Hw]; · iexact Hw
  iintro Hw
  icases H2 with ⟨%X2, H2⟩
  iapply (run_loadAll c) $$ [-]
  isplitl [H2]; · iexact H2
  iintro H2
  iapply (run_storeAll c) $$ [-]
  isplitl [H2]; · iexists _; iexact H2
  iintro H2
  iapply HK
  isplitl [H]; · iexists _; iexact H
  isplitl [Hw]; · iapply (Entails.of_eq (owns_sqRect c wo)); iexact Hw
  iexact H2

end Cert.KernelIdeal.Att

end
-- ==== Proof.Phase3.lean ====
module

public import proofs.«01_k».proof.Proof.Phase2

@[expose] public section

set_option maxRecDepth 65536

noncomputable section

/-! The exchange of partial sums and finished rows. -/

namespace Cert.KernelIdeal.Att

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ) (κ : GSem nD τ sig → ℕ)

theorem credit_rslot (s : Dev nD) : (rslotM s).view.dmaCredit = NR := rfl
theorem credit_kRows (s : Dev nD) : (kRows s).view.dmaCredit = NR := rfl
theorem credit_vRows (s : Dev nD) : (vRows s).view.dmaCredit = NR := rfl

/-! ## The partial sums -/

/-- What a hop of the partial sums uses up. -/
def sumA (c : Dev nD) (r : Fin 7) : sProp 𝕄 :=
  iprop(full c (kRows (nx r c)) (prowV m c (nx r c)) ∗ any (nx r c) (rslotM c) ∗ any c (vRows (nx r c))
    ∗ dutyTok ER (xC c 4 (nx r c)) 0 0 ∗ reached ER (xC c 4 (nx r c)) 0 ∗ dutyTok ER (xC (nx r c) 5 c) 0 0 ∗ reached ER (xC (nx r c) 5 c) 0)

theorem run_sumSend (c : Dev nD) (r : Fin 7) {dev : Dev nD} (hdev : dev = nx r c) (K : PUnit → sProp 𝕄) :
    iprop(Ctx m κ ∗ sumA m c r ∗ debt c (OR c r.val) ∗ ((cred (tallyAt (xC c 4 (nx r c)) () NR) ∗ debt c (OR c (r.val + 1))) -∗ K ⟨⟩)) ⊢ run c (sumSend c r dev) K := by
  subst hdev
  unfold sumSend sumA
  simp only [off2_eq, off3_eq, off8_eq, off9_eq, s11_ix, s12_ix]
  iintro ⟨#HC, ⟨Hs, Hd, Hv, Ht₁, Hr₁, Ht₂, Hr₂⟩, HO, HK⟩
  iapply (run_send c (sched m) κ (src := kRows (nx r c)) (dst := rslotM c) (sS := semIx 4 (nx r c)) (sR := semIx 5 c) (n := nx r c) (q := fullShare)
    (X := prowV m c (nx r c)) (d₁ := 0) (d₂ := 0) (P := any c (vRows (nx r c))) (O₀ := OR c r.val) (credit_rslot c)
    (by rw [duties_x m c _ _ (nx_ne r c)]; exact Finset.mem_singleton_self _) (by rw [duties_x m _ _ _ (nx_ne r c).symm]; exact Finset.mem_singleton_self _)
    (amount_x m c _ _ 0) (amount_x m _ _ _ 0) (O := OR c (r.val + 1)) (OR_step c r)
    (Entails.of_eq (payload_x m c 4 (nx r c) 0).symm) (Entails.of_eq (payload_x m (nx r c) 5 c 0).symm)) $$ [-]
  isplitr; · iapply (ctx_x m κ c 4 (nx r c)); iexact HC
  isplitr; · iapply (ctx_x m κ (nx r c) 5 c); iexact HC
  isplitl [Hs]; · iexact Hs
  isplitl [Hd]; · iexact Hd
  isplitl [Hv]; · iexact Hv
  isplitl [HO]; · iexact HO
  isplitl [Ht₁]; · iexact Ht₁
  isplitl [Hr₁]; · iexact Hr₁
  isplitl [Ht₂]; · iexact Ht₂
  isplitl [Hr₂]; · iexact Hr₂
  iexact HK

/-- A peer's partial sums arrive, with the peer's rows to write into. -/
theorem run_sumRecv (c : Dev nD) (r : Fin 7) (K : PUnit → sProp 𝕄) :
    iprop(Ctx m κ ∗ cred (tallyAt (xC c 5 (pv r c)) () NR) ∗ atPos ER (xC c 5 (pv r c)) 0 ∅ 0 ∗ debt c (OA c 0)
        ∗ ((atPos ER (xC c 5 (pv r c)) 1 ∅ 0 ∗ debt c (OA c 0) ∗ iprop(full c (rslotM (pv r c)) (prowV m (pv r c) c) ∗ any (pv r c) (vRows c))) -∗ K ⟨⟩)) ⊢ run c (sumRecv c r) K := by
  unfold sumRecv
  simp only [off6_eq, off11_eq, s12_ix]
  iintro ⟨#HC, Hc, Ha, HO, HK⟩
  ihave Hm := (ctx_may m κ c (.dma (semIx 5 (pv r c))) (n := 3) (by rw [lv_x]; decide) (above_OA c 0)) $$ HC
  iapply (run_wait c (sched m) κ (d := 0) (N := NR) (sm := semIx 5 (pv r c)) (dstw := rslotM (pv r c)) (P := iprop(full c (rslotM (pv r c)) (prowV m (pv r c) c) ∗ any (pv r c) (vRows c)))
    (credit_rslot (pv r c)) (duties_x m c _ _ (pv_ne r c)) (amount_x m c _ _ 0) (Entails.of_eq ((payload_x m c _ _ 0).trans rfl))) $$ [-]
  isplitr; · iapply (ctx_x m κ c 5 (pv r c)); iexact HC
  isplitl [Hc]; · iexact Hc
  isplitl [HO]; · iexact HO
  isplitl [Hm]; · iexact Hm
  isplitl [Ha]; · iexact Ha
  iintro ⟨HO, Ha, HP⟩
  iapply HK
  isplitl [Ha]; · iexact Ha
  isplitl [HO]; · iexact HO
  iexact HP

/-- The partial sums for a peer have left. -/
theorem run_sumDone (c : Dev nD) (r : Fin 7) (K : PUnit → sProp 𝕄) :
    iprop(Ctx m κ ∗ cred (tallyAt (xC c 4 (nx r c)) () NR) ∗ atPos ER (xC c 4 (nx r c)) 0 ∅ 0 ∗ debt c 0
        ∗ ((atPos ER (xC c 4 (nx r c)) 1 ∅ 0 ∗ debt c 0 ∗ full c (kRows (nx r c)) (prowV m c (nx r c))) -∗ K ⟨⟩)) ⊢ run c (sumDone c r) K := by
  unfold sumDone
  simp only [off2_eq, off8_eq, off9_eq, s11_ix]
  iintro ⟨#HC, Hc, Ha, HO, HK⟩
  ihave Hm := (ctx_may m κ c (.dma (semIx 4 (nx r c))) (n := 0) (by rw [lv_x]; decide) Above.zero) $$ HC
  iapply (run_wait c (sched m) κ (d := 0) (N := NR) (sm := semIx 4 (nx r c)) (dstw := kRows (nx r c)) (P := full c (kRows (nx r c)) (prowV m c (nx r c)))
    (credit_kRows (nx r c)) (duties_x m c _ _ (nx_ne r c)) (amount_x m c _ _ 0) (Entails.of_eq ((payload_x m c _ _ 0).trans rfl))) $$ [-]
  isplitr; · iapply (ctx_x m κ c 4 (nx r c)); iexact HC
  isplitl [Hc]; · iexact Hc
  isplitl [HO]; · iexact HO
  isplitl [Hm]; · iexact Hm
  isplitl [Ha]; · iexact Ha
  iintro ⟨HO, Ha, HP⟩
  iapply HK
  isplitl [Ha]; · iexact Ha
  isplitl [HO]; · iexact HO
  iexact HP

/-! ## The finished rows -/

/-- What a hop of the finished rows uses up. -/
def outA (c : Dev nD) (r : Fin 7) : sProp 𝕄 :=
  iprop(any (nx r c) (vRows c) ∗ dutyTok ER (xC c 6 (nx r c)) 0 0 ∗ reached ER (xC c 6 (nx r c)) 0 ∗ dutyTok ER (xC (nx r c) 7 c) 0 0 ∗ reached ER (xC (nx r c) 7 c) 0)

theorem xPay_out (c : Dev nD) (r : Fin 7) : xPay m c 6 (nx r c) = owns (c : Thread nD τ) (vRows c) (lentQ r) (redV m c) := by
  show (owns (c : Thread nD τ) (vRows c) (lentQ (hopTo c (nx r c))) (redV m c) : sProp 𝕄) = _; rw [hopTo_nx]
theorem xPay_in (c : Dev nD) (s : Dev nD) : xPay m c 7 s = full c (vRows s) (redV m s) := rfl

theorem run_outSend (c : Dev nD) (r : Fin 7) {dev : Dev nD} (hdev : dev = nx r c) (K : PUnit → sProp 𝕄) :
    iprop(Ctx m κ ∗ outA c r ∗ owns (c : Thread nD τ) (vRows c) (restQ r.val) (redV m c) ∗ debt c (OA c r.val)
        ∗ ((cred (tallyAt (xC c 6 (nx r c)) () NR) ∗ owns (c : Thread nD τ) (vRows c) (restQ (r.val + 1)) (redV m c) ∗ debt c (OA c (r.val + 1))) -∗ K ⟨⟩)) ⊢ run c (outSend c r dev) K := by
  subst hdev
  unfold outSend outA
  simp only [off2_eq, off3_eq, off14_eq, s13_ix, s14_ix]
  iintro ⟨#HC, ⟨Hd, Ht₁, Hr₁, Ht₂, Hr₂⟩, Hs, HO, HK⟩
  ihave Hs := (owns_halves (c : Thread nD τ) (vRows c) (restQ r.val) (redV m c)).1 $$ Hs
  icases Hs with ⟨Hs, Hrest⟩
  iapply (run_send c (sched m) κ (src := vRows c) (dst := vRows c) (sS := semIx 6 (nx r c)) (sR := semIx 7 c) (n := nx r c) (q := lentQ r)
    (X := redV m c) (d₁ := 0) (d₂ := 0) (P := iprop(emp)) (O₀ := OA c r.val) (credit_vRows c)
    (by rw [duties_x m c _ _ (nx_ne r c)]; exact Finset.mem_singleton_self _) (by rw [duties_x m _ _ _ (nx_ne r c).symm]; exact Finset.mem_singleton_self _)
    (amount_x m c _ _ 0) (amount_x m _ _ _ 0) (O := OA c (r.val + 1)) (OA_step c r)
    (Entails.of_eq ((payload_x m c 6 (nx r c) 0).trans (xPay_out m c r)).symm) (by rw [payload_x, xPay_in]; iintro ⟨H, -⟩; iexact H)) $$ [-]
  isplitr; · iapply (ctx_x m κ c 6 (nx r c)); iexact HC
  isplitr; · iapply (ctx_x m κ (nx r c) 7 c); iexact HC
  isplitl [Hs]; · iexact Hs
  isplitl [Hd]; · iexact Hd
  isplitr; · iempintro
  isplitl [HO]; · iexact HO
  isplitl [Ht₁]; · iexact Ht₁
  isplitl [Hr₁]; · iexact Hr₁
  isplitl [Ht₂]; · iexact Ht₂
  isplitl [Hr₂]; · iexact Hr₂
  iintro ⟨Hc, HO⟩
  iapply HK
  isplitl [Hc]; · iexact Hc
  isplitl [Hrest]; · iexact Hrest
  iexact HO

/-- The finished rows have left for a peer. -/
theorem run_outDone (c : Dev nD) (r : Fin 7) (K : PUnit → sProp 𝕄) :
    iprop(Ctx m κ ∗ cred (tallyAt (xC c 6 (nx r c)) () NR) ∗ atPos ER (xC c 6 (nx r c)) 0 ∅ 0 ∗ debt c 0
        ∗ ((atPos ER (xC c 6 (nx r c)) 1 ∅ 0 ∗ debt c 0 ∗ owns (c : Thread nD τ) (vRows c) (lentQ r) (redV m c)) -∗ K ⟨⟩)) ⊢ run c (outDone c r) K := by
  unfold outDone
  simp only [off2_eq, off14_eq, s13_ix]
  iintro ⟨#HC, Hc, Ha, HO, HK⟩
  ihave Hm := (ctx_may m κ c (.dma (semIx 6 (nx r c))) (n := 0) (by rw [lv_x]; decide) Above.zero) $$ HC
  iapply (run_wait c (sched m) κ (d := 0) (N := NR) (sm := semIx 6 (nx r c)) (dstw := vRows c) (P := owns (c : Thread nD τ) (vRows c) (lentQ r) (redV m c))
    (credit_vRows c) (duties_x m c _ _ (nx_ne r c)) (amount_x m c _ _ 0) (Entails.of_eq ((payload_x m c _ _ 0).trans (xPay_out m c r)))) $$ [-]
  isplitr; · iapply (ctx_x m κ c 6 (nx r c)); iexact HC
  isplitl [Hc]; · iexact Hc
  isplitl [HO]; · iexact HO
  isplitl [Hm]; · iexact Hm
  isplitl [Ha]; · iexact Ha
  iintro ⟨HO, Ha, HP⟩
  iapply HK
  isplitl [Ha]; · iexact Ha
  isplitl [HO]; · iexact HO
  iexact HP

/-- The buffers at their shapes. -/
abbrev M2 : Memref sig .tc .vmem S1024x8x128 .bf16 := Memref.whole cc0_scratch2
abbrev M3 : Memref sig .tc .vmem S1024x8x128 .bf16 := Memref.whole cc0_scratch3
abbrev M6 : Memref sig .tc .vmem S8x128x8x128 .bf16 := Memref.whole cc0_scratch6
abbrev MO : Memref sig .tc .vmem S1x1024x1024 .f32 := Memref.whole cc0_stg1_0
/-- A row block of the result. -/
abbrev oRows (s : Dev nD) : Memref sig .tc .vmem S1x128x1024 .f32 := MO.slice (orowsR s) (fun _ => rfl)

/-- Reading a block whose corner is written another way. -/
theorem run_loadAt (c : Dev nD) {sp : CoreSpace} {s : Shape} {e : EltTy} {mem : Memref sig .tc sp s e} {o o' : Fin s.rank → ℕ} {size : Fin s.rank → ℕ} {hb : ∀ a, o a + size a ≤ s.size a} {hb' : ∀ a, o' a + size a ≤ s.size a} (ho : o = o')
    {hl : mem.view.LoadsAt (Rect.unit (s := s) o size hb).toLoadRect} {q : PosShare TreeShare} (X : (Rect.unit (s := s) o' size hb').shape.Idx → Elt F e)
    {K : ((Rect.unit (s := s) o size hb).shape.Idx → Elt F e) → sProp 𝕄} :
    iprop(owns (c : Thread nD τ) (mem.slice (Rect.unit (s := s) o' size hb') (fun _ => rfl)) q X
        ∗ (owns (c : Thread nD τ) (mem.slice (Rect.unit (s := s) o' size hb') (fun _ => rfl)) q X -∗ K X))
      ⊢ run c (Prog.lift (.load mem (Rect.unit (s := s) o size hb).toLoadRect hl)) K := by
  subst ho
  exact run_load (F := F) c (fun _ => rfl)

/-- Writing a block whose corner is written another way, after the read that goes before it. -/
theorem run_storeAt (c : Dev nD) {sp : CoreSpace} {s : Shape} {e : EltTy} {mem : Memref sig .tc sp s e} {o o' : Fin s.rank → ℕ} {size : Fin s.rank → ℕ} {hb : ∀ a, o a + size a ≤ s.size a} {hb' : ∀ a, o' a + size a ≤ s.size a} (ho : o = o')
    {hl : mem.view.LoadsAt (Rect.unit (s := s) o size hb).toLoadRect}
    {w : (Rect.unit (s := s) o size hb).shape.Idx → Elt F e} {hx : (mem.access (Rect.unit (s := s) o size hb)).Stores Finset.univ}
    {hm : (Finset.univ : Finset (Rect.unit (s := s) o size hb).shape.Idx) = Finset.univ ∨ ∀ a, (Rect.unit (s := s) o size hb).stride a = 1} {K : PUnit → sProp 𝕄} :
    iprop(any c (mem.slice (Rect.unit (s := s) o' size hb') (fun _ => rfl)) ∗ (full c (mem.slice (Rect.unit (s := s) o' size hb') (fun _ => rfl)) w -∗ K ⟨⟩))
      ⊢ run c (Prog.lift (.load mem (Rect.unit (s := s) o size hb).toLoadRect hl)) fun _ =>
          run c (Prog.lift (.store mem (Rect.unit (s := s) o size hb) w Finset.univ hx hm)) K := by
  subst ho
  iintro ⟨⟨%X, H⟩, HK⟩
  iapply (run_load (F := F) c (fun _ => rfl) (q := fullShare) (X := X)) $$ [-]
  isplitl [H]; · iexact H
  iintro H
  iapply (run_store (F := F) c (fun _ => rfl)) $$ [-]
  isplitl [H]; · iexists X; iexact H
  iexact HK

/-- A peer's finished rows arrive and are written out. -/
theorem run_outRecv (c : Dev nD) (r : Fin 7) (K : PUnit → sProp 𝕄) :
    iprop(Ctx m κ ∗ cred (tallyAt (xC c 7 (pv r c)) () NR) ∗ atPos ER (xC c 7 (pv r c)) 0 ∅ 0 ∗ any c (oRows (pv r c)) ∗ debt c 0
        ∗ ((atPos ER (xC c 7 (pv r c)) 1 ∅ 0 ∗ full c (vRows (pv r c)) (redV m (pv r c)) ∗ full c (oRows (pv r c)) (k0_pay279 (redV m (pv r c))) ∗ debt c 0) -∗ K ⟨⟩))
      ⊢ run c (outRecv c r) K := by
  unfold outRecv
  simp only [off6_eq, off15_eq, s14_ix, run_bind]
  iintro ⟨#HC, Hc, Ha, Ho, HO, HK⟩
  ihave Hm := (ctx_may m κ c (.dma (semIx 7 (pv r c))) (n := 4) (by rw [lv_x]; decide) Above.zero) $$ HC
  iapply (run_wait c (sched m) κ (d := 0) (N := NR) (sm := semIx 7 (pv r c)) (dstw := vRows (pv r c)) (P := full c (vRows (pv r c)) (redV m (pv r c)))
    (credit_vRows (pv r c)) (duties_x m c _ _ (pv_ne r c)) (amount_x m c _ _ 0) (Entails.of_eq (payload_x m c 7 (pv r c) 0))) $$ [-]
  isplitr; · iapply (ctx_x m κ c 7 (pv r c)); iexact HC
  isplitl [Hc]; · iexact Hc
  isplitl [HO]; · iexact HO
  isplitl [Hm]; · iexact Hm
  isplitl [Ha]; · iexact Ha
  iintro ⟨HO, Ha, Hv⟩
  iapply (run_loadAt (F := F) c (mem := M3) (hb' := inb_rows (pv r c)) (off16_eq c r) (q := fullShare) (redV m (pv r c))) $$ [-]
  isplitl [Hv]; · iexact Hv
  iintro Hv
  iapply (run_storeAt (F := F) c (mem := MO) (hb' := inb_orows (pv r c)) (off17_eq c r)) $$ [-]
  isplitl [Ho]; · iexact Ho
  iintro Ho
  iapply HK
  isplitl [Ha]; · iexact Ha
  isplitl [Hv]; · iexact Hv
  isplitl [Ho]; · iexact Ho
  iexact HO

/-! ## The device's own rows -/

/-- A slot of the gathered sums, with its unit axis. -/
abbrev slot4 (s : Dev nD) : Memref sig .tc .vmem S1x128x8x128 .bf16 := M6.slice (rslotR s) (fun _ => rfl)

theorem run_clearOwn (c : Dev nD) (K : PUnit → sProp 𝕄) :
    iprop(any c (slot4 c) ∗ (full c (slot4 c) (k0_pay275 (F := F)) -∗ K ⟨⟩)) ⊢ run c (clearOwn c) K := by
  unfold clearOwn
  simp only [run_bind]
  exact run_storeAt (F := F) c (mem := M6) (hb' := inb_rslot c) (off10_eq c)

abbrev gRect : Rect S8x128x8x128 := Rect.unit (s := S8x128x8x128) ![0, 0, 0, 0] S8x128x8x128.size inb_S8x128x8x128_S8x128x8x128_0_0_0_0

theorem g_emb (i : S8x128x8x128.Idx) : gRect.emb i = i := by
  funext a; fin_cases a
  · exact Fin.ext ((congrArg (0 + ·) (Nat.one_mul _)).trans (Nat.zero_add _))
  · exact Fin.ext ((congrArg (0 + ·) (Nat.one_mul _)).trans (Nat.zero_add _))
  · exact Fin.ext ((congrArg (0 + ·) (Nat.one_mul _)).trans (Nat.zero_add _))
  · exact Fin.ext ((congrArg (0 + ·) (Nat.one_mul _)).trans (Nat.zero_add _))

theorem owns_gRect (c : Dev nD) (X : S8x128x8x128.Idx → Elt F .bf16) :
    (full c (M6.slice gRect (fun _ => rfl)) X : sProp 𝕄) = full c M6 X :=
  ((owns_all c M6 gRect (fun _ => rfl) (by intro a; fin_cases a <;> rfl) (by intro a; fin_cases a <;> rfl) fullShare X).trans
    (congrArg (fun Y => owns (c : Thread nD τ) (M6.slice gRect (fun _ => rfl)) fullShare Y) (funext fun j => congrArg X (g_emb j)))).symm

theorem run_outOwn (c : Dev nD) (K : PUnit → sProp 𝕄) (p : S128x8x128.Idx → Elt F .bf16) (g : S8x128x8x128.Idx → Elt F .bf16) :
    iprop(full c (kRows c) p ∗ full c M6 g ∗ any c (oRows c) ∗ any c (vRows c)
        ∗ ((full c (kRows c) p ∗ full c M6 g ∗ full c (oRows c) (k0_pay277 p g) ∗ full c (vRows c) (k0_pay278 p g)) -∗ K ⟨⟩))
      ⊢ run c (outOwn c) K := by
  unfold outOwn
  simp only [run_bind]
  iintro ⟨Hk, Hg, Ho, Hv, HK⟩
  ihave Hg := (Entails.of_eq (owns_gRect c g).symm) $$ Hg
  iapply (run_loadAt (F := F) c (mem := M2) (hb' := inb_rows c) (off12_eq c) (q := fullShare) p) $$ [-]
  isplitl [Hk]; · iexact Hk
  iintro Hk
  iapply (run_loadAt (F := F) c (mem := M6) (hb' := inb_S8x128x8x128_S8x128x8x128_0_0_0_0) rfl (q := fullShare) g) $$ [-]
  isplitl [Hg]; · iexact Hg
  iintro Hg
  iapply (run_storeAt (F := F) c (mem := MO) (hb' := inb_orows c) (off13_eq c)) $$ [-]
  isplitl [Ho]; · iexact Ho
  iintro Ho
  iapply (run_storeAt (F := F) c (mem := M3) (hb' := inb_rows c) (off12_eq c)) $$ [-]
  isplitl [Hv]; · iexact Hv
  iintro Hv
  iapply HK
  isplitl [Hk]; · iexact Hk
  isplitl [Hg]; · iapply (Entails.of_eq (owns_gRect c g)); iexact Hg
  isplitl [Ho]; · iexact Ho
  iexact Hv

end Cert.KernelIdeal.Att

end
-- ==== Proof.Phase4.lean ====
module

public import proofs.«01_k».proof.Proof.Phase3

@[expose] public section

set_option maxRecDepth 65536

noncomputable section

/-! The exchange of partial sums and finished rows, all hops together. -/

namespace Cert.KernelIdeal.Att

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ) (κ : GSem nD τ sig → ℕ)

/-- The tokens with which a device sends to a peer: its own of cell array `a`, the peer's of array `b`. -/
def sendTok (a b : Fin 8) (c : Dev nD) (r : Fin 7) : sProp 𝕄 :=
  iprop(dutyTok ER (xC c a (nx r c)) 0 0 ∗ reached ER (xC c a (nx r c)) 0 ∗ dutyTok ER (xC (nx r c) b c) 0 0)
/-- What a device waits with for a peer's rows. -/
def getTok (a : Fin 8) (c : Dev nD) (r : Fin 7) : sProp 𝕄 :=
  iprop(cred (tallyAt (xC c a (pv r c)) () NR) ∗ atPos ER (xC c a (pv r c)) 0 ∅ 0)
/-- The position of a device's cell for sends to a peer. -/
def sentPos (a : Fin 8) (c : Dev nD) (r : Fin 7) (R : ℕ) : sProp 𝕄 := atPos ER (xC c a (nx r c)) R ∅ 0

theorem sum_intro (c : Dev nD) :
    (iprop(full c M2 (partV m c) ∗ any c M3 ∗ (bigSep Finset.univ fun r => sumKeep c r) ∗ (bigSep Finset.univ fun r => sendTok 4 5 c r)) : sProp 𝕄)
      ⊢ iprop(full c (kRows c) (prowV m c c) ∗ any c (vRows c) ∗ (bigSep Finset.univ fun r => sumA m c r) ∗ bigSep Finset.univ fun r => reached ER (xC (nx r c) 7 c) 0) := by
  iintro ⟨H2, H3, HK, HT⟩
  ihave H2 := (show full c M2 (partV m c) ⊢ (bigSep Finset.univ fun p => full c (kRows p) (prowV m c p) : sProp 𝕄) from
    owns_rects (Val := Elt F) (c : Thread nD τ) M2 fullShare rowsR (fun _ _ => rfl) rows_disj rows_cover (partV m c)) $$ H2
  ihave H2 := (Entails.of_eq (bigSep_nx c (fun p => full c (kRows p) (prowV m c p)))) $$ H2
  icases H2 with ⟨Hk, H2⟩
  ihave H3 := (show any c M3 ⊢ (bigSep Finset.univ fun p => any c (vRows p) : sProp 𝕄) from any_split c M3 rowsR (fun _ _ => rfl) rows_disj rows_cover) $$ H3
  ihave H3 := (Entails.of_eq (bigSep_nx c (fun p => any c (vRows p)))) $$ H3
  icases H3 with ⟨Hv, H3⟩
  isplitl [Hk]; · iexact Hk
  isplitl [Hv]; · iexact Hv
  iapply (show (iprop((bigSep Finset.univ fun r => full c (kRows (nx r c)) (prowV m c (nx r c))) ∗ (bigSep Finset.univ fun r => any c (vRows (nx r c)))
      ∗ (bigSep Finset.univ fun r => sumKeep c r) ∗ (bigSep Finset.univ fun r => sendTok 4 5 c r)) : sProp 𝕄) ⊢ _ by
    rw [← bigSep_sep', ← bigSep_sep', ← bigSep_sep', ← bigSep_sep']
    refine bigSep_mono fun r _ => ?_
    show _ ⊢ (iprop(sumA m c r ∗ reached ER (xC (nx r c) 7 c) 0) : sProp 𝕄)
    unfold sumKeep sendTok sumA
    iintro ⟨Hk, Hv, ⟨Hs, R5, R7⟩, T4, R4, T5⟩
    isplitr [R7]
    · isplitl [Hk]; · iexact Hk
      isplitl [Hs]; · iexact Hs
      isplitl [Hv]; · iexact Hv
      isplitl [T4]; · iexact T4
      isplitl [R4]; · iexact R4
      isplitl [T5]; · iexact T5
      iexact R5
    iexact R7)
  isplitl [H2]; · iexact H2
  isplitl [H3]; · iexact H3
  isplitl [HK]; · iexact HK
  iexact HT

/-- The slots of a device's gathered sums, as one. -/
theorem gather (c : Dev nD) :
    (iprop(full c (slot4 c) (k0_pay275 (F := F)) ∗ (bigSep Finset.univ fun r => full c (rslotM (pv r c)) (prowV m (pv r c) c))) : sProp 𝕄) ⊢ full c M6 (gathV m c) := by
  have h : (bigSep Finset.univ fun s => full c (slot4 s) (if s = c then k0_pay275 (F := F) else lift (prowV m s c)) : sProp 𝕄)
      = iprop(full c (slot4 c) (k0_pay275 (F := F)) ∗ (bigSep Finset.univ fun r => full c (rslotM (pv r c)) (prowV m (pv r c) c))) := by
    rw [bigSep_pv c, if_pos rfl]
    refine congrArg (fun X => iprop(full c (slot4 c) (k0_pay275 (F := F)) ∗ X)) (bigSep_congr fun r _ => ?_)
    rw [if_neg (pv_ne r c)]
    exact (squeeze_owns c (slot4 (pv r c)) squeezes_S1x128x8x128_S128x8x128 fullShare (lift (prowV m (pv r c) c))).symm.trans <| congrArg (fun X => full c (rslotM (pv r c)) X) (funext fun i => congrArg (prowV m (pv r c) c) (Equiv.symm_apply_apply _ i))
  rw [← h]
  exact full_join c M6 rslotR (fun _ _ => rfl) rslot_disj rslot_cover (X := fun s => if s = c then k0_pay275 (F := F) else lift (prowV m s c)) (G := gathV m c) fun s j => glueSlots_emb _ s j

/-- The rows of a device's partial sums, as one. -/
theorem part_back (c : Dev nD) :
    (iprop(full c (kRows c) (prowV m c c) ∗ (bigSep Finset.univ fun r => full c (kRows (nx r c)) (prowV m c (nx r c)))) : sProp 𝕄) ⊢ any c M2 := by
  refine (Entails.of_eq (bigSep_nx c (fun p => full c (kRows p) (prowV m c p))).symm).trans ?_
  exact (full_join c M2 rowsR (fun _ _ => rfl) rows_disj rows_cover (X := fun s => prowV m c s) (G := partV m c) fun s j => rfl).trans (any_intro c M2 _)

/-- The finished rows of all devices, as one. -/
theorem rows_back (c : Dev nD) :
    (iprop(full c (vRows c) (redV m c) ∗ (bigSep Finset.univ fun r => full c (vRows (pv r c)) (redV m (pv r c)))) : sProp 𝕄) ⊢ any c M3 := by
  refine (Entails.of_eq (bigSep_pv c (fun p => full c (vRows p) (redV m p))).symm).trans ?_
  exact (full_join c M3 rowsR (fun _ _ => rfl) rows_disj rows_cover (X := fun s => redV m s) (G := glueRows fun s => redV m s) fun s j => glueRows_emb _ s j).trans (any_intro c M3 _)

/-- The row blocks of the result, as one. -/
theorem out_join (c : Dev nD) :
    (iprop(full c (oRows c) (k0_pay277 (prowV m c c) (gathV m c)) ∗ (bigSep Finset.univ fun r => full c (oRows (pv r c)) (k0_pay279 (redV m (pv r c))))) : sProp 𝕄) ⊢ full c MO (outV m c) := by
  have h : (bigSep Finset.univ fun s => full c (oRows s) (if s = c then k0_pay277 (prowV m c c) (gathV m c) else k0_pay279 (redV m s)) : sProp 𝕄)
      = iprop(full c (oRows c) (k0_pay277 (prowV m c c) (gathV m c)) ∗ (bigSep Finset.univ fun r => full c (oRows (pv r c)) (k0_pay279 (redV m (pv r c))))) := by
    rw [bigSep_pv c, if_pos rfl]
    exact congrArg (fun X => iprop(full c (oRows c) (k0_pay277 (prowV m c c) (gathV m c)) ∗ X)) (bigSep_congr fun r _ => by rw [if_neg (pv_ne r c)])
  rw [← h]
  exact full_join c MO orowsR (fun _ _ => rfl) orows_disj orows_cover (X := fun s => if s = c then k0_pay277 (prowV m c c) (gathV m c) else k0_pay279 (redV m s))
    (G := outV m c) fun s j => glueOut_emb _ s j

/-- The lent shares of the finished rows, back as the whole. -/
theorem shares_back (c : Dev nD) :
    (iprop(owns (c : Thread nD τ) (vRows c) (restQ 7) (redV m c) ∗ (bigSep Finset.univ fun r => owns (c : Thread nD τ) (vRows c) (lentQ r) (redV m c))) : sProp 𝕄)
      ⊢ full c (vRows c) (redV m c) := by
  have h (r : Fin 7) : (iprop(owns (c : Thread nD τ) (vRows c) (lentQ r) (redV m c) ∗ owns (c : Thread nD τ) (vRows c) (restQ (r.val + 1)) (redV m c)) : sProp 𝕄)
      ⊢ owns (c : Thread nD τ) (vRows c) (restQ r.val) (redV m c) := (owns_halves (Val := Elt F) (c : Thread nD τ) (vRows c) (restQ r.val) (redV m c)).2
  rw [bigSep_fin7]
  iintro ⟨H, A0, A1, A2, A3, A4, A5, A6⟩
  iapply (h 0); isplitl [A0]; · iexact A0
  iapply (h 1); isplitl [A1]; · iexact A1
  iapply (h 2); isplitl [A2]; · iexact A2
  iapply (h 3); isplitl [A3]; · iexact A3
  iapply (h 4); isplitl [A4]; · iexact A4
  iapply (h 5); isplitl [A5]; · iexact A5
  iapply (h 6); isplitl [A6]; · iexact A6
  iexact H

/-- Where a device's cells stand after the exchange. -/
def endPos (c : Dev nD) (r : Fin 7) : sProp 𝕄 :=
  iprop(sentPos 0 c r 1 ∗ sentPos 2 c r 1 ∗ sentPos 4 c r 1 ∗ sentPos 6 c r 1 ∗ atPos ER (xC c 5 (pv r c)) 1 ∅ 0 ∗ atPos ER (xC c 7 (pv r c)) 1 ∅ 0)

theorem endPos_intro (c : Dev nD) :
    (iprop((bigSep Finset.univ fun r => iprop(sentPos 0 c r 1 ∗ sentPos 2 c r 1)) ∗ (bigSep Finset.univ fun r => sentPos 4 c r 1) ∗ (bigSep Finset.univ fun r => sentPos 6 c r 1)
      ∗ (bigSep Finset.univ fun r => atPos ER (xC c 5 (pv r c)) 1 ∅ 0) ∗ (bigSep Finset.univ fun r => atPos ER (xC c 7 (pv r c)) 1 ∅ 0)) : sProp 𝕄) ⊢ bigSep Finset.univ fun r => endPos c r := by
  rw [← bigSep_sep', ← bigSep_sep', ← bigSep_sep', ← bigSep_sep']
  refine bigSep_mono fun r _ => ?_
  show _ ⊢ (endPos c r : sProp 𝕄)
  unfold endPos
  iintro ⟨⟨A0, A2⟩, A4, A6, A5, A7⟩
  isplitl [A0]; · iexact A0
  isplitl [A2]; · iexact A2
  isplitl [A4]; · iexact A4
  isplitl [A6]; · iexact A6
  isplitl [A5]; · iexact A5
  iexact A7

theorem outA_intro (c : Dev nD) :
    (iprop((bigSep Finset.univ fun r => any (pv r c) (vRows c)) ∗ (bigSep Finset.univ fun r => sendTok 6 7 c r) ∗ (bigSep Finset.univ fun r => reached ER (xC (nx r c) 7 c) 0)) : sProp 𝕄)
      ⊢ bigSep Finset.univ fun r => outA c r := by
  rw [bigSep_pv_nx c (fun p => any p (vRows c)), ← bigSep_sep', ← bigSep_sep']
  refine bigSep_mono fun r _ => ?_
  show _ ⊢ (outA c r : sProp 𝕄)
  unfold outA sendTok
  iintro ⟨Hv, ⟨T6, R6, T7⟩, R7⟩
  isplitl [Hv]; · iexact Hv
  isplitl [T6]; · iexact T6
  isplitl [R6]; · iexact R6
  isplitl [T7]; · iexact T7
  iexact R7

/-- What the exchange starts from, besides its data. -/
def sumStart (c : Dev nD) : sProp 𝕄 :=
  iprop((bigSep Finset.univ fun r => sendTok 4 5 c r) ∗ (bigSep Finset.univ fun r => sendTok 6 7 c r)
    ∗ (bigSep Finset.univ fun r => getTok 5 c r) ∗ (bigSep Finset.univ fun r => getTok 7 c r)
    ∗ (bigSep Finset.univ fun r => iprop(sentPos 0 c r 0 ∗ sentPos 2 c r 0)) ∗ (bigSep Finset.univ fun r => sentPos 4 c r 0) ∗ (bigSep Finset.univ fun r => sentPos 6 c r 0))

/-- The exchange: every device ends with the sum of all devices' rows. -/
theorem run_phaseSum (c : Dev nD) (K : PUnit → sProp 𝕄) :
    iprop(Ctx m κ ∗ debt c (OR c 0) ∗ full c M2 (partV m c) ∗ any c M3 ∗ any c (slot4 c) ∗ any c MO
        ∗ (bigSep Finset.univ fun r => sumKeep c r) ∗ (bigSep Finset.univ fun r => iprop(sendB false c r ∗ sendB true c r)) ∗ sumStart c
        ∗ ((debt c 0 ∗ any c M2 ∗ any c M3 ∗ any c M6 ∗ full c MO (outV m c) ∗ bigSep Finset.univ fun r => endPos c r) -∗ K ⟨⟩))
      ⊢ run c (phaseSum c) K := by
  unfold phaseSum sumStart
  simp only [run_bind]
  iintro ⟨#HC, HO, H2, H3, H6, HMO, Hkeep, HsB, ⟨HT4, HT6, HG5, HG7, HP02, HP4, HP6⟩, HK⟩
  ihave H := (sum_intro m c) $$ [H2 H3 Hkeep HT4]
  · isplitl [H2]; · iexact H2
    isplitl [H3]; · iexact H3
    isplitl [Hkeep]; · iexact Hkeep
    iexact HT4
  icases H with ⟨Hk, Hv, HA, HR7⟩
  iapply (run_hops c (fun r => sumSend c r (devR r c)) (fun k => iprop(Ctx m κ ∗ debt c (OR c k))) (fun r => sumA m c r) (fun r => cred (tallyAt (xC c 4 (nx r c)) () NR)) (fun r K => by
    iintro ⟨⟨#HC, HO⟩, HA, HK⟩
    iapply (run_sumSend m κ c r (devR_eq r c) K)
    isplitr; · iexact HC
    isplitl [HA]; · iexact HA
    isplitl [HO]; · iexact HO
    iintro ⟨Hc, HO⟩
    iapply HK
    isplitl [HO]
    · isplitr; · iexact HC
      iexact HO
    iexact Hc)) $$ [-]
  isplitl [HO]
  · isplitr; · iexact HC
    iexact HO
  isplitl [HA]; · iexact HA
  iintro ⟨⟨-, HO⟩, HC4⟩
  rw [OR_last]
  iapply (run_clearOwn c _) $$ [-]
  isplitl [H6]; · iexact H6
  iintro H6
  iapply (run_hops c (fun r => sumRecv c r) (fun _ => iprop(Ctx m κ ∗ debt c (OA c 0))) (fun r => getTok 5 c r)
    (fun r => iprop(atPos ER (xC c 5 (pv r c)) 1 ∅ 0 ∗ full c (rslotM (pv r c)) (prowV m (pv r c) c) ∗ any (pv r c) (vRows c))) (fun r K => by
    unfold getTok
    iintro ⟨⟨#HC, HO⟩, ⟨Hc, Ha⟩, HK⟩
    iapply (run_sumRecv m κ c r K)
    isplitr; · iexact HC
    isplitl [Hc]; · iexact Hc
    isplitl [Ha]; · iexact Ha
    isplitl [HO]; · iexact HO
    iintro ⟨Ha, HO, HP⟩
    iapply HK
    isplitl [HO]
    · isplitr; · iexact HC
      iexact HO
    isplitl [Ha]; · iexact Ha
    iexact HP)) $$ [-]
  isplitl [HO]
  · isplitr; · iexact HC
    iexact HO
  isplitl [HG5]; · iexact HG5
  iintro ⟨⟨-, HO⟩, HB⟩
  ihave HB := (Entails.of_eq ((bigSep_sep' _ _ _).trans (congrArg (BIBase.sep _) (bigSep_sep' _ _ _)))) $$ HB
  icases HB with ⟨HE5, HB, HW⟩
  ihave H6 := (gather m c) $$ [H6 HB]
  · isplitl [H6]; · iexact H6
    iexact HB
  ihave HMO := (show any c MO ⊢ (bigSep Finset.univ fun p => any c (oRows p) : sProp 𝕄) from any_split c MO orowsR (fun _ _ => rfl) orows_disj orows_cover) $$ HMO
  ihave HMO := (Entails.of_eq (bigSep_pv c (fun p => any c (oRows p)))) $$ HMO
  icases HMO with ⟨Ho, HMO⟩
  iapply (run_outOwn c _ (prowV m c c) (gathV m c)) $$ [-]
  isplitl [Hk]; · iexact Hk
  isplitl [H6]; · iexact H6
  isplitl [Ho]; · iexact Ho
  isplitl [Hv]; · iexact Hv
  iintro ⟨Hk, H6, Ho, Hv⟩
  ihave HA := (outA_intro c) $$ [HW HT6 HR7]
  · isplitl [HW]; · iexact HW
    isplitl [HT6]; · iexact HT6
    iexact HR7
  iapply (run_hops c (fun r => outSend c r (devA r c)) (fun k => iprop(Ctx m κ ∗ owns (c : Thread nD τ) (vRows c) (restQ k) (redV m c) ∗ debt c (OA c k))) (fun r => outA c r)
    (fun r => cred (tallyAt (xC c 6 (nx r c)) () NR)) (fun r K => by
    iintro ⟨⟨#HC, Hs, HO⟩, HA, HK⟩
    iapply (run_outSend m κ c r (devA_eq r c) K)
    isplitr; · iexact HC
    isplitl [HA]; · iexact HA
    isplitl [Hs]; · iexact Hs
    isplitl [HO]; · iexact HO
    iintro ⟨Hc, Hs, HO⟩
    iapply HK
    isplitr [Hc]
    · isplitr; · iexact HC
      isplitl [Hs]; · iexact Hs
      iexact HO
    iexact Hc)) $$ [-]
  isplitl [Hv HO]
  · isplitr; · iexact HC
    isplitl [Hv]; · iexact Hv
    iexact HO
  isplitl [HA]; · iexact HA
  iintro ⟨⟨-, Hv, HO⟩, HC6⟩
  rw [OA_last]
  ihave HA := (Entails.of_eq (bigSep_sep' _ _ _).symm) $$ [HG7 HMO]
  · isplitl [HG7]; · iexact HG7
    iexact HMO
  iapply (run_hops c (fun r => outRecv c r) (fun _ => iprop(Ctx m κ ∗ debt c 0)) (fun r => iprop(getTok 7 c r ∗ any c (oRows (pv r c))))
    (fun r => iprop(atPos ER (xC c 7 (pv r c)) 1 ∅ 0 ∗ full c (vRows (pv r c)) (redV m (pv r c)) ∗ full c (oRows (pv r c)) (k0_pay279 (redV m (pv r c))))) (fun r K => by
    unfold getTok
    iintro ⟨⟨#HC, HO⟩, ⟨⟨Hc, Ha⟩, Ho⟩, HK⟩
    iapply (run_outRecv m κ c r K)
    isplitr; · iexact HC
    isplitl [Hc]; · iexact Hc
    isplitl [Ha]; · iexact Ha
    isplitl [Ho]; · iexact Ho
    isplitl [HO]; · iexact HO
    iintro ⟨Ha, Hv, Ho, HO⟩
    iapply HK
    isplitl [HO]
    · isplitr; · iexact HC
      iexact HO
    isplitl [Ha]; · iexact Ha
    isplitl [Hv]; · iexact Hv
    iexact Ho)) $$ [-]
  isplitl [HO]
  · isplitr; · iexact HC
    iexact HO
  isplitl [HA]; · iexact HA
  iintro ⟨⟨-, HO⟩, HB⟩
  ihave HB := (Entails.of_eq ((bigSep_sep' _ _ _).trans (congrArg (BIBase.sep _) (bigSep_sep' _ _ _)))) $$ HB
  icases HB with ⟨HE7, HV, HMO⟩
  ihave HMO := (out_join m c) $$ [Ho HMO]
  · isplitl [Ho]; · iexact Ho
    iexact HMO
  ihave HA := (Entails.of_eq (bigSep_sep' _ _ _).symm) $$ [HsB HP02]
  · isplitl [HsB]; · iexact HsB
    iexact HP02
  iapply (run_hops c _ (fun _ => iprop(Ctx m κ ∗ debt c 0)) (fun r => iprop((sendB false c r ∗ sendB true c r) ∗ (sentPos 0 c r 0 ∗ sentPos 2 c r 0)))
    (fun r => iprop(sentPos 0 c r 1 ∗ sentPos 2 c r 1)) (fun r K => by
    unfold sentPos
    simp only [run_bind]
    iintro ⟨⟨#HC, HO⟩, ⟨⟨HB0, HB1⟩, A0, A2⟩, HK⟩
    iapply (run_hopDone m κ false c r _) $$ [-]
    isplitr; · iexact HC
    isplitl [HB0]; · iexact HB0
    isplitl [A0]; · iexact A0
    isplitl [HO]; · iexact HO
    iintro ⟨A0, HO⟩
    iapply (run_hopDone m κ true c r _) $$ [-]
    isplitr; · iexact HC
    isplitl [HB1]; · iexact HB1
    isplitl [A2]; · iexact A2
    isplitl [HO]; · iexact HO
    iintro ⟨A2, HO⟩
    iapply HK
    isplitl [HO]
    · isplitr; · iexact HC
      iexact HO
    isplitl [A0]; · iexact A0
    iexact A2)) $$ [-]
  isplitl [HO]
  · isplitr; · iexact HC
    iexact HO
  isplitl [HA]; · iexact HA
  iintro ⟨⟨-, HO⟩, HE02⟩
  ihave HA := (Entails.of_eq (bigSep_sep' _ _ _).symm) $$ [HC4 HP4]
  · isplitl [HC4]; · iexact HC4
    iexact HP4
  iapply (run_hops c (fun r => sumDone c r) (fun _ => iprop(Ctx m κ ∗ debt c 0)) (fun r => iprop(cred (tallyAt (xC c 4 (nx r c)) () NR) ∗ sentPos 4 c r 0))
    (fun r => iprop(sentPos 4 c r 1 ∗ full c (kRows (nx r c)) (prowV m c (nx r c)))) (fun r K => by
    unfold sentPos
    iintro ⟨⟨#HC, HO⟩, ⟨Hc, Ha⟩, HK⟩
    iapply (run_sumDone m κ c r K)
    isplitr; · iexact HC
    isplitl [Hc]; · iexact Hc
    isplitl [Ha]; · iexact Ha
    isplitl [HO]; · iexact HO
    iintro ⟨Ha, HO, Hk⟩
    iapply HK
    isplitl [HO]
    · isplitr; · iexact HC
      iexact HO
    isplitl [Ha]; · iexact Ha
    iexact Hk)) $$ [-]
  isplitl [HO]
  · isplitr; · iexact HC
    iexact HO
  isplitl [HA]; · iexact HA
  iintro ⟨⟨-, HO⟩, HB⟩
  ihave HB := (Entails.of_eq (bigSep_sep' _ _ _)) $$ HB
  icases HB with ⟨HE4, HB⟩
  ihave H2 := (part_back m c) $$ [Hk HB]
  · isplitl [Hk]; · iexact Hk
    iexact HB
  ihave HA := (Entails.of_eq (bigSep_sep' _ _ _).symm) $$ [HC6 HP6]
  · isplitl [HC6]; · iexact HC6
    iexact HP6
  iapply (run_hops c (fun r => outDone c r) (fun _ => iprop(Ctx m κ ∗ debt c 0)) (fun r => iprop(cred (tallyAt (xC c 6 (nx r c)) () NR) ∗ sentPos 6 c r 0))
    (fun r => iprop(sentPos 6 c r 1 ∗ owns (c : Thread nD τ) (vRows c) (lentQ r) (redV m c))) (fun r K => by
    unfold sentPos
    iintro ⟨⟨#HC, HO⟩, ⟨Hc, Ha⟩, HK⟩
    iapply (run_outDone m κ c r K)
    isplitr; · iexact HC
    isplitl [Hc]; · iexact Hc
    isplitl [Ha]; · iexact Ha
    isplitl [HO]; · iexact HO
    iintro ⟨Ha, HO, Hk⟩
    iapply HK
    isplitl [HO]
    · isplitr; · iexact HC
      iexact HO
    isplitl [Ha]; · iexact Ha
    iexact Hk)) $$ [-]
  isplitl [HO]
  · isplitr; · iexact HC
    iexact HO
  isplitl [HA]; · iexact HA
  iintro ⟨⟨-, HO⟩, HB⟩
  ihave HB := (Entails.of_eq (bigSep_sep' _ _ _)) $$ HB
  icases HB with ⟨HE6, HB⟩
  ihave Hv := (shares_back m c) $$ [Hv HB]
  · isplitl [Hv]; · iexact Hv
    iexact HB
  ihave H3 := (rows_back m c) $$ [Hv HV]
  · isplitl [Hv]; · iexact Hv
    iexact HV
  iapply HK
  isplitl [HO]; · iexact HO
  isplitl [H2]; · iexact H2
  isplitl [H3]; · iexact H3
  isplitl [H6]; · iexists _; iexact H6
  isplitl [HMO]; · iexact HMO
  iapply (endPos_intro c)
  isplitl [HE02]; · iexact HE02
  isplitl [HE4]; · iexact HE4
  isplitl [HE6]; · iexact HE6
  isplitl [HE5]; · iexact HE5
  iexact HE7

end Cert.KernelIdeal.Att

end
-- ==== Proof.Run.lean ====
module

public import proofs.«01_k».proof.Proof.Phase2
public import proofs.«01_k».proof.Proof.Phase4
public import Idealize.ShloMosaic.Lib.Rounds.Family

@[expose] public section

set_option maxRecDepth 65536

noncomputable section

/-! The whole body: from what a device has at the start to what it has at the end, every cell back at zero. -/

namespace Cert.KernelIdeal.Att

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ) (κ : GSem nD τ sig → ℕ)

/-- The cells of a device's exchange. -/
abbrev CellIx : Type := Fin 8 × Dev nD

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]; rfl

/-- A family over a device's cells: for each array the device's own place, and its peers'. -/
theorem bigSep_cells (c : Dev nD) (Φ : Fin 8 → Dev nD → sProp 𝕄) :
    (bigSep Finset.univ fun p : CellIx => Φ p.1 p.2) = bigSep Finset.univ fun a => iprop(Φ a c ∗ bigSep Finset.univ fun r => Φ a (nx r c)) := by
  rw [bigSep_univ_prod]
  exact bigSep_congr fun a _ => bigSep_nx c (Φ a)

/-! ## What a device is dealt -/

/-- The right to fill one of the cells that the device fills: its own where its copies leave, its peers' where they land. -/
def tokX (c : Dev nD) (p : CellIx) : sProp 𝕄 := if p.1.val % 2 = 0 then dutyTok ER (xC c p.1 p.2) 0 0 else dutyTok ER (xC p.2 p.1 c) 0 0
def toks (c : Dev nD) : sProp 𝕄 := bigSep Finset.univ fun p => tokX c p
def barToks (c : Dev nD) : sProp 𝕄 := bigSep Finset.univ fun r => dutyTok ER (barC (nx r c)) 0 (rv r)
theorem toks_even (a : Fin 8) (h : a.val % 2 = 0) (c : Dev nD) :
    (bigSep Finset.univ fun r => tokX c (a, nx r c) : sProp 𝕄) ⊢ bigSep Finset.univ fun r => dutyTok ER (xC c a (nx r c)) 0 0 :=
  bigSep_mono fun r _ => Entails.of_eq (show tokX c (a, nx r c) = _ by unfold tokX; exact if_pos h)
theorem toks_odd (a : Fin 8) (h : a.val % 2 ≠ 0) (c : Dev nD) :
    (bigSep Finset.univ fun r => tokX c (a, nx r c) : sProp 𝕄) ⊢ bigSep Finset.univ fun r => dutyTok ER (xC (nx r c) a c) 0 0 :=
  bigSep_mono fun r _ => Entails.of_eq (show tokX c (a, nx r c) = _ by unfold tokX; exact if_neg h)
/-- What the device waits for from its peers. -/
def credX (c : Dev nD) (a : Fin 8) : sProp 𝕄 := bigSep Finset.univ fun r => cred (tallyAt (xC c a (pv r c)) () (amt a))
def creds (c : Dev nD) : sProp 𝕄 := iprop(credX c 1 ∗ credX c 3 ∗ credX c 5 ∗ credX c 7)
/-- Where the device's cells stand, and that they are open. -/
def poss (c : Dev nD) (R : ℕ) : sProp 𝕄 := bigSep Finset.univ fun p : CellIx => atPos ER (xC c p.1 p.2) R ∅ 0
def marks (c : Dev nD) : sProp 𝕄 := bigSep Finset.univ fun p : CellIx => reached ER (xC c p.1 p.2) 0
def barMarks : sProp 𝕄 := bigSep Finset.univ fun c : Dev nD => reached ER (barC c) 0

instance marks_persistent (c : Dev nD) : BI.Persistent (marks (F := F) c) := by unfold marks; infer_instance
instance barMarks_persistent : BI.Persistent (barMarks (F := F)) := by unfold barMarks; infer_instance

theorem marks_at (c : Dev nD) (a : Fin 8) (s : Dev nD) : (marks c : sProp 𝕄) ⊢ reached ER (xC c a s) 0 := by
  unfold marks
  exact bigSep_elim (Φ := fun p : CellIx => reached ER (xC c p.1 p.2) 0) (Finset.mem_univ (a, s))
theorem barMarks_at (c : Dev nD) : (barMarks : sProp 𝕄) ⊢ reached ER (barC c) 0 := by
  unfold barMarks
  exact bigSep_elim (Φ := fun c : Dev nD => reached ER (barC c) 0) (Finset.mem_univ c)

/-- The cells at its own place, which nothing fills. -/
def selfs (c : Dev nD) : sProp 𝕄 := bigSep Finset.univ fun a : Fin 8 => atPos ER (xC c a c) 0 ∅ 0
/-- The peers' cells at round `R`. -/
def peers (c : Dev nD) (R : ℕ) : sProp 𝕄 := bigSep Finset.univ fun a : Fin 8 => bigSep Finset.univ fun r => atPos ER (xC c a (nx r c)) R ∅ 0

theorem poss_apart (c : Dev nD) (R : ℕ) : (poss c 0 : sProp 𝕄) = iprop(selfs c ∗ peers c 0) := by
  unfold poss selfs peers
  rw [bigSep_cells c (fun a s => atPos ER (xC c a s) 0 ∅ 0), bigSep_sep']

/-- The signals' parts. -/
theorem sig_intro (c : Dev nD) :
    (iprop((barMarks ∗ marks c) ∗ barToks c ∗ (bigSep Finset.univ fun r => any c (slotM false (nx r c))) ∗ (bigSep Finset.univ fun r => any c (slotM true (nx r c)))
        ∗ bigSep Finset.univ fun r => any c (rslotM (nx r c))) : sProp 𝕄) ⊢ bigSep Finset.univ fun r => sigA c r := by
  unfold barToks
  rw [← bigSep_sep', ← bigSep_sep', ← bigSep_sep']
  refine bigSep_with_persistent fun r _ => ?_
  unfold sigA barPay
  rw [nx_rv_nx]
  iintro ⟨⟨#HB, #HM⟩, Ht, Hk, Hv, Hs⟩
  isplitl [Ht]; · iexact Ht
  isplitl [Hk Hv Hs]
  · isplitl [Hk]; · iexact Hk
    isplitl [Hv]; · iexact Hv
    isplitl [Hs]; · iexact Hs
    isplitr; · iapply (marks_at (F := F) c 1 (nx r c)); iexact HM
    isplitr; · iapply (marks_at (F := F) c 3 (nx r c)); iexact HM
    isplitr; · iapply (marks_at (F := F) c 5 (nx r c)); iexact HM
    iapply (marks_at (F := F) c 7 (nx r c)); iexact HM
  iapply (barMarks_at (F := F) (nx r c)); iexact HB

/-- The rights for the copies of a pair of arrays. -/
theorem sendTok_intro (a b : Fin 8) (c : Dev nD) :
    (iprop(marks c ∗ (bigSep Finset.univ fun r => dutyTok ER (xC c a (nx r c)) 0 0) ∗ bigSep Finset.univ fun r => dutyTok ER (xC (nx r c) b c) 0 0) : sProp 𝕄)
      ⊢ bigSep Finset.univ fun r => sendTok a b c r := by
  rw [← bigSep_sep']
  refine bigSep_with_persistent fun r _ => ?_
  unfold sendTok
  iintro ⟨#HM, Ha, Hb⟩
  isplitl [Ha]; · iexact Ha
  isplitr; · iapply (marks_at (F := F) c a (nx r c)); iexact HM
  iexact Hb

theorem tokA_intro (b : Bool) (c : Dev nD) :
    (iprop((bigSep Finset.univ fun r => any c (stageM b r)) ∗ bigSep Finset.univ fun r => sendTok (snd b) (rcv b) c r) : sProp 𝕄)
      ⊢ bigSep Finset.univ fun r => tokA b c r := by
  rw [← bigSep_sep']
  exact bigSep_mono fun r _ => by unfold sendTok tokA; exact BI.Entails.refl _

/-- The rights dealt, by the copies they serve. -/
theorem toks_apart (c : Dev nD) :
    (iprop(marks c ∗ toks c) : sProp 𝕄) ⊢ iprop((bigSep Finset.univ fun r => sendTok 0 1 c r) ∗ (bigSep Finset.univ fun r => sendTok 2 3 c r)
      ∗ (bigSep Finset.univ fun r => sendTok 4 5 c r) ∗ bigSep Finset.univ fun r => sendTok 6 7 c r) := by
  unfold toks
  rw [bigSep_cells c (fun a s => tokX c (a, s)), bigSep_fin8]
  iintro ⟨#HM, ⟨-, T0⟩, ⟨-, T1⟩, ⟨-, T2⟩, ⟨-, T3⟩, ⟨-, T4⟩, ⟨-, T5⟩, ⟨-, T6⟩, -, T7⟩
  isplitl [T0 T1]
  · iapply (sendTok_intro (F := F) 0 1 c); isplitr; · iexact HM
    isplitl [T0]; · iapply (toks_even (F := F) 0 (by decide) c); iexact T0
    iapply (toks_odd (F := F) 1 (by decide) c); iexact T1
  isplitl [T2 T3]
  · iapply (sendTok_intro (F := F) 2 3 c); isplitr; · iexact HM
    isplitl [T2]; · iapply (toks_even (F := F) 2 (by decide) c); iexact T2
    iapply (toks_odd (F := F) 3 (by decide) c); iexact T3
  isplitl [T4 T5]
  · iapply (sendTok_intro (F := F) 4 5 c); isplitr; · iexact HM
    isplitl [T4]; · iapply (toks_even (F := F) 4 (by decide) c); iexact T4
    iapply (toks_odd (F := F) 5 (by decide) c); iexact T5
  iapply (sendTok_intro (F := F) 6 7 c); isplitr; · iexact HM
  isplitl [T6]; · iapply (toks_even (F := F) 6 (by decide) c); iexact T6
  iapply (toks_odd (F := F) 7 (by decide) c); iexact T7

/-- What each exchange starts from, out of the rights, the credits and the positions. -/
theorem deal (c : Dev nD) :
    (iprop(marks c ∗ toks c ∗ creds c ∗ peers c 0) : sProp 𝕄) ⊢ iprop((bigSep Finset.univ fun r => sendTok 0 1 c r) ∗ (bigSep Finset.univ fun r => sendTok 2 3 c r)
      ∗ (bigSep Finset.univ fun r => iprop(recvA false c r ∗ recvA true c r)) ∗ sumStart c) := by
  unfold creds peers
  rw [bigSep_fin8]
  iintro ⟨#HM, HT, ⟨C1, C3, C5, C7⟩, P0, P1, P2, P3, P4, P5, P6, P7⟩
  ihave HT := (toks_apart (F := F) c) $$ [HT]
  · isplitr; · iexact HM
    iexact HT
  icases HT with ⟨S0, S2, S4, S6⟩
  ihave P1 := (Entails.of_eq (bigSep_pv_nx c (fun s => atPos ER (xC c 1 s) 0 ∅ 0)).symm) $$ P1
  ihave P3 := (Entails.of_eq (bigSep_pv_nx c (fun s => atPos ER (xC c 3 s) 0 ∅ 0)).symm) $$ P3
  ihave P5 := (Entails.of_eq (bigSep_pv_nx c (fun s => atPos ER (xC c 5 s) 0 ∅ 0)).symm) $$ P5
  ihave P7 := (Entails.of_eq (bigSep_pv_nx c (fun s => atPos ER (xC c 7 s) 0 ∅ 0)).symm) $$ P7
  isplitl [S0]; · iexact S0
  isplitl [S2]; · iexact S2
  isplitl [C1 P1 C3 P3]
  · unfold credX recvA
    rw [bigSep_sep', bigSep_sep', bigSep_sep']
    isplitl [C1 P1]
    · isplitl [C1]; · iexact C1
      iexact P1
    isplitl [C3]; · iexact C3
    iexact P3
  unfold sumStart credX getTok sentPos
  rw [bigSep_sep', bigSep_sep', bigSep_sep']
  isplitl [S4]; · iexact S4
  isplitl [S6]; · iexact S6
  isplitl [C5 P5]
  · isplitl [C5]; · iexact C5
    iexact P5
  isplitl [C7 P7]
  · isplitl [C7]; · iexact C7
    iexact P7
  isplitl [P0 P2]
  · isplitl [P0]; · iexact P0
    iexact P2
  isplitl [P4]; · iexact P4
  iexact P6

/-- Where the cells stand at the end. -/
theorem peers_end (c : Dev nD) :
    (iprop((bigSep Finset.univ fun r => recvB c r) ∗ bigSep Finset.univ fun r => endPos c r) : sProp 𝕄) ⊢ peers c 1 := by
  unfold peers recvB endPos sentPos
  rw [bigSep_fin8]
  simp only [bigSep_sep']
  iintro ⟨⟨P1, P3⟩, P0, P2, P4, P6, P5, P7⟩
  isplitl [P0]; · iexact P0
  isplitl [P1]; · iapply (Entails.of_eq (bigSep_pv_nx c (fun s => atPos ER (xC c 1 s) 1 ∅ 0))); iexact P1
  isplitl [P2]; · iexact P2
  isplitl [P3]; · iapply (Entails.of_eq (bigSep_pv_nx c (fun s => atPos ER (xC c 3 s) 1 ∅ 0))); iexact P3
  isplitl [P4]; · iexact P4
  isplitl [P5]; · iapply (Entails.of_eq (bigSep_pv_nx c (fun s => atPos ER (xC c 5 s) 1 ∅ 0))); iexact P5
  isplitl [P6]; · iexact P6
  iapply (Entails.of_eq (bigSep_pv_nx c (fun s => atPos ER (xC c 7 s) 1 ∅ 0))); iexact P7

/-! ## Closing the cells -/

theorem close_x (c : Dev nD) (a : Fin 8) (s : Dev nD) {R : ℕ} (hR : ∀ r, R ≤ r → (sched m).duties (xC c a s) r = ∅) :
    (iprop(Ctx m κ ∗ atPos ER (xC c a s) R ∅ 0) : sProp 𝕄) ⊢ iprop(|={Set.univ}=> semVal (xC c a s) 0) := by
  iintro ⟨#HC, H⟩
  iapply (cell_close ER (sched m) (κ := κ (xC c a s)) (Set.mem_univ _) (fun h => h) hR)
  isplitr; · iapply (ctx_x m κ c a s); iexact HC
  iexact H

theorem close_bar (c : Dev nD) : (iprop(Ctx m κ ∗ atPos ER (barC c) 1 ∅ 0) : sProp 𝕄) ⊢ iprop(|={Set.univ}=> semVal (barC c) 0) := by
  iintro ⟨#HC, H⟩
  iapply (cell_close ER (sched m) (κ := κ (barC c)) (Set.mem_univ _) (fun h => h) (duties_later m _))
  isplitr; · iapply (ctx_bar m κ c); iexact HC
  iexact H

/-- All cells of the exchange closed. -/
def zeros (c : Dev nD) : sProp 𝕄 := bigSep Finset.univ fun p : CellIx => semVal (xC c p.1 p.2) 0

theorem close_all (c : Dev nD) : (iprop(Ctx m κ ∗ selfs c ∗ peers c 1) : sProp 𝕄) ⊢ iprop(|={Set.univ}=> zeros c) := by
  unfold selfs peers zeros
  rw [bigSep_cells c (fun a s => semVal (xC c a s) 0), ← bigSep_sep']
  refine (bigSep_with_persistent (Ψ := fun a => iprop(|={Set.univ}=> iprop(semVal (xC c a c) 0 ∗ bigSep Finset.univ fun r => semVal (xC c a (nx r c)) 0))) fun a _ => ?_).trans
    (bigSep_fupd _ _)
  iintro ⟨#HC, H0, H⟩
  imod (close_x m κ c a c (fun r _ => duties_self m c a r)) $$ [H0] with H0
  · isplitr; · iexact HC
    iexact H0
  imod ((bigSep_with_persistent (R := Ctx m κ) (Ψ := fun r => iprop(|={Set.univ}=> semVal (xC c a (nx r c)) 0)) fun r _ =>
    close_x m κ c a (nx r c) (duties_later m _)).trans (bigSep_fupd Finset.univ _)) $$ [H] with H
  · isplitr; · iexact HC
    iexact H
  imodintro
  isplitl [H0]; · iexact H0
  iexact H

/-! ## The body -/

abbrev MW : Memref sig .tc .vmem S1024x1024 .f32 := Memref.whole cc0_stg0_0

/-- The arrays and buffers of a device at the start. -/
def bufs₀ (c : Dev nD) : sProp 𝕄 :=
  iprop(laneRes m false c ∗ laneRes m true c ∗ full c (Memref.whole main_v1) (V m c main_v1) ∗ full c (Memref.whole main_v2) (V m c main_v2)
    ∗ any c (lane false).buf ∗ any c (lane true).buf ∗ any c M6 ∗ any c (lane false).hbm ∗ any c (lane true).hbm ∗ any c (lane false).stg ∗ any c (lane true).stg)
/-- What it is dealt of the protocol. -/
def dealt (c : Dev nD) : sProp 𝕄 :=
  iprop(barToks c ∗ cred (tallyAt (barC c) () 7) ∗ atPos ER (barC c) 0 ∅ 0 ∗ toks c ∗ creds c ∗ poss c 0)
/-- Its buffers at the end. -/
def bufs₁ (c : Dev nD) : sProp 𝕄 :=
  iprop(full c (lane false).src (srcV m false c) ∗ full c (lane true).src (srcV m true c) ∗ any c (lane false).ld ∗ any c (lane true).ld
    ∗ any c M2 ∗ any c M3 ∗ any c (lane false).buf ∗ any c (lane true).buf ∗ any c M6)
/-- Its counters at the end. -/
def sems₁ (c : Dev nD) : sProp 𝕄 :=
  iprop(semVal (barC c) 0 ∗ zeros c ∗ semVal (gcell c (.dma (lane false).sIn)) 0 ∗ semVal (gcell c (.dma (lane false).sOut)) 0
    ∗ semVal (gcell c (.dma (lane true).sIn)) 0 ∗ semVal (gcell c (.dma (lane true).sOut)) 0)

/-- The slots of a gathered operand, the peers'. -/
theorem slots_apart (b : Bool) (c : Dev nD) : (any c (lane b).hbm : sProp 𝕄) ⊢ bigSep Finset.univ fun r => any c (slotM b (nx r c)) := by
  have h := any_split (F := F) c (lane b).hbm slotR (fun _ _ => rfl) slot_disj slot_cover
  refine h.trans ((bigSep_mono fun s _ => any_squeeze c _ squeezes_S1x1024x8x128_S1024x8x128).trans ?_)
  refine (Entails.of_eq (bigSep_nx c (fun s => any c (slotM b s)))).trans ?_
  iintro ⟨-, H⟩
  iexact H

theorem stages_apart (b : Bool) (c : Dev nD) : (any c (lane b).stg : sProp 𝕄) ⊢ bigSep Finset.univ fun r => any c (stageM b r) :=
  (any_split (F := F) c (lane b).stg stageR (fun _ _ => rfl) stage_disj stage_cover).trans
    (bigSep_mono fun s _ => any_squeeze c _ squeezes_S1x1024x8x128_S1024x8x128)

theorem rslots_apart (c : Dev nD) : (any c M6 : sProp 𝕄) ⊢ iprop(any c (slot4 c) ∗ bigSep Finset.univ fun r => any c (rslotM (nx r c))) := by
  refine (any_split (F := F) c M6 rslotR (fun _ _ => rfl) rslot_disj rslot_cover).trans ?_
  refine (Entails.of_eq (bigSep_nx c (fun s => any c (slot4 s)))).trans (sep_mono_right (bigSep_mono fun s _ => ?_))
  exact any_squeeze c (slot4 (nx s c)) squeezes_S1x128x8x128_S128x8x128

/-- The body, from start to end. -/
theorem run_body (c : Dev nD) (K : PUnit → sProp 𝕄) :
    iprop((Ctx m κ ∗ barMarks ∗ marks c) ∗ debt c (O₀ c) ∗ dealt c ∗ bufs₀ m c ∗ full c MW (woV m c) ∗ any c MO
        ∗ ((debt c 0 ∗ bufs₁ m c ∗ sems₁ c ∗ full c MW (woV m c) ∗ full c MO (outV m c)) -∗ K ⟨⟩))
      ⊢ run c body K := by
  unfold body dealt bufs₀
  rw [poss_apart c 0, run_bind]
  iintro ⟨⟨#HC, #HB, #HM⟩, HO, ⟨HbT, HcB, HaB, HT, Hcr, Hself, Hpeer⟩, ⟨HL0, HL1, H1, H2, Hb0, Hb1, H6, Hh0, Hh1, Hs0, Hs1⟩, HW, HMO, HK⟩
  iapply (show run c (phaseSend c >>= fun _ => phaseAtt c phaseProj >>= fun _ => phaseSum c) K
    ⊢ run c (Prog.lift .deviceId) (fun d0 => run c (phaseSend d0 >>= fun _ => phaseAtt d0 phaseProj >>= fun _ => phaseSum d0) K) from by
      refine BI.Entails.trans ?_ (Entails.of_eq (wp_deviceId ..).symm)
      refine BI.Entails.trans ?_ (Entails.of_eq (wp_ret ..).symm)
      show run c (phaseSend c >>= fun _ => phaseAtt c phaseProj >>= fun _ => phaseSum c) K ⊢ (iprop(|={Set.univ}=> run c (phaseSend c >>= fun _ => phaseAtt c phaseProj >>= fun _ => phaseSum c) K) : sProp 𝕄)
      iintro H; imodintro; iexact H) $$ [-]
  ihave HD := (deal (F := F) c) $$ [HT Hcr Hpeer]
  · isplitr; · iexact HM
    isplitl [HT]; · iexact HT
    isplitl [Hcr]; · iexact Hcr
    iexact Hpeer
  icases HD with ⟨S0, S2, HR, Hsum⟩
  ihave Hh0 := (slots_apart (F := F) false c) $$ Hh0
  ihave Hh1 := (slots_apart (F := F) true c) $$ Hh1
  ihave Hs0 := (stages_apart (F := F) false c) $$ Hs0
  ihave Hs1 := (stages_apart (F := F) true c) $$ Hs1
  ihave H6 := (rslots_apart (F := F) c) $$ H6
  icases H6 with ⟨H6c, H6⟩
  ihave Hsig := (sig_intro (F := F) c) $$ [HbT Hh0 Hh1 H6]
  · isplitr
    · isplitr; · iexact HB
      iexact HM
    isplitl [HbT]; · iexact HbT
    isplitl [Hh0]; · iexact Hh0
    isplitl [Hh1]; · iexact Hh1
    iexact H6
  ihave HtA0 := (tokA_intro (F := F) false c) $$ [Hs0 S0]
  · isplitl [Hs0]; · iexact Hs0
    iexact S0
  ihave HtA1 := (tokA_intro (F := F) true c) $$ [Hs1 S2]
  · isplitl [Hs1]; · iexact Hs1
    iexact S2
  rw [run_bind]
  iapply (run_phaseSend m κ c) $$ [-]
  isplitr; · iexact HC
  isplitl [HO]; · iexact HO
  isplitl [Hsig]; · iexact Hsig
  isplitl [HcB]; · iexact HcB
  isplitl [HaB]; · iexact HaB
  isplitl [HL0]; · iexact HL0
  isplitl [HL1]; · iexact HL1
  isplitl [HtA0]; · iexact HtA0
  isplitl [HtA1]; · iexact HtA1
  iintro ⟨HO, HaB, HL0, HL1, HsB, Hkeep⟩
  rw [run_bind]
  iapply (run_phaseAtt m κ c phaseProj) $$ [-]
  isplitr; · iexact HC
  isplitl [HO]; · iexact HO
  isplitl [HL0]; · iexact HL0
  isplitl [HL1]; · iexact HL1
  isplitl [H1]; · iexact H1
  isplitl [H2]; · iexact H2
  isplitl [Hb0]; · iexact Hb0
  isplitl [Hb1]; · iexact Hb1
  isplitl [HR]; · iexact HR
  unfold laneRes
  iintro ⟨HO, ⟨Hsrc0, Hld0, H20, HvI0, HvO0⟩, ⟨Hsrc1, Hld1, H30, HvI1, HvO1⟩, Hb0, Hb1, HrB⟩
  iapply (run_phaseProj c (att m c) (woV m c)) $$ [-]
  isplitl [Hld0]; · iexact Hld0
  isplitl [HW]; · iexact HW
  isplitl [H20]; · iexact H20
  iintro ⟨Hld0, HW, H20⟩
  iapply (wp_fupd _ _)
  iapply (run_phaseSum m κ c) $$ [-]
  isplitr; · iexact HC
  isplitl [HO]; · iexact HO
  isplitl [H20]; · iexact H20
  isplitl [H30]; · iexact H30
  isplitl [H6c]; · iexact H6c
  isplitl [HMO]; · iexact HMO
  isplitl [Hkeep]; · iexact Hkeep
  isplitl [HsB]; · iexact HsB
  isplitl [Hsum]; · iexact Hsum
  iintro ⟨HO, H20, H30, H6, HMO, Hend⟩
  ihave Hpeer := (peers_end (F := F) c) $$ [HrB Hend]
  · isplitl [HrB]; · iexact HrB
    iexact Hend
  imod (close_all m κ c) $$ [Hself Hpeer] with Hz
  · isplitr; · iexact HC
    isplitl [Hself]; · iexact Hself
    iexact Hpeer
  imod (close_bar m κ c) $$ [HaB] with HzB
  · isplitr; · iexact HC
    iexact HaB
  imodintro
  iapply HK
  isplitl [HO]; · iexact HO
  isplitl [Hsrc0 Hsrc1 Hld0 Hld1 H20 H30 Hb0 Hb1 H6]
  · unfold bufs₁
    isplitl [Hsrc0]; · iexact Hsrc0
    isplitl [Hsrc1]; · iexact Hsrc1
    isplitl [Hld0]; · iexact Hld0
    isplitl [Hld1]; · iexact Hld1
    isplitl [H20]; · iexact H20
    isplitl [H30]; · iexact H30
    isplitl [Hb0]; · iexact Hb0
    isplitl [Hb1]; · iexact Hb1
    iexact H6
  isplitl [HzB Hz HvI0 HvO0 HvI1 HvO1]
  · unfold sems₁
    isplitl [HzB]; · iexact HzB
    isplitl [Hz]; · iexact Hz
    isplitl [HvI0]; · iexact HvI0
    isplitl [HvO0]; · iexact HvO0
    isplitl [HvI1]; · iexact HvI1
    iexact HvO1
  isplitl [HW]; · iexact HW
  iexact HMO

end Cert.KernelIdeal.Att

end
-- ==== Proof.Fund.lean ====
module

public import proofs.«01_k».proof.Proof.Run
public import Idealize.ShloMosaic.Lib.Pipeline.Regions

@[expose] public section

set_option maxRecDepth 65536

noncomputable section

/-! The launch: the cells made, the rights and the credits dealt to the devices. -/

namespace Cert.KernelIdeal.Att

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ) (κ : GSem nD τ sig → ℕ)

/-! ## The cells and the rights -/

theorem semIx_inj {a a' : Fin 8} {s s' : Dev nD} (h : semIx a s = semIx a' s') : a = a' ∧ s = s' :=
  ⟨by rw [← semK_ix a s, h, semK_ix], by rw [← semD_ix a s, h, semD_ix]⟩

/-- A device's barrier, or its cell of the exchange. -/
abbrev Cix : Type := Dev nD ⊕ (Dev nD × CellIx)
def cellAt : Cix → GSem nD τ sig
  | .inl c => barC c
  | .inr p => xC p.1 p.2.1 p.2.2
theorem cellAt_inj : Function.Injective cellAt
  | .inl c, .inl c', h => congrArg Sum.inl (show c = c' from congrArg (fun g : GSem nD τ sig => g.1.1) h)
  | .inl c, .inr p, h => absurd (congrArg Prod.snd h) (dma_ne_bar _).symm
  | .inr p, .inl c, h => absurd (congrArg Prod.snd h) (dma_ne_bar _)
  | .inr p, .inr q, h => by
    have h1 : p.1 = q.1 := congrArg (fun g : GSem nD τ sig => g.1.1) h
    have h2 := semIx_inj (SemLoc.dma.inj (congrArg Prod.snd h : (SemLoc.dma (semIx p.2.1 p.2.2) : SemLoc sig) = .dma (semIx q.2.1 q.2.2)))
    exact congrArg Sum.inr (Prod.ext h1 (Prod.ext h2.1 h2.2))
/-- A unit of a barrier, or the one copy of a cell. -/
abbrev Tix : Type := (Dev nD × Fin 7) ⊕ (Dev nD × CellIx)
def tokAt : Tix → GSem nD τ sig × ℕ × Fin 7
  | .inl p => (barC p.1, 0, p.2)
  | .inr p => (xC p.1 p.2.1 p.2.2, 0, 0)
theorem tokAt_inj : Function.Injective tokAt
  | .inl c, .inl c', h => congrArg Sum.inl (Prod.ext (congrArg (fun g : GSem nD τ sig × ℕ × Fin 7 => g.1.1.1) h) (congrArg (fun g : GSem nD τ sig × ℕ × Fin 7 => g.2.2) h))
  | .inl c, .inr p, h => absurd (congrArg (fun g : GSem nD τ sig × ℕ × Fin 7 => g.1.2) h) (dma_ne_bar _).symm
  | .inr p, .inl c, h => absurd (congrArg (fun g : GSem nD τ sig × ℕ × Fin 7 => g.1.2) h) (dma_ne_bar _)
  | .inr p, .inr q, h => by
    have hc : cellAt (.inr p) = cellAt (.inr q) := congrArg Prod.fst h
    exact congrArg Sum.inr (Sum.inr.inj (cellAt_inj hc))

def allCells : Finset (GSem nD τ sig) := Finset.univ.map ⟨cellAt, cellAt_inj⟩
def allToks : Finset (GSem nD τ sig × ℕ × Fin 7) := Finset.univ.map ⟨tokAt, tokAt_inj⟩

theorem cells_eq (Φ : GSem nD τ sig → sProp 𝕄) : bigSep allCells Φ
    = iprop((bigSep Finset.univ fun c : Dev nD => Φ (barC c)) ∗ bigSep Finset.univ fun p : Dev nD × CellIx => Φ (xC p.1 p.2.1 p.2.2)) := by
  unfold allCells; rw [bigSep_map, bigSep_univ_sum]; rfl
theorem toks_eq : (bigSep allToks fun x => dutyTok ER x.1 x.2.1 x.2.2 : sProp 𝕄)
    = iprop((bigSep Finset.univ fun p : Dev nD × Fin 7 => dutyTok ER (barC p.1) 0 p.2) ∗ bigSep Finset.univ fun p : Dev nD × CellIx => dutyTok ER (xC p.1 p.2.1 p.2.2) 0 0) := by
  unfold allToks; rw [bigSep_map, bigSep_univ_sum]; rfl

/-- Who raises which unit of which barrier. -/
def barE : Dev nD × Fin 7 ≃ Dev nD × Fin 7 where
  toFun p := (nx p.2 p.1, rv p.2)
  invFun p := (nx p.2 p.1, rv p.2)
  left_inv p := Prod.ext (nx_rv_nx p.2 p.1) (rv_rv p.2)
  right_inv p := Prod.ext (nx_rv_nx p.2 p.1) (rv_rv p.2)
theorem barToks_eq : (bigSep Finset.univ fun p : Dev nD × Fin 7 => dutyTok ER (barC p.1) 0 p.2 : sProp 𝕄) = bigSep Finset.univ fun c : Dev nD => barToks c := by
  rw [bigSep_univ_equiv barE, bigSep_univ_prod]; rfl

/-- Who fills which cell. -/
def xE : Dev nD × CellIx ≃ Dev nD × CellIx where
  toFun p := if p.2.1.val % 2 = 0 then p else (p.2.2, p.2.1, p.1)
  invFun p := if p.2.1.val % 2 = 0 then p else (p.2.2, p.2.1, p.1)
  left_inv p := by
    by_cases h : p.2.1.val % 2 = 0
    · simp only [if_pos h]
    · simp only [if_neg h]
  right_inv p := by
    by_cases h : p.2.1.val % 2 = 0
    · simp only [if_pos h]
    · simp only [if_neg h]
theorem xToks_eq : (bigSep Finset.univ fun p : Dev nD × CellIx => dutyTok ER (xC p.1 p.2.1 p.2.2) 0 0 : sProp 𝕄) = bigSep Finset.univ fun c : Dev nD => toks c := by
  rw [bigSep_univ_equiv xE, bigSep_univ_prod]
  refine bigSep_congr fun c _ => ?_
  unfold toks
  refine bigSep_congr fun p _ => ?_
  unfold tokX
  by_cases h : p.1.val % 2 = 0
  · rw [show xE (c, p) = (c, p) from if_pos h, if_pos h]
  · rw [show xE (c, p) = (p.2, p.1, c) from if_neg h, if_neg h]

/-! ## The ghost state at launch -/

/-- Every cell's invariant. -/
def Inv : sProp 𝕄 :=
  iprop((bigSep Finset.univ fun c : Dev nD => cinv (sched m) κ (barC c)) ∗ bigSep Finset.univ fun p : Dev nD × Fin 8 × Dev nD => cinv (sched m) κ (xC p.1 p.2.1 p.2.2))
instance inv_persistent : BI.Persistent (Inv m κ) := by unfold Inv; infer_instance

/-- What a device is dealt before it runs. -/
def G (c : Dev nD) : sProp 𝕄 :=
  iprop(∃ κ, Inv m κ ∗ openTok ER (barC c) ∗ (bigSep Finset.univ fun p : CellIx => openTok ER (xC c p.1 p.2)) ∗ toks c ∗ barToks c)

theorem fund : (BI.own (ER (launchOf ∅ allCells allToks)) : sProp 𝕄) ⊢ |={Set.univ}=> bigSep Finset.univ (G m) := by
  have hf := Rounds.fund_launch (Es := (Set.univ : Set ℕ)) (ER : Emb UB 𝕄) (sched m) (S := ∅) (Sd := allCells) (Finset.disjoint_empty_left _) (fun _ _ h => h) allToks
  rw [BI.bigSep_empty, Finset.empty_union, BI.bigSep_empty, BI.bigSep_empty, cells_eq, toks_eq, barToks_eq, xToks_eq,
    bigSep_univ_prod (fun p : Dev nD × CellIx => openTok ER (xC p.1 p.2.1 p.2.2))] at hf
  iintro H
  imod hf $$ [H] with ⟨%κ, -, HI, -, -, ⟨Ho, Hx⟩, Hb, Ht⟩
  · isplitr; · iempintro
    iexact H
  imodintro
  iapply (show iprop(Inv m κ ∗ bigSep Finset.univ fun c : Dev nD => iprop(openTok ER (barC c) ∗ (bigSep Finset.univ fun p : CellIx => openTok ER (xC c p.1 p.2)) ∗ toks c ∗ barToks c))
    ⊢ (bigSep Finset.univ (G m) : sProp 𝕄) from bigSep_with_persistent fun c _ => by
      unfold G
      show _ ⊢ (iprop(∃ κ, Inv m κ ∗ openTok ER (barC c) ∗ (bigSep Finset.univ fun p : CellIx => openTok ER (xC c p.1 p.2)) ∗ toks c ∗ barToks c) : sProp 𝕄)
      iintro H; iexists κ; iexact H) $$ [-]
  isplitl [HI]; · unfold Inv; iapply (Entails.of_eq (cells_eq fun g => cellInv ER (sched m) (κ g) g)); iexact HI
  rw [bigSep_sep', bigSep_sep', bigSep_sep']
  isplitl [Ho]; · iexact Ho
  isplitl [Hx]; · iexact Hx
  isplitl [Ht]; · iexact Ht
  iexact Hb

/-- The ghost state, apart. -/
theorem ownU_apart (a : UR sig nD τ) (b : UB) : (ownU ((a, (b, 1)) : UU) : sProp 𝕄) ⊢ iprop(BI.own (EP a) ∗ BI.own (ER b)) :=
  BI.own_op_elim ((uEmb (nD := nD) (τ := τ) (sig := sig) (Ix := Unit) (Val := Elt F) (Name := ℕ) (U := UU) (Lvl := ℕ)).toEmb.op_of_mem
    (Prod.mk_mem_op (URA.mem_op_one a) (URA.mem_one_op (b, (1 : Counters)))))

/-! ## The credits at launch -/

/-- The device reached at hop `r`, as a permutation. -/
def nxE (r : Fin 7) : Dev nD ≃ Dev nD := ⟨nx r, pv r, fun c => pv_nx r c, fun c => nx_pv r c⟩

theorem tallyAt_other {g : GSem nD τ sig} {n : ℕ} {d : Dev nD} (hg : g.1 = (d : Thread nD τ)) (g' : GSem nD τ sig) (h : (tallyAt g () n : CellTallies nD τ sig Unit) g' ≠ 0) :
    g'.1 = (d : Thread nD τ) := by
  by_cases he : g' = g
  · rw [he]; exact hg
  · exact absurd (tallyAt_ne_cell he () n) h

theorem cred_x (a : Fin 8) (r : Fin 7) (c : Dev nD) : (Pipeline.launchCred (fun d => owX a d r) c : sProp 𝕄) = cred (tallyAt (xC c a (pv r c)) () (amt a)) := by
  refine Pipeline.launchCred_of_sum (fun d => owX a d r) (fun d => tallyAt (xC d a (pv r d)) () (amt a)) ?_ (fun d g h => tallyAt_other rfl g h) c
  rw [← Equiv.sum_comp (nxE r) (fun d => (tallyAt (xC d a (pv r d)) () (amt a) : CellTallies nD τ sig Unit))]
  refine Finset.sum_congr rfl fun d _ => ?_
  show owX a d r = tallyAt (xC (nx r d) a (pv r (nx r d))) () (amt a)
  rw [pv_nx]; rfl

theorem tallyAt_sum (g : GSem nD τ sig) : (∑ r : Fin 7, (tallyAt g () 1 : CellTallies nD τ sig Unit)) = tallyAt g () 7 := by
  refine funext fun g' => Finsupp.ext fun u => ?_
  rw [Finset.sum_apply, Finsupp.finsetSum_apply]
  simp only [tallyAt_apply]
  split <;> simp

theorem cred_bar (c : Dev nD) : (Pipeline.launchCred (fun d => ∑ r : Fin 7, owB d r) c : sProp 𝕄) = cred (tallyAt (barC c) () 7) := by
  refine Pipeline.launchCred_of_sum (fun d => ∑ r : Fin 7, owB d r) (fun d => tallyAt (barC d) () 7) ?_ (fun d g h => tallyAt_other rfl g h) c
  rw [Finset.sum_comm, ← Finset.sum_congr rfl fun d (_ : d ∈ (Finset.univ : Finset (Dev nD))) => tallyAt_sum (barC d), Finset.sum_comm (s := (Finset.univ : Finset (Dev nD)))]
  exact Finset.sum_congr rfl fun r _ => Equiv.sum_comp (nxE r) (fun d => (tallyAt (barC d) () 1 : CellTallies nD τ sig Unit))

theorem rem_zero (f : Fin 7 → CellTallies nD τ sig Unit) : rem f 0 = ∑ r : Fin 7, f r := by
  unfold rem; exact Finset.sum_congr rfl fun r _ => if_pos (Nat.zero_le _)

theorem O₀_eq : (O₀ : Dev nD → CellTallies nD τ sig Unit)
    = fun d => (((∑ r : Fin 7, owX 7 d r) + ∑ r : Fin 7, owX 5 d r) + ((∑ r : Fin 7, owX 3 d r) + ∑ r : Fin 7, owX 1 d r)) + ∑ r : Fin 7, owB d r := by
  funext d
  show OB d 0 = _
  unfold OB OK OR OA owKV
  simp only [rem_zero, Finset.sum_add_distrib]

/-- The credit a device starts with. -/
theorem launch_creds (c : Dev nD) : (Pipeline.launchCred O₀ c : sProp 𝕄) ⊢ iprop(cred (tallyAt (barC c) () 7) ∗ creds c) := by
  rw [O₀_eq, Pipeline.launchCred_add, Pipeline.launchCred_add, Pipeline.launchCred_add, Pipeline.launchCred_add, cred_bar,
    Pipeline.launchCred_sum Finset.univ (fun r d => owX 7 d r), Pipeline.launchCred_sum Finset.univ (fun r d => owX 5 d r),
    Pipeline.launchCred_sum Finset.univ (fun r d => owX 3 d r), Pipeline.launchCred_sum Finset.univ (fun r d => owX 1 d r)]
  simp only [cred_x]
  unfold creds credX
  iintro ⟨⟨⟨H7, H5⟩, H3, H1⟩, HB⟩
  isplitl [HB]; · iexact HB
  isplitl [H1]; · iexact H1
  isplitl [H3]; · iexact H3
  isplitl [H5]; · iexact H5
  iexact H7

/-! ## The start of a device -/

/-- The rest of what a device has of the protocol when it starts: its cells of the exchange are still to be opened. -/
def ghost (c : Dev nD) : sProp 𝕄 :=
  iprop(∃ κ, (Ctx m κ ∗ barMarks) ∗ barToks c ∗ cred (tallyAt (barC c) () 7) ∗ atPos ER (barC c) 0 ∅ 0 ∗ toks c ∗ creds c
    ∗ bigSep Finset.univ fun p : CellIx => openTok ER (xC c p.1 p.2))

/-- The counters that outlive the kernel: the barrier. -/
theorem unscopedSems0_eq (c : Dev nD) : (unscopedSems0 c : sProp 𝕄) = semVal (barC c) 0 := by
  unfold unscopedSems0
  rw [bigSep_eq_bigSepL_of_eq [SemLoc.reg barS] (by decide +kernel) (by decide)]
  rfl

/-- A device opens its barrier. -/
theorem open_bar (c : Dev nD) : (iprop(unscopedSems0 c ∗ G m c) : sProp 𝕄)
    ⊢ |={Set.univ}=> iprop(reached ER (barC c) 0 ∗ (∃ κ, Inv m κ ∗ atPos ER (barC c) 0 ∅ 0 ∗ (bigSep Finset.univ fun p : CellIx => openTok ER (xC c p.1 p.2)) ∗ toks c ∗ barToks c)) := by
  rw [unscopedSems0_eq]
  unfold G
  iintro ⟨Hs, %κ, #HI, Ho, H⟩
  imod (cell_open ER (sched m) (κ := κ (barC c)) (g := barC c) (Set.mem_univ _)) $$ [Hs Ho] with ⟨Hat, Hr⟩
  · isplitr
    · unfold Inv; icases HI with ⟨HI, -⟩
      iapply (show (bigSep Finset.univ fun c : Dev nD => cinv (sched m) κ (barC c) : sProp 𝕄) ⊢ cinv (sched m) κ (barC c) from bigSep_elim (Finset.mem_univ c)); iexact HI
    isplitl [Ho]; · iexact Ho
    iexact Hs
  imodintro
  isplitl [Hr]; · iexact Hr
  iexists κ
  isplitr; · iexact HI
  isplitl [Hat]; · iexact Hat
  iexact H

/-- A device opens its cells of the exchange. -/
theorem open_cells (c : Dev nD) : (iprop(Ctx m κ ∗ (bigSep Finset.univ fun p : CellIx => openTok ER (xC c p.1 p.2)) ∗ zeros c) : sProp 𝕄)
    ⊢ |={Set.univ}=> iprop(poss c 0 ∗ marks c) := by
  have h := Rounds.cells_open (Es := (Set.univ : Set ℕ)) (ER : Emb UB 𝕄) (sched m) (Finset.univ : Finset CellIx) (fun p => xC c p.1 p.2) (fun p => κ (xC c p.1 p.2)) (fun _ _ => Set.mem_univ _)
  unfold zeros poss marks
  rw [← bigSep_sep' (Finset.univ : Finset CellIx) (fun p => atPos ER (xC c p.1 p.2) 0 ∅ 0)]
  iintro ⟨#HC, Ho, Hz⟩
  iapply h
  isplitl [Ho]
  · iapply (show iprop(Ctx m κ ∗ bigSep Finset.univ fun p : CellIx => openTok ER (xC c p.1 p.2))
      ⊢ (bigSep Finset.univ fun p : CellIx => iprop(cellInv ER (sched m) (κ (xC c p.1 p.2)) (xC c p.1 p.2) ∗ openTok ER (xC c p.1 p.2)) : sProp 𝕄) from
        bigSep_with_persistent fun p _ => sep_mono_left (ctx_x m κ c p.1 p.2))
    isplitr; · iexact HC
    iexact Ho
  iexact Hz

end Cert.KernelIdeal.Att

end
-- ==== Proof.BodyEq.lean ====
module

public import proofs.«01_k».proof.Proof.Body

@[expose] public section

set_option maxRecDepth 65536

noncomputable section

namespace Cert.KernelIdeal.Att

open Idealize.ShloMosaic Idealize.SL.Sem
open Cert.KernelIdeal Cert.KernelIdeal.Gen

variable {F : FTy → Type} [FloatOps F]

/-- Two programs that start with the same operation and agree after it are equal. -/
theorem op_congr {α β : Type} {e e' : TpuEff nD τ sig (Elt F) Λ₀ .tc β} {k k' : β → Prg F α} (he : e = e') (h : ∀ x, k x = k' x) :
    (Prog.op e k : Prg F α) = Prog.op e' k' := he ▸ congrArg _ (funext h)

set_option maxHeartbeats 0 in
/-- The body as the pipeline calls it is the body in steps. -/
theorem bodyAt0_eq (t : Fin cfg0.N) : bodyAt0 (F := F) t = body := by
  show cc0_body _ _ _ _ _ _ _ _ _ _ _ _ _ _ _ _ _ _ _ _ _ _ _ _ _ _ _ _ _ _ _ _ _ _ _ _ _ _ _ _ _ _ _ _ _ _ = _
  rw [cc0_body_eq_skeleton]
  simp only [cc0_body_skel, k0_part78_eq_skeleton, k0_part78_skel, body, bind_assoc]
  as_aux_lemma =>
    simp only [k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, phaseSend, hops, hopSend, hopRecv, hopDone, hopFold, barSig, barWait, fetchQ, ownStart, ownDone,
      storeSlabs, storeSlab, sumSend, sumRecv, sumDone, clearOwn, outSend, outDone, outRecv, outOwn, loadAll, storeAll, rawInit, rawOwn, rawHop, rawSlab,
      Prog.bind_op, Prog.bind_ret, Prog.bind_lift, bind_assoc, pure_bind]
    repeat (with_reducible refine op_congr ?_ ?_; · rfl; intro _)
    as_aux_lemma =>
      simp only [k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, phaseAtt, hops, hopSend, hopRecv, hopDone, hopFold, barSig, barWait, fetchQ, ownStart, ownDone,
        storeSlabs, storeSlab, sumSend, sumRecv, sumDone, clearOwn, outSend, outDone, outRecv, outOwn, loadAll, storeAll, rawInit, rawOwn, rawHop, rawSlab,
        Prog.bind_op, Prog.bind_ret, Prog.bind_lift, bind_assoc, pure_bind]
      repeat (with_reducible refine op_congr ?_ ?_; · rfl; intro _)
      as_aux_lemma =>
        simp only [k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, phaseAtt, hops, hopSend, hopRecv, hopDone, hopFold, barSig, barWait, fetchQ, ownStart, ownDone,
          storeSlabs, storeSlab, sumSend, sumRecv, sumDone, clearOwn, outSend, outDone, outRecv, outOwn, loadAll, storeAll, rawInit, rawOwn, rawHop, rawSlab,
          Prog.bind_op, Prog.bind_ret, Prog.bind_lift, bind_assoc, pure_bind]
        repeat (with_reducible refine op_congr ?_ ?_; · rfl; intro _)
        as_aux_lemma =>
          simp only [k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, phaseAtt, hops, hopSend, hopRecv, hopDone, hopFold, barSig, barWait, fetchQ, ownStart, ownDone,
            storeSlabs, storeSlab, sumSend, sumRecv, sumDone, clearOwn, outSend, outDone, outRecv, outOwn, loadAll, storeAll, rawInit, rawOwn, rawHop, rawSlab,
            Prog.bind_op, Prog.bind_ret, Prog.bind_lift, bind_assoc, pure_bind]
          repeat (with_reducible refine op_congr ?_ ?_; · rfl; intro _)
          as_aux_lemma =>
            simp only [k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, phaseAtt, phaseProj, hops, hopSend, hopRecv, hopDone, hopFold, barSig, barWait, fetchQ, ownStart, ownDone,
              storeSlabs, storeSlab, sumSend, sumRecv, sumDone, clearOwn, outSend, outDone, outRecv, outOwn, loadAll, storeAll, rawInit, rawOwn, rawHop, rawSlab,
              Prog.bind_op, Prog.bind_ret, Prog.bind_lift, bind_assoc, pure_bind]
            repeat (with_reducible refine op_congr ?_ ?_; · rfl; intro _)
            as_aux_lemma =>
              simp only [k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, phaseProj, hops, hopSend, hopRecv, hopDone, hopFold, barSig, barWait, fetchQ, ownStart, ownDone,
                storeSlabs, storeSlab, sumSend, sumRecv, sumDone, clearOwn, outSend, outDone, outRecv, outOwn, loadAll, storeAll, rawInit, rawOwn, rawHop, rawSlab,
                Prog.bind_op, Prog.bind_ret, Prog.bind_lift, bind_assoc, pure_bind]
              repeat (with_reducible refine op_congr ?_ ?_; · rfl; intro _)
              as_aux_lemma =>
                simp only [k0_part55_eq_skeleton, k0_part55_skel, k0_part56_eq_skeleton, k0_part56_skel, k0_part57_eq_skeleton, k0_part57_skel, k0_part58_eq_skeleton, k0_part58_skel, k0_part59_eq_skeleton, k0_part59_skel, k0_part60_eq_skeleton, k0_part60_skel, phaseProj, phaseSum, hops, hopSend, hopRecv, hopDone, hopFold, barSig, barWait, fetchQ, ownStart, ownDone,
                  storeSlabs, storeSlab, sumSend, sumRecv, sumDone, clearOwn, outSend, outDone, outRecv, outOwn, loadAll, storeAll, rawInit, rawOwn, rawHop, rawSlab,
                  Prog.bind_op, Prog.bind_ret, Prog.bind_lift, bind_assoc, pure_bind]
                repeat (with_reducible refine op_congr ?_ ?_; · rfl; intro _)
                as_aux_lemma =>
                  simp only [k0_part61_eq_skeleton, k0_part61_skel, k0_part62_eq_skeleton, k0_part62_skel, k0_part63_eq_skeleton, k0_part63_skel, k0_part64_eq_skeleton, k0_part64_skel, k0_part65_eq_skeleton, k0_part65_skel, k0_part66_eq_skeleton, k0_part66_skel, k0_part67_eq_skeleton, k0_part67_skel, k0_part68_eq_skeleton, k0_part68_skel, k0_part69_eq_skeleton, k0_part69_skel, phaseSum, hops, hopSend, hopRecv, hopDone, hopFold, barSig, barWait, fetchQ, ownStart, ownDone,
                    storeSlabs, storeSlab, sumSend, sumRecv, sumDone, clearOwn, outSend, outDone, outRecv, outOwn, loadAll, storeAll, rawInit, rawOwn, rawHop, rawSlab,
                    Prog.bind_op, Prog.bind_ret, Prog.bind_lift, bind_assoc, pure_bind]
                  repeat (with_reducible refine op_congr ?_ ?_; · rfl; intro _)
                  as_aux_lemma =>
                    simp only [k0_part70_eq_skeleton, k0_part70_skel, k0_part71_eq_skeleton, k0_part71_skel, k0_part72_eq_skeleton, k0_part72_skel, k0_part73_eq_skeleton, k0_part73_skel, k0_part74_eq_skeleton, k0_part74_skel, k0_part75_eq_skeleton, k0_part75_skel, k0_part76_eq_skeleton, k0_part76_skel, k0_part77_eq_skeleton, k0_part77_skel, phaseSum, hops, hopSend, hopRecv, hopDone, hopFold, barSig, barWait, fetchQ, ownStart, ownDone,
                      storeSlabs, storeSlab, sumSend, sumRecv, sumDone, clearOwn, outSend, outDone, outRecv, outOwn, loadAll, storeAll, rawInit, rawOwn, rawHop, rawSlab,
                      Prog.bind_op, Prog.bind_ret, Prog.bind_lift, bind_assoc, pure_bind]
                    repeat (with_reducible refine op_congr ?_ ?_; · rfl; intro _)
                    rfl

end Cert.KernelIdeal.Att

end
-- ==== Proof.Region.lean ====
module

public import proofs.«01_k».proof.Proof.Fund
public import proofs.«01_k».proof.Proof.BodyEq
public import proofs.«01_k».proof.Proof.Gen.KernelIdeal.Frame
public import Idealize.ShloMosaic.Lib.Pipeline.ValueKit

@[expose] public section

set_option maxRecDepth 65536

noncomputable section

/-! The kernel between its entry and its exit, on one device. -/

namespace Cert.KernelIdeal.Att

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ)

/-! ## Entering and leaving -/

/-- The arrays that the kernel reads and writes by its own copies, at entry. -/
def arrs (c : Dev nD) : sProp 𝕄 :=
  iprop(full c (lane false).src (srcV m false c) ∗ full c (lane true).src (srcV m true c) ∗ full c (Memref.whole main_v1) (V m c main_v1)
    ∗ full c (Memref.whole main_v2) (V m c main_v2) ∗ any c (lane false).hbm ∗ any c (lane true).hbm ∗ any c (lane false).stg ∗ any c (lane true).stg)
/-- The counters of the copies within a device. -/
def locS : Fin 4 → DmaSem sig
  | 0 => (lane false).sIn
  | 1 => (lane false).sOut
  | 2 => (lane true).sIn
  | 3 => (lane true).sOut
def locs (c : Dev nD) : sProp 𝕄 := bigSep Finset.univ fun i : Fin 4 => semVal (gcell c (.dma (locS i))) 0
theorem locs_eq (c : Dev nD) : (locs c : sProp 𝕄) = iprop(semVal (gcell c (.dma (lane false).sIn)) 0 ∗ semVal (gcell c (.dma (lane false).sOut)) 0
    ∗ semVal (gcell c (.dma (lane true).sIn)) 0 ∗ semVal (gcell c (.dma (lane true).sOut)) 0) := by
  unfold locs; rw [bigSep_univ_eq_bigSepL [0, 1, 2, 3] (by decide) (by decide)]; rfl
/-- A device's share of the protocol when its body starts. -/
def start (c : Dev nD) : sProp 𝕄 := iprop(∃ κ, (Ctx m κ ∗ barMarks ∗ marks c) ∗ dealt c)

/-- The scoped buffers, at contents unknown. -/
def scr (c : Dev nD) : sProp 𝕄 :=
  iprop(any c (lane false).ld ∗ any c (lane true).ld ∗ any c M2 ∗ any c M3 ∗ any c (lane false).buf ∗ any c (lane true).buf ∗ any c M6)

theorem any_whole (c : Dev nD) (b : Ref sig .tc) :
    (iprop(∃ f : Buf (Elt F) ((c : Thread nD τ).loc b), ((c : Thread nD τ).loc b) ↦{fullShare} f) : sProp 𝕄) = any c (Memref.whole b) := by
  refine congrArg BI.BIBase.exists (funext fun f => ?_)
  exact (owns_whole (c : Thread nD τ) b fullShare f).symm

theorem scr_eq (c : Dev nD) : (Pipeline.scopedRest (Ix := Unit) (Name := ℕ) (U := UU) (Lvl := ℕ) (Val := Elt F) spec0 c : sProp 𝕄) = scr c := by
  rw [scopedRest0_eq]
  simp only [any_whole]
  rfl

/-- Before the body, and after it. -/
def Φ₀ (c : Dev nD) : sProp 𝕄 := iprop((start m c ∗ arrs m c ∗ locs c) ∗ scr c)
def Yc (c : Dev nD) : sProp 𝕄 := iprop(full c (lane false).src (srcV m false c) ∗ full c (lane true).src (srcV m true c) ∗ semVal (barC c) 0)
def Φ₁ (c : Dev nD) : sProp 𝕄 := iprop(Yc m c ∗ (zeros c ∗ locs c) ∗ scr c)

/-- What the pipeline is told of the body. -/
def dat0 (c : Dev nD) : Pipeline.Dat τ (Elt F) Unit ℕ UU ℕ cfg0 c where
  A w := V m c (Pipeline.arrRef spec0 w)
  after w _ := match w with
    | ⟨0, _⟩ => iblk m c 0 t0_0
    | ⟨1, _⟩ => outV m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem before_in (c : Dev nD) (d : (cfg0.win 0).block.Idx → Elt F (cfg0.win 0).elt) : (dat0 m c).before 0 t0_0 d = woV m c := by
  unfold Pipeline.Dat.before; rw [if_pos (by decide)]; rfl

theorem owesAt_intro (c : Dev nD) (t : Fin (cfg0.N + 1)) (O : CellTallies nD τ sig Unit) (h : (dat0 m c).owed t = O) :
    (debt c O : sProp 𝕄) ⊢ (dat0 m c).owesAt () t := by
  unfold Pipeline.Dat.owesAt Pipeline.owesWithin Pipeline.Dat.bound; rw [h, show (dat0 m c).recorded t = Set.univ from rfl]
  iintro ⟨%W, HO⟩; iexists W; isplitr; · ipureintro; exact fun _ _ => Or.inl trivial
  iexact HO
theorem owesAt_elim (c : Dev nD) (t : Fin (cfg0.N + 1)) (O : CellTallies nD τ sig Unit) (h : (dat0 m c).owed t = O) :
    ((dat0 m c).owesAt () t : sProp 𝕄) ⊢ debt c O := by
  unfold Pipeline.Dat.owesAt Pipeline.owesWithin; rw [h]
  iintro ⟨%W, -, HO⟩; iexists W; iexact HO

/-- The body keeps its promise. -/
theorem body_obligation (c : Dev nD) : Pipeline.BodyObligation (dat0 m c) (defs₀ (F := F)) 𝒱₀ () Set.univ := fun t => by
  obtain rfl := fin_N0 t
  rw [bigSep_W0, bigSep_W0]
  rw [show (dat0 m c).Φ t0_0.castSucc = Φ₀ m c from rfl, show (dat0 m c).Φ t0_0.succ = Φ₁ m c from rfl]
  show _ ⊢ run c (bodyAt0 t0_0) _
  rw [bodyAt0_eq]
  unfold Φ₀ start scr
  rw [locs_eq]
  iintro ⟨⟨⟨⟨%κ, HC, HD⟩, HA, Hl0, Hl1, Hl2, Hl3⟩, S0, S1, S2, S3, S4, S5, S6⟩, HO, ⟨%d0, H0⟩, %d1, H1⟩
  ihave HO := (owesAt_elim m c _ (O₀ c) rfl) $$ HO
  iapply (run_body m κ c _) $$ [-]
  isplitl [HC]; · iexact HC
  isplitl [HO]; · iexact HO
  isplitl [HD]; · iexact HD
  isplitl [HA Hl0 Hl1 Hl2 Hl3 S0 S1 S2 S3 S4 S5 S6]
  · unfold arrs bufs₀ laneRes
    icases HA with ⟨Ha2, Ha3, Hv1, Hv2, Hh0, Hh1, Hs0, Hs1⟩
    isplitl [Ha2 S0 S2 Hl0 Hl1]
    · isplitl [Ha2]; · iexact Ha2
      isplitl [S0]; · iexact S0
      isplitl [S2]; · iexact S2
      isplitl [Hl0]; · iexact Hl0
      iexact Hl1
    isplitl [Ha3 S1 S3 Hl2 Hl3]
    · isplitl [Ha3]; · iexact Ha3
      isplitl [S1]; · iexact S1
      isplitl [S3]; · iexact S3
      isplitl [Hl2]; · iexact Hl2
      iexact Hl3
    isplitl [Hv1]; · iexact Hv1
    isplitl [Hv2]; · iexact Hv2
    isplitl [S4]; · iexact S4
    isplitl [S5]; · iexact S5
    isplitl [S6]; · iexact S6
    isplitl [Hh0]; · iexact Hh0
    isplitl [Hh1]; · iexact Hh1
    isplitl [Hs0]; · iexact Hs0
    iexact Hs1
  isplitl [H0]
  · iapply (Entails.of_eq (congrArg (fun X => (full c MW X : sProp 𝕄)) (before_in m c d0))); iexact H0
  isplitl [H1]; · iexists _; iexact H1
  unfold bufs₁ sems₁
  iintro ⟨HO, ⟨Ha2, Ha3, S0, S1, S2, S3, S4, S5, S6⟩, ⟨Hb, Hz, Hl0, Hl1, Hl2, Hl3⟩, HW, HM⟩
  isplitl [Ha2 Ha3 S0 S1 S2 S3 S4 S5 S6 Hb Hz Hl0 Hl1 Hl2 Hl3]
  · unfold Φ₁ Yc scr
    rw [locs_eq]
    isplitl [Ha2 Ha3 Hb]
    · isplitl [Ha2]; · iexact Ha2
      isplitl [Ha3]; · iexact Ha3
      iexact Hb
    isplitl [Hz Hl0 Hl1 Hl2 Hl3]
    · isplitl [Hz]; · iexact Hz
      isplitl [Hl0]; · iexact Hl0
      isplitl [Hl1]; · iexact Hl1
      isplitl [Hl2]; · iexact Hl2
      iexact Hl3
    isplitl [S0]; · iexact S0
    isplitl [S1]; · iexact S1
    isplitl [S2]; · iexact S2
    isplitl [S3]; · iexact S3
    isplitl [S4]; · iexact S4
    isplitl [S5]; · iexact S5
    iexact S6
  isplitl [HO]; · iapply (owesAt_intro m c _ 0 rfl); iexact HO
  isplitl [HW]; · iexact HW
  iexact HM

/-- The result array at the end. -/
theorem out_eq (c : Dev nD) : (dat0 m c).arrAt 1 cfg0.N = outV m c := by
  refine (dat0 m c).arrAt_eq_of_after_last 1 t0_0 (by decide +kernel) _ fun j => ?_
  show outV m c j = outV m c _
  refine congrArg (outV m c) ?_
  blk_simp

end Cert.KernelIdeal.Att

end
-- ==== Proof.Launch.lean ====
module

public import proofs.«01_k».proof.Proof.Region

@[expose] public section

set_option maxRecDepth 65536

noncomputable section

/-! The whole program on eight devices: it ends, its arguments are as they were, its result is `outV`, every counter is
    back at zero. -/

namespace Cert.KernelIdeal.Att

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c
  | 0 => dat0 m

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

/-- The buffers at launch. -/
abbrev V₀ (c : Dev nD) : Valuation τ sig (Elt F) := fun b => m (c, b)

/-- What rides along with the host's operations. -/
def R (c : Dev nD) : sProp 𝕄 := iprop(ghost m c ∗ debt c (O₀ c))

/-- The host's two reshapes. -/
def seg0 : ℍ := Pipeline.HostSeg.ofOps _ _ _ _ _ (Pipeline.ucRefs τ sig) hostOps0
  (fun op h => Pipeline.sub_ucRefs op (List.forall_iff_forall_mem.mp hostOps0_sub op h))
  (fun op h => List.forall_iff_forall_mem.mp hostOps0_fresh op h) (V₀ m) (R m)

/-- The kernel's own semaphores. -/
def osem : CellIx ⊕ Fin 4 → SemLoc sig
  | .inl p => .dma (semIx p.1 p.2)
  | .inr i => .dma (locS i)

theorem osem_facts : Pipeline.OwnSemFacts spec0 osem := by decide +kernel

theorem ownSems_eq (c : Dev nD) : (Pipeline.ownSems0 osem c : sProp 𝕄) = iprop(zeros c ∗ locs c) := by
  unfold Pipeline.ownSems0; rw [bigSep_univ_sum]; rfl

/-- The windows' own semaphores are none of the exchange's. -/
theorem win_kind : ∀ (w : Fin 2) (s : Fin ((cfg0.win w).nbuf)), kind (.dma ((cfg0.win w).sem s)) = none := by decide +kernel

/-- A buffer that outlives the kernel, at contents `X`. -/
abbrev pt (c : Dev nD) (b : Ref sig .tc) (X : Buf (Elt F) ((c : Thread nD τ).loc b)) : sProp 𝕄 := ((c : Thread nD τ).loc b) ↦{fullShare} X

theorem pt_full (c : Dev nD) (b : Ref sig .tc) (X : Buf (Elt F) ((c : Thread nD τ).loc b)) : (pt c b X : sProp 𝕄) = full c (Memref.whole b) X :=
  (owns_whole (c : Thread nD τ) b fullShare X).symm

/-- The two arguments that only the host reads. -/
def Zc (c : Dev nD) : sProp 𝕄 := iprop(pt c main_arg0 (V m c main_arg0) ∗ pt c main_arg1 (V m c main_arg1))

theorem rest_apart (c : Dev nD) : (Pipeline.unscopedRest (Ix := Unit) (Name := ℕ) (U := UU) (Lvl := ℕ) spec0 c (V m c) : sProp 𝕄) ⊢ iprop(arrs m c ∗ Zc m c) := by
  rw [unscopedRest0_eq]
  unfold arrs Zc
  iintro ⟨H0, H1, H2, H3, Hv1, Hv2, Ha, Hb, Hc, Hd⟩
  isplitr [H0 H1]
  · isplitl [H2]; · iapply (Entails.of_eq (pt_full c main_arg2 (V m c main_arg2))); iexact H2
    isplitl [H3]; · iapply (Entails.of_eq (pt_full c main_arg3 (V m c main_arg3))); iexact H3
    isplitl [Hv1]; · iapply (Entails.of_eq (pt_full c main_v1 (V m c main_v1))); iexact Hv1
    isplitl [Hv2]; · iapply (Entails.of_eq (pt_full c main_v2 (V m c main_v2))); iexact Hv2
    isplitl [Ha]; · iexists _; iapply (Entails.of_eq (pt_full c main_v3_1 (V m c main_v3_1))); iexact Ha
    isplitl [Hb]; · iexists _; iapply (Entails.of_eq (pt_full c main_v3_2 (V m c main_v3_2))); iexact Hb
    isplitl [Hc]; · iexists _; iapply (Entails.of_eq (pt_full c main_v3_3 (V m c main_v3_3))); iexact Hc
    iexists _; iapply (Entails.of_eq (pt_full c main_v3_4 (V m c main_v3_4))); iexact Hd
  isplitl [H0]; · iexact H0
  iexact H1

/-- The arrays at the end. -/
def arrsN (c : Dev nD) : sProp 𝕄 := iprop(pt c main_arg4 (V m c main_arg4) ∗ pt c main_v3_0 (outV m c))

/-- What a device holds when the program ends. -/
def Tₙ (c : Dev nD) : sProp 𝕄 := iprop(arrsN m c ∗ Yc m c ∗ Zc m c)

set_option backward.isDefEq.respectTransparency.types false in
theorem arrs_end (c : Dev nD) : ((pdats m 0 c).arrays ((pdats m 0 c).arrAt · (Pipeline.pin (pcfgs (F := F)) adm 0).N) : sProp 𝕄) ⊢ arrsN m c := by
  rw [Pipeline.arrays_eq (Pipeline.pin (pcfgs (F := F)) adm) (pdats m) 0 c arr_whole0 ((pdats m 0 c).share_full fun _ => rfl)]
  rw [bigSep_W0]
  unfold arrsN
  iintro ⟨H0, H1⟩
  isplitl [H0]
  · iapply (Entails.of_eq (congrArg (fun X => (pt c main_arg4 X : sProp 𝕄)) ((dat0 m c).arrAt_in 0 rfl _))); iexact H0
  iapply (Entails.of_eq (congrArg (fun X => (pt c main_v3_0 X : sProp 𝕄)) (out_eq m c))); iexact H1

theorem prefHeld0 (c : Dev nD) : (Pipeline.prefHeld (Ix := Unit) (Name := ℕ) (U := UU) (Lvl := ℕ) (pcfgs (F := F) 0).pre c (fun _ => fullShare) (adm 0).1 : sProp 𝕄) = iprop(emp) := by
  unfold Pipeline.prefHeld; rw [show (Finset.univ : Finset (Fin 0)) = ∅ from rfl, BI.bigSep_empty]; rfl

set_option backward.isDefEq.respectTransparency.types false in
/-- The kernel. -/
def reg0 : ℝ𝕊 0 where
  win := winFacts0.to₀
  block_pos := block_pos0
  stage_whole := stage_whole0
  K := CellIx ⊕ Fin 4
  osem := osem
  ho := osem_facts
  hbody c := (body_obligation m c).loose
  hwaits c := Pipeline.cellsWaits_intro _ (pdats m) () 0 c fun w s t => by
    refine mayWait c _ (n := 0) ?_ ?_
    · exact (lv_none c _ (win_kind w s) ()).le
    · obtain ⟨t, ht⟩ := t
      cases t with
      | zero => exact above_OB c 0
      | succ t => exact Above.zero
  pre c := iprop(StableHlo.held (c : Thread nD τ) (Pipeline.ucRefs τ sig) (StableHlo.after hostOps0 (V₀ m c)) ∗ R m c)
  post c := iprop(Tₙ m c ∗ ∃ W, owes (c : Thread nD τ) (0 : CellTallies nD τ sig Unit) W)
  X c := iprop(start m c ∗ arrs m c ∗ locs c)
  Y := Yc m
  Z := Zc m
  hentry c := by
    rw [ownSems_eq, prefHeld0, ← Pipeline.unscopedBufs_held]
    have hsplit := Pipeline.arrays_of_unscopedBufs (p := 0) (pcfgs (F := F)) adm (pdats m) winFacts0 arr_whole0 c
      ((pdats m 0 c).share_full fun _ => rfl) (V m c) fun _ => rfl
    unfold R ghost
    iintro ⟨⟨Hub, ⟨%κ, ⟨#HC, #HB⟩, HbT, Hc, Hat, Ht, Hcr, Ho⟩, HO⟩, ⟨Hz, Hl⟩, -⟩
    ihave H := hsplit $$ Hub
    icases H with ⟨Ha, Hrest⟩
    ihave Hr := (rest_apart m c) $$ Hrest
    icases Hr with ⟨Harr, HZ⟩
    imod (open_cells m κ c) $$ [Ho Hz] with ⟨Hp, #HM⟩
    · isplitr; · iexact HC
      isplitl [Ho]; · iexact Ho
      iexact Hz
    imodintro
    isplitl [Ha]; · iexact Ha
    isplitr; · iempintro
    isplitl [HO]; · iapply (owesAt_intro m c 0 (O₀ c) rfl); iexact HO
    isplitr [HZ]
    · isplitr [Harr Hl]
      · unfold start dealt
        iexists κ
        isplitr
        · isplitr; · iexact HC
          isplitr; · iexact HB
          iexact HM
        isplitl [HbT]; · iexact HbT
        isplitl [Hc]; · iexact Hc
        isplitl [Hat]; · iexact Hat
        isplitl [Ht]; · iexact Ht
        isplitl [Hcr]; · iexact Hcr
        iexact Hp
      isplitl [Harr]; · iexact Harr
      iexact Hl
    iexact HZ
  hin c := by
    rw [show (pdats m 0 c).Φ 0 = Φ₀ m c from rfl, scr_eq]
    unfold Φ₀
    iintro ⟨HX, -, Hr⟩
    isplitl [HX]; · iexact HX
    iexact Hr
  hout c := by
    rw [show (pdats m 0 c).Φ (Fin.last _) = Φ₁ m c from rfl, ownSems_eq, scr_eq]
    exact BI.Entails.refl _
  hexit c := by
    iintro ⟨Ha, HO, HY, HZ⟩
    ihave Ha := (arrs_end m c) $$ Ha
    ihave HO := (show ((pdats m 0 c).owesAt () (Fin.last _) : sProp 𝕄) ⊢ debt c 0 from owesAt_elim m c (Fin.last _) 0 rfl) $$ HO
    imodintro
    isplitr [HO]
    · unfold Tₙ
      isplitl [Ha]; · iexact Ha
      isplitl [HY]; · iexact HY
      iexact HZ
    iexact HO

def segs : List (Pipeline.Seg (pcfgs (F := F)) adm (pdats m) () defs₀ 𝒱₀ L lv) := [.host (seg0 m), .region (reg0 m)]

theorem main_eq (c : Dev nD) : main (F := F) c = Pipeline.Seg.run (segs m) :=
  main_segs adm (pdats m) () 𝒱₀ L lv (seg0 m) (reg0 m) rfl c

/-- The ghost state that the launch makes. -/
def u₀ : UU :=
  (initOf (Pipeline.cells (Pipeline.pin (pcfgs (F := F)) adm) cellOf_inj) (Pipeline.launchToks (Pipeline.pin (pcfgs (F := F)) adm) cellOf_inj),
    (launchOf ∅ allCells allToks, 1))

/-- The state before the host's operations. -/
abbrev T₀ (c : Dev nD) : sProp 𝕄 := iprop(StableHlo.held (c : Thread nD τ) (Pipeline.ucRefs τ sig) (V₀ m c) ∗ R m c)

/-- The start: barriers opened, marks shared, credits dealt. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G m c)) ∗ levAts L lv)
      ⊢ (|={Set.univ}=> bigSep Finset.univ (T₀ m) : sProp 𝕄) := by
  let B : Dev nD → sProp 𝕄 := fun c => iprop((∃ κ, Inv m κ ∗ atPos ER (barC c) 0 ∅ 0 ∗ (bigSep Finset.univ fun p : CellIx => openTok ER (xC c p.1 p.2)) ∗ toks c ∗ barToks c)
    ∗ StableHlo.held (c : Thread nD τ) (Pipeline.ucRefs τ sig) (V₀ m c) ∗ cred (tallyAt (barC c) () 7) ∗ creds c ∗ debt c (O₀ c))
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G m c)
      ⊢ (|={Set.univ}=> iprop(reached ER (barC c) 0 ∗ B c) : sProp 𝕄) := by
    rw [show unscopedBufs c (fun b => m ((c : Thread nD τ).loc b)) = StableHlo.held (c : Thread nD τ) (Pipeline.ucRefs τ sig) (V₀ m c) from Pipeline.unscopedBufs_held c (V₀ m c)]
    iintro ⟨Hh, Hus, HO, Hcr, -, HG⟩
    ihave Hc := (launch_creds (F := F) c) $$ Hcr
    icases Hc with ⟨H1, HN⟩
    imod (open_bar m c) $$ [Hus HG] with ⟨HR, HA⟩
    · isplitl [Hus] <;> iassumption
    imodintro
    isplitl [HR]; · iexact HR
    isplitl [HA]; · iexact HA
    isplitl [Hh]; · iexact Hh
    isplitl [H1]; · iexact H1
    isplitl [HN]; · iexact HN
    iexists _; iexact HO
  have hall : (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ G m c))
      ⊢ (|={Set.univ}=> iprop((bigSep Finset.univ fun c : Dev nD => reached ER (barC c) 0) ∗ bigSep Finset.univ B) : sProp 𝕄) :=
    ((bigSep_mono fun c (_ : c ∈ Finset.univ) => hcore c).trans (bigSep_fupd _ _)).trans (BI.fupd_mono (Entails.of_eq (bigSep_sep' _ _ _)))
  have hT (c : Dev nD) (_ : c ∈ Finset.univ) : iprop((levAts L lv ∗ barMarks) ∗ B c) ⊢ T₀ m c := by
    show iprop((levAts L lv ∗ barMarks) ∗ (∃ κ, Inv m κ ∗ atPos ER (barC c) 0 ∅ 0 ∗ (bigSep Finset.univ fun p : CellIx => openTok ER (xC c p.1 p.2)) ∗ toks c ∗ barToks c)
      ∗ StableHlo.held (c : Thread nD τ) (Pipeline.ucRefs τ sig) (V₀ m c) ∗ cred (tallyAt (barC c) () 7) ∗ creds c ∗ debt c (O₀ c)) ⊢ (T₀ m c : sProp 𝕄)
    unfold T₀ R ghost
    iintro ⟨⟨#HL, #HB⟩, ⟨%κ, #HI, Hat, Ho, Ht, Hb⟩, Hh, H1, HN, HO⟩
    isplitl [Hh]; · iexact Hh
    isplitr [HO]
    · iexists κ
      isplitr
      · isplitr
        · unfold Ctx Inv
          icases HI with ⟨HI1, HI2⟩
          isplitr; · iexact HI1
          isplitr; · iexact HI2
          iexact HL
        iexact HB
      isplitl [Hb]; · iexact Hb
      isplitl [H1]; · iexact H1
      isplitl [Hat]; · iexact Hat
      isplitl [Ht]; · iexact Ht
      isplitl [HN]; · iexact HN
      iexact Ho
    iexact HO
  iintro ⟨H, #Hla⟩
  imod hall $$ H with ⟨#HR, HB⟩
  imodintro
  iapply (bigSep_with_persistent (R := iprop(levAts L lv ∗ barMarks)) hT)
  isplitr
  · isplitr; · iexact Hla
    unfold barMarks; iexact HR
  iexact HB

theorem srcs_eq (c : Dev nD) : srcV m false c = m ((c : Thread nD τ).loc main_arg2) ∧ srcV m true c = m ((c : Thread nD τ).loc main_arg3) :=
  ⟨V_main_arg2 m c, V_main_arg3 m c⟩

set_option backward.isDefEq.respectTransparency.types false in
/-- The run: from any memory with its counters at zero the program ends, its arguments as they were, its result `outV`,
    its counters at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_v3_0) = outV m c) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G m) (u₀ := u₀ (F := F))
    (hu₀ := by
      unfold u₀
      iintro Hu
      ihave H := (ownU_apart (F := F) _ _) $$ Hu
      icases H with ⟨HP, HX⟩
      imod (fund m) $$ HX with HG
      imodintro
      isplitl [HP]; · iexact HP
      iexact HG)
    (T₀ := T₀ m) (Tₙ := Tₙ m)
    (hch := ⟨fun c => .rfl, fun c => .rfl, fun c => .rfl⟩)
    (hinit := init m ρ)
    (QY := fun c s => (s.mem ((c : Thread nD τ).loc main_arg0) = V m c main_arg0 ∧ s.mem ((c : Thread nD τ).loc main_arg1) = V m c main_arg1
        ∧ s.mem ((c : Thread nD τ).loc main_arg2) = V m c main_arg2 ∧ s.mem ((c : Thread nD τ).loc main_arg3) = V m c main_arg3
        ∧ s.mem ((c : Thread nD τ).loc main_arg4) = V m c main_arg4 ∧ s.mem ((c : Thread nD τ).loc main_v3_0) = outV m c) ∧ s.sem (barC c) = 0)
    (hfin := fun c s' => by
      rw [show (Tₙ m c : sProp 𝕄) = iprop((pt c main_arg4 (V m c main_arg4) ∗ pt c main_v3_0 (outV m c))
          ∗ (pt c main_arg2 (V m c main_arg2) ∗ pt c main_arg3 (V m c main_arg3) ∗ semVal (barC c) 0) ∗ pt c main_arg0 (V m c main_arg0) ∗ pt c main_arg1 (V m c main_arg1)) from by
        rw [pt_full c main_arg2, pt_full c main_arg3]; rfl]
      iintro ⟨⟨⟨H4, H5⟩, ⟨H2, H3, Hb⟩, H0, H1⟩, HSI⟩
      icombine HSI H0 gives %h0
      icombine HSI H1 gives %h1
      icombine HSI H2 gives %h2
      icombine HSI H3 gives %h3
      icombine HSI H4 gives %h4
      icombine HSI H5 gives %h5
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h4, Buf.eq_of_forall_mem_univ h5⟩, by simpa using hb⟩
      iexact HSI)
    (hQ := fun s h hs => ⟨fun c => ⟨(h c).1.1.trans (V_main_arg0 m c), (h c).1.2.1.trans (V_main_arg1 m c), (h c).1.2.2.1.trans (V_main_arg2 m c),
        (h c).1.2.2.2.1.trans (V_main_arg3 m c), (h c).1.2.2.2.2.1.trans (V_main_arg4 m c), (h c).1.2.2.2.2.2⟩, funext fun g => by
      obtain ⟨⟨d, p⟩, sm⟩ := g
      by_cases hp : p = .tc
      · subst hp
        by_cases hsm : sm.isScoped .tc = true
        · exact hs _ (.inr hsm)
        · have : sm = .reg barS := by revert sm; decide +kernel
          subst this
          exact (h d).2
      · exact hs _ (.inl hp)⟩)

end Cert.KernelIdeal.Att

end
-- ==== Proof.Frames.lean ====
module

public import proofs.«01_k».proof.Defs
public import proofs.«01_k».proof.Proof.Gen.Kernel
public import proofs.«01_k».proof.Proof.Launch
public import proofs.«01_k».proof.Proof.Gen.ReferenceIdeal.Run

@[expose] public section

set_option maxRecDepth 65536

noncomputable section

/-! The two programs run to the end, leave their arguments as they were, and leave every counter at zero. -/

namespace Cert.KernelIdeal.Att

open Idealize.ShloMosaic Idealize.SL.Sem

/-- The idealized kernel's frame. -/
theorem frame_ideal : Cert.quiescent_KernelIdeal (hKernelIdeal := Cert.KernelIdeal.Gen.facts) := fun m ρ _ =>
  (θ_run Cert.KernelIdeal.defs _ _).mono
    (fun _ h => ⟨fun c => ⟨(h.1 c).1, (h.1 c).2.1, (h.1 c).2.2.1, (h.1 c).2.2.2.1, (h.1 c).2.2.2.2.1⟩, h.2⟩) (run_main (F := Ideal) m ρ)

/-- The idealized kernel's frame, read at the machine's values. -/
theorem frame_bits (m : (ℓ : Loc nD τ sig) → Buf (Elt Bits) ℓ) (ρ : Dev nD → PrngReg) :
    θ_run (Cert.KernelIdeal.defs (F := Bits)) (onTc (τ := τ) (Cert.KernelIdeal.main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run Cert.KernelIdeal.defs _ _).mono
    (fun _ h => ⟨fun c => ⟨(h.1 c).1, (h.1 c).2.1, (h.1 c).2.2.1, (h.1 c).2.2.2.1, (h.1 c).2.2.2.2.1⟩, h.2⟩) (run_main (F := Bits) m ρ)

/-- The two programs have one host text. -/
theorem main_same : Cert.Kernel.main (F := Bits) = Cert.KernelIdeal.main (F := Bits) := rfl

/-- The two programs have one kernel body. -/
theorem body_same : Cert.Kernel.cc0_body (F := Bits) = Cert.KernelIdeal.cc0_body (F := Bits) := rfl

/-- So they have one table of bodies. -/
theorem defs₀_same : Cert.Kernel.defs₀ (F := Bits) = Cert.KernelIdeal.defs₀ (F := Bits) := by
  refine congrArg Defs.onTc (funext fun l => funext fun a => ?_)
  obtain ⟨l, hl⟩ := l
  cases l with
  | zero => rfl
  | succ l => exact absurd hl (Nat.not_lt.2 (Nat.le_add_left _ _))

theorem defs_same : Cert.Kernel.defs (F := Bits) = Cert.KernelIdeal.defs (F := Bits) :=
  congrArg (Pipeline.defs (Cert.Kernel.pcfgs (F := Bits))) defs₀_same

/-- The kernel's own frame: the run holds of any float values, so of the machine's. -/
theorem frame_kernel : Cert.quiescent_Kernel (hKernel := Cert.Kernel.Gen.facts) := fun m ρ _ => by
  rw [defs_same, main_same]
  exact frame_bits m ρ

/-- The reference's frame: it declares no counter. -/
theorem frame_ref : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.KernelIdeal.Att

end
-- ==== Proof.Online.lean ====
module

public import Idealize.ShloMosaic.PureOps.Ideal
public import Idealize.ShloMosaic.Lib.Pointwise

@[expose] public section

noncomputable section

/-! Softmax over the extended reals: one row of scores taken whole, and the same row taken block by block. -/

namespace Cert.Online

open Idealize.ShloMosaic

/-- The word of minus infinity. -/
theorem negInf : (Ideal.ofBits .f32 0xFF800000#32 : EReal) = ⊥ := by simp [Ideal.ofBits, Ideal.ieee]

/-- A finite sum of reals, taken in the extended reals. -/
theorem coe_sum {ι : Type} (s : Finset ι) (f : ι → ℝ) : ((∑ j ∈ s, f j : ℝ) : EReal) = ∑ j ∈ s, (f j : EReal) := by
  classical
  induction s using Finset.induction_on with
  | empty => simp
  | insert a s h ih => rw [Finset.sum_insert h, Finset.sum_insert h, EReal.coe_add, ih]

/-- A value that is a real. -/
def IsReal (a : EReal) : Prop := ∃ r : ℝ, a = (r : EReal)

/-- A product of reals is a real. -/
theorem IsReal.mul {a b : EReal} (ha : IsReal a) (hb : IsReal b) : IsReal (a * b) := by
  obtain ⟨r, rfl⟩ := ha; obtain ⟨t, rfl⟩ := hb; exact ⟨r * t, (EReal.coe_mul r t).symm⟩

/-- A sum of reals is a real. -/
theorem IsReal.sum {ι : Type} {s : Finset ι} {f : ι → EReal} (h : ∀ j, IsReal (f j)) : IsReal (∑ j ∈ s, f j) := by
  choose g hg using h
  exact ⟨∑ j ∈ s, g j, by rw [coe_sum]; exact Finset.sum_congr rfl fun j _ => hg j⟩

/-- A value whose absolute value is below infinity is a real. -/
theorem isReal_of_abs_lt {a : EReal} (h : max a (-a) < ⊤) : IsReal a := by
  induction a using EReal.rec with
  | bot => simp at h
  | coe r => exact ⟨r, rfl⟩
  | top => simp at h

/-- A real scale taken out of a sum of products of reals. -/
theorem sum_scale {ι : Type} (s : Finset ι) {q k : ι → EReal} {c : EReal} (hq : ∀ j, IsReal (q j)) (hk : ∀ j, IsReal (k j)) (hc : IsReal c) :
    ∑ j ∈ s, (q j * c) * k j = (∑ j ∈ s, q j * k j) * c := by
  choose q' hq using hq
  choose k' hk using hk
  obtain ⟨c', rfl⟩ := hc
  simp only [hq, hk, ← EReal.coe_mul, ← coe_sum]
  rw [Finset.sum_mul]
  congr 1
  exact Finset.sum_congr rfl fun j _ => by ring

/-- A nonnegative real factor goes into a finite sum of extended reals. -/
theorem sum_mul_coe {ι : Type} (s : Finset ι) (f : ι → EReal) {d : ℝ} (hd : 0 ≤ d) :
    (∑ j ∈ s, f j) * (d : EReal) = ∑ j ∈ s, f j * (d : EReal) := by
  classical
  induction s using Finset.induction_on with
  | empty => simp
  | insert a s h ih =>
    rw [Finset.sum_insert h, Finset.sum_insert h,
      EReal.right_distrib_of_nonneg_of_ne_top (EReal.coe_nonneg.2 hd) (EReal.coe_ne_top d), ih]

/-- The maximum of finitely many values below `⊤`, one of them at least above `⊥`, is real. -/
theorem fold_max_real {ι : Type} (s : Finset ι) (f : ι → EReal) (z : EReal) (hz : z ≠ ⊤) (hf : ∀ i ∈ s, f i ≠ ⊤)
    (h : ∃ i ∈ s, f i ≠ ⊥) : ∃ r : ℝ, s.fold max z f = (r : EReal) := by
  have h1 : s.fold max z f ≠ ⊤ := ((Finset.fold_max_lt ⊤).2 ⟨hz.lt_top, fun i hi => (hf i hi).lt_top⟩).ne
  have h2 : s.fold max z f ≠ ⊥ := by
    obtain ⟨i, hi, h⟩ := h
    exact ((Finset.lt_fold_max ⊥).2 (.inr ⟨i, hi, h.bot_lt⟩)).ne'
  exact ⟨_, (EReal.coe_toReal h1 h2).symm⟩

variable {ι κ : Type} [Fintype κ]

/-- The denominator of the blocks `S` under the maximum `M`. -/
def den (f : ι → κ → ℝ) (S : Finset ι) (M : ℝ) : ℝ := ∑ s ∈ S, ∑ b, Real.exp (f s b - M)

/-- The numerator of the blocks `S` under the maximum `M`. -/
def num (f : ι → κ → ℝ) (v : ι → κ → EReal) (S : Finset ι) (M : ℝ) : EReal :=
  ∑ s ∈ S, ∑ b, (Real.exp (f s b - M) : EReal) * v s b

/-- What was gathered under `M`, brought to `M'`: the denominator. -/
theorem den_decay (f : ι → κ → ℝ) (S : Finset ι) (M M' : ℝ) : den f S M * Real.exp (M - M') = den f S M' := by
  unfold den
  rw [Finset.sum_mul]
  refine Finset.sum_congr rfl fun s _ => ?_
  rw [Finset.sum_mul]
  refine Finset.sum_congr rfl fun b _ => ?_
  rw [← Real.exp_add]; congr 1; ring

/-- What was gathered under `M`, brought to `M'`: the numerator. -/
theorem num_decay (f : ι → κ → ℝ) (v : ι → κ → EReal) (S : Finset ι) (M M' : ℝ) :
    num f v S M * (Real.exp (M - M') : EReal) = num f v S M' := by
  unfold num
  rw [sum_mul_coe _ _ (Real.exp_nonneg _)]
  refine Finset.sum_congr rfl fun s _ => ?_
  rw [sum_mul_coe _ _ (Real.exp_nonneg _)]
  refine Finset.sum_congr rfl fun b _ => ?_
  rw [mul_right_comm, ← EReal.coe_mul, ← Real.exp_add]; congr 3; ring

/-- One more block: the denominator. -/
theorem den_step [DecidableEq ι] (f : ι → κ → ℝ) (S : Finset ι) (s : ι) (hs : s ∉ S) (M M' : ℝ) :
    (den f S M : EReal) * Ideal.exp ((M : EReal) - (M' : EReal)) + ∑ b, Ideal.exp ((f s b : EReal) - (M' : EReal))
      = (den f (insert s S) M' : EReal) := by
  simp only [← EReal.coe_sub, Ideal.exp_coe]
  rw [← EReal.coe_mul, den_decay, ← coe_sum, ← EReal.coe_add]
  unfold den
  rw [Finset.sum_insert hs, add_comm]

/-- One more block: the numerator. -/
theorem num_step [DecidableEq ι] (f : ι → κ → ℝ) (v : ι → κ → EReal) (S : Finset ι) (s : ι) (hs : s ∉ S) (M M' : ℝ) :
    num f v S M * Ideal.exp ((M : EReal) - (M' : EReal)) + ∑ b, Ideal.exp ((f s b : EReal) - (M' : EReal)) * v s b
      = num f v (insert s S) M' := by
  simp only [← EReal.coe_sub, Ideal.exp_coe]
  rw [num_decay]
  unfold num
  rw [Finset.sum_insert hs, add_comm]

/-- The probability of position `b` of block `s`. -/
def prob [Fintype ι] (f : ι → κ → ℝ) (s : ι) (b : κ) : ℝ := Real.exp (f s b) / ∑ s, ∑ b, Real.exp (f s b)

/-- The denominator is positive. -/
theorem den_pos [Fintype ι] [Nonempty ι] [Nonempty κ] (f : ι → κ → ℝ) (M : ℝ) : 0 < den f Finset.univ M :=
  Finset.sum_pos (fun _ _ => Finset.sum_pos (fun _ _ => Real.exp_pos _) Finset.univ_nonempty) Finset.univ_nonempty

/-- A weight over the denominator is the probability, under any maximum. -/
theorem weight_div [Fintype ι] [Nonempty ι] [Nonempty κ] (f : ι → κ → ℝ) (M : ℝ) (s : ι) (b : κ) :
    Real.exp (f s b - M) * (1 / den f Finset.univ M) = prob f s b := by
  have h := den_decay f Finset.univ 0 M
  have h0 := den_pos f 0
  unfold den at h0
  have h1 : den f Finset.univ 0 = ∑ s, ∑ b, Real.exp (f s b) := by unfold den; simp only [sub_zero]
  rw [← h, h1, zero_sub]
  unfold prob
  simp only [sub_zero] at h0
  rw [sub_eq_add_neg, Real.exp_add]
  have := (Real.exp_pos (-M)).ne'
  field_simp

/-- Numerator over denominator once every block is in: the sum of the values by their probabilities. -/
theorem num_div_den [Fintype ι] [Nonempty ι] [Nonempty κ] (f : ι → κ → ℝ) (v : ι → κ → EReal) (M : ℝ) :
    Ideal.div (num f v Finset.univ M) (den f Finset.univ M : EReal) = ∑ s, ∑ b, (prob f s b : EReal) * v s b := by
  rw [Ideal.div_coe (den_pos f M).ne']
  unfold num
  have h : 0 ≤ 1 / den f Finset.univ M := (one_div_pos.2 (den_pos f M)).le
  rw [sum_mul_coe _ _ h]
  refine Finset.sum_congr rfl fun s _ => ?_
  rw [sum_mul_coe _ _ h]
  refine Finset.sum_congr rfl fun b _ => ?_
  rw [mul_right_comm, ← EReal.coe_mul, weight_div]

/-- Position `b` of the rows of residue `r` in block `s`: its place in the whole sequence. -/
def place (r : Fin 4) (s : Fin 8) (b : Fin 256) : Fin 8192 := ⟨1024 * s.val + 256 * (b.val / 64) + 64 * r.val + b.val % 64, by omega⟩

/-- The places of a residue are those whose block has it. -/
theorem place_res (r : Fin 4) (s : Fin 8) (b : Fin 256) : (place r s b).val / 64 % 4 = r.val := by
  show (1024 * s.val + 256 * (b.val / 64) + 64 * r.val + b.val % 64) / 64 % 4 = r.val
  omega

/-- A sum over the places of residue `r` is a sum over the blocks and the positions in them. -/
theorem sum_place {A : Type} [AddCommMonoid A] (r : Fin 4) (F : Fin 8192 → A) :
    (∑ j, if j.val / 64 % 4 = r.val then F j else 0) = ∑ s, ∑ b, F (place r s b) := by
  rw [← Finset.sum_filter, ← Fintype.sum_prod_type' (f := fun s b => F (place r s b))]
  refine Finset.sum_bij' (i := fun j _ => ((⟨j.val / 1024, by omega⟩, ⟨64 * (j.val % 1024 / 256) + j.val % 64, by omega⟩) : Fin 8 × Fin 256))
    (j := fun p _ => place r p.1 p.2) (fun _ _ => Finset.mem_univ _) ?_ ?_ ?_ ?_
  · intro p _; exact Finset.mem_filter.2 ⟨Finset.mem_univ _, place_res r p.1 p.2⟩
  · intro j hj
    have h := (Finset.mem_filter.1 hj).2
    apply Fin.ext
    show 1024 * (j.val / 1024) + 256 * ((64 * (j.val % 1024 / 256) + j.val % 64) / 64) + 64 * r.val + (64 * (j.val % 1024 / 256) + j.val % 64) % 64 = j.val
    omega
  · rintro ⟨s, b⟩ _
    refine Prod.ext (Fin.ext ?_) (Fin.ext ?_)
    · show (1024 * s.val + 256 * (b.val / 64) + 64 * r.val + b.val % 64) / 1024 = s.val
      omega
    · show 64 * ((1024 * s.val + 256 * (b.val / 64) + 64 * r.val + b.val % 64) % 1024 / 256) + (1024 * s.val + 256 * (b.val / 64) + 64 * r.val + b.val % 64) % 64 = b.val
      omega
  · intro j hj
    have h := (Finset.mem_filter.1 hj).2
    congr 1; apply Fin.ext
    show j.val = 1024 * (j.val / 1024) + 256 * ((64 * (j.val % 1024 / 256) + j.val % 64) / 64) + 64 * r.val + (64 * (j.val % 1024 / 256) + j.val % 64) % 64
    omega

/-- A row taken whole: scores that the mask keeps where the residue is `r`, minus infinity elsewhere; their softmax, times
    the values, is the sum over the blocks of the values by their probabilities. -/
theorem whole (r : Fin 4) (f : Fin 8192 → ℝ) (v : Fin 8192 → EReal) (S : Fin 8192 → EReal)
    (hS : ∀ j, S j = if j.val / 64 % 4 = r.val then (f j : EReal) else ⊥) :
    (∑ j, v j * Ideal.div (Ideal.exp (S j - Finset.univ.fold max ⊥ S)) (0 + ∑ j, Ideal.exp (S j - Finset.univ.fold max ⊥ S)))
      = ∑ s, ∑ b, (prob (fun s b => f (place r s b)) s b : EReal) * v (place r s b) := by
  obtain ⟨M, hM⟩ : ∃ M : ℝ, Finset.univ.fold max ⊥ S = (M : EReal) := by
    refine fold_max_real _ _ _ bot_ne_top (fun j _ => ?_) ⟨place r 0 0, Finset.mem_univ _, ?_⟩
    · rw [hS]; split
      · exact EReal.coe_ne_top _
      · exact bot_ne_top
    · rw [hS, if_pos (place_res r 0 0)]; exact EReal.coe_ne_bot _
  have hw : ∀ j, Ideal.exp (S j - (M : EReal)) = if j.val / 64 % 4 = r.val then (Real.exp (f j - M) : EReal) else 0 := by
    intro j; rw [hS]; split
    · rw [← EReal.coe_sub, Ideal.exp_coe]
    · rw [EReal.bot_sub, Ideal.exp_bot]
  rw [hM]
  simp only [hw]
  have hl : (0 + ∑ j : Fin 8192, if j.val / 64 % 4 = r.val then (Real.exp (f j - M) : EReal) else 0)
      = (den (fun s b => f (place r s b)) Finset.univ M : EReal) := by
    rw [zero_add, sum_place r fun j => (Real.exp (f j - M) : EReal)]
    unfold den
    rw [coe_sum]
    exact Finset.sum_congr rfl fun s _ => (coe_sum _ _).symm
  rw [hl]
  have ht : ∀ j : Fin 8192, v j * Ideal.div (if j.val / 64 % 4 = r.val then (Real.exp (f j - M) : EReal) else 0) (den (fun s b => f (place r s b)) Finset.univ M : EReal)
      = if j.val / 64 % 4 = r.val then v j * Ideal.div (Real.exp (f j - M) : EReal) (den (fun s b => f (place r s b)) Finset.univ M : EReal) else 0 := by
    intro j; split
    · rfl
    · rw [Ideal.div_coe (den_pos _ M).ne', zero_mul, mul_zero]
  simp only [ht]
  rw [sum_place r fun j => v j * Ideal.div (Real.exp (f j - M) : EReal) (den (fun s b => f (place r s b)) Finset.univ M : EReal)]
  refine Finset.sum_congr rfl fun s _ => Finset.sum_congr rfl fun b _ => ?_
  rw [Ideal.div_coe (den_pos _ M).ne', ← EReal.coe_mul, weight_div (fun s b => f (place r s b)) M s b, mul_comm]

end Cert.Online

end
-- ==== Proof.SoftValue.lean ====
module

public import proofs.«01_k».proof.Proof.Softmax
public import proofs.«01_k».proof.Proof.Online

@[expose] public section

set_option maxRecDepth 65536

noncomputable section

/-! The kernel's pure values over the extended reals, entry by entry. -/

namespace Cert.KernelIdeal.Att

open Cert.KernelIdeal Cert.KernelIdeal.Gen
open Idealize.ShloMosaic

/-- Row `a` of residue `r` among the device's 1024 rows. -/
def rowOf (r : Fin 4) (a : Fin 256) : Fin 1024 := ⟨a.val / 64 * 256 + r.val * 64 + a.val % 64, by omega⟩

/-- A grouped row is the row of the block that `rowOf` names. -/
theorem group_apply (r : Fin 4) (x : FVec Ideal S1024x8x128 .bf16) (h : Fin 8) (a : Fin 256) (e : Fin 128) :
    group r x (ix3 h a e) = x (ix3 (rowOf r a) h e) := by
  pointwise [group]
  rfl

/-- The queries of a residue are its part of the grouped queries. -/
theorem query_apply (r : Fin 4) (q : FVec Ideal S4x8x256x128 .bf16) (h : Fin 8) (a : Fin 256) (e : Fin 128) :
    query r q (ix3 h a e) = q (ix4 r h a e) := by
  pointwise [query]

/-- A score: the product of a query and a key of the residue. -/
theorem score_apply (r : Fin 4) (q : FVec Ideal S4x8x256x128 .bf16) (k : FVec Ideal S1024x8x128 .bf16) (h : Fin 8) (a b : Fin 256) :
    score r q k (ix3 h a b) = ∑ e : Fin 128, q (ix4 r h a e) * k (ix3 (rowOf r b) h e) := by
  pointwise [score]
  simp only [query_apply, group_apply]

/-- The maximum after a block: the larger of the old one and the block's. -/
theorem newMax_apply (s : FVec Ideal S8x256x256 .f32) (m : FVec Ideal S8x256 .f32) (h : Fin 8) (a : Fin 256) :
    newMax s m (ix2 h a) = max (m (ix2 h a)) (Finset.univ.fold max ⊥ fun b : Fin 256 => s (ix3 h a b)) := by
  pointwise [newMax]
  exact congrArg (fun z => max (m (ix2 h a)) (Finset.fold max z _ _)) Online.negInf

/-- The decay: the exponential of the old maximum less the new one. -/
theorem decay_apply (s : FVec Ideal S8x256x256 .f32) (m : FVec Ideal S8x256 .f32) (h : Fin 8) (a : Fin 256) :
    decay s m (ix2 h a) = Ideal.exp (m (ix2 h a) - newMax s m (ix2 h a)) := by
  pointwise [decay]

/-- A weight: the exponential of the score less the new maximum. -/
theorem weight_apply (s : FVec Ideal S8x256x256 .f32) (m : FVec Ideal S8x256 .f32) (h : Fin 8) (a b : Fin 256) :
    weight s m (ix3 h a b) = Ideal.exp (s (ix3 h a b) - newMax s m (ix2 h a)) := by
  pointwise [weight]

/-- The denominator after a block. -/
theorem upd_l_apply (s : FVec Ideal S8x256x256 .f32) (v : FVec Ideal S8x256x128 .bf16) (st : St Ideal) (h : Fin 8) (a : Fin 256) :
    (upd s v st).l (ix2 h a) = st.l (ix2 h a) * decay s st.m (ix2 h a) + ∑ b : Fin 256, weight s st.m (ix3 h a b) := by
  pointwise [upd]

/-- The numerator after a block. -/
theorem upd_acc_apply (s : FVec Ideal S8x256x256 .f32) (v : FVec Ideal S8x256x128 .bf16) (st : St Ideal) (h : Fin 8) (a : Fin 256) (e : Fin 128) :
    (upd s v st).acc (ix3 h a e) = st.acc (ix3 h a e) * decay s st.m (ix2 h a) + ∑ b : Fin 256, weight s st.m (ix3 h a b) * v (ix3 h b e) := by
  pointwise [upd]

/-- A slab's entry: the numerator over the denominator. -/
theorem slab_apply (g : Fin 4) (st : St Ideal) (t : Fin 64) (h : Fin 8) (e : Fin 128) :
    slab g st (ix3 t h e) = Ideal.div (st.acc (ix3 h ⟨64 * g.val + t.val, by omega⟩ e)) (st.l (ix2 h ⟨64 * g.val + t.val, by omega⟩)) := by
  pointwise [slab]

/-- A grouped query: the product of a row of `x` and a column of `Wq`, scaled. -/
theorem pay15_apply (x w : FVec Ideal S1024x8x128 .f32) (r : Fin 4) (h : Fin 8) (a : Fin 256) (e : Fin 128) :
    (k0_pay15 (F := Ideal) x w (ix4 r h a e) : EReal) = (∑ k : Fin 1024, x (ix3 (rowOf r a) ⟨k.val / 128, by omega⟩ ⟨k.val % 128, by omega⟩) * w (ix3 k h e)) * Ideal.ofBits .f32 0x3DB504F3#32 := by
  pointwise [k0_pay15]
  rfl

/-- A partial sum: the product of a row of the context and a column of the output weights. -/
theorem pay274_apply (x : FVec Ideal S1024x8x128 .f32) (w : FVec Ideal S1024x1024 .f32) (i : Fin 1024) (h : Fin 8) (e : Fin 128) :
    (k0_pay274 (F := Ideal) x w (ix3 i h e) : EReal) = ∑ k : Fin 1024, x (ix3 i ⟨k.val / 128, by omega⟩ ⟨k.val % 128, by omega⟩) * w (ix2 k ⟨h.val * 128 + e.val, by omega⟩) := by
  pointwise [k0_pay274]

/-- A finished row: the device's own partial sums and the gathered ones. -/
theorem pay276_apply (x : FVec Ideal S128x8x128 .bf16) (y : FVec Ideal S8x128x8x128 .bf16) (i : Fin 128) (h : Fin 8) (e : Fin 128) :
    (k0_pay276 (F := Ideal) x y (ix3 i h e) : EReal) = x (ix3 i h e) + ∑ s : Fin 8, y (ix4 s i h e) := by
  pointwise [k0_pay276]

/-- The finished rows as written to the result. -/
theorem pay277_apply (x : FVec Ideal S128x8x128 .bf16) (y : FVec Ideal S8x128x8x128 .bf16) (i : Fin 128) (n : Fin 1024) :
    (k0_pay277 (F := Ideal) x y (ix3 0 i n) : EReal) = k0_pay276 (F := Ideal) x y (ix3 i ⟨n.val / 128, by omega⟩ ⟨n.val % 128, by omega⟩) := by
  pointwise [k0_pay277]

/-- The finished rows as sent. -/
theorem pay278_apply (x : FVec Ideal S128x8x128 .bf16) (y : FVec Ideal S8x128x8x128 .bf16) (i : Fin 128) (h : Fin 8) (e : Fin 128) :
    (k0_pay278 (F := Ideal) x y (ix3 i h e) : EReal) = k0_pay276 (F := Ideal) x y (ix3 i h e) := by
  pointwise [k0_pay278]

/-- The received rows as written to the result. -/
theorem pay279_apply (x : FVec Ideal S128x8x128 .bf16) (i : Fin 128) (n : Fin 1024) :
    (k0_pay279 (F := Ideal) x (ix3 0 i n) : EReal) = x (ix3 i ⟨n.val / 128, by omega⟩ ⟨n.val % 128, by omega⟩) := by
  pointwise [k0_pay279]

/-- The device's own slot is zero. -/
theorem pay275_apply (i : Fin 128) (h : Fin 8) (e : Fin 128) : k0_pay275 (F := Ideal) (ix4 0 i h e) = 0 := by
  pointwise [k0_pay275]

/-- A block as sent is the block. -/
theorem pay1_apply (x : FVec Ideal S1024x8x128 .f32) (i : Fin 1024) (h : Fin 8) (e : Fin 128) : (k0_pay1 (F := Ideal) x (ix3 i h e) : EReal) = x (ix3 i h e) := by
  pointwise [k0_pay1]

/-- The own keys are themselves. -/
theorem pay28_apply (x : FVec Ideal S1024x8x128 .f32) (i : Fin 1024) (h : Fin 8) (e : Fin 128) : (k0_pay28 (F := Ideal) x (ix3 i h e) : EReal) = x (ix3 i h e) := by
  pointwise [k0_pay28]

/-- The own values are themselves. -/
theorem pay29_apply (x : FVec Ideal S1024x8x128 .f32) (i : Fin 1024) (h : Fin 8) (e : Fin 128) : (k0_pay29 (F := Ideal) x (ix3 i h e) : EReal) = x (ix3 i h e) := by
  pointwise [k0_pay29]

/-- The state once the blocks `S` are in: at each head and row the maximum is some real, and denominator and numerator are
    those of the blocks `S` under it. -/
def Good (f : Fin 8 → Fin 256 → Fin 8 → Fin 256 → ℝ) (v : Fin 8 → Fin 128 → Fin 8 → Fin 256 → EReal) (S : Finset (Fin 8)) (st : St Ideal) : Prop :=
  ∀ h a, ∃ M : ℝ, st.m (ix2 h a) = (M : EReal) ∧ st.l (ix2 h a) = (Online.den (f h a) S M : EReal)
    ∧ ∀ e, st.acc (ix3 h a e) = Online.num (f h a) (v h e) S M

/-- The first maximum is a real. -/
theorem first_real : Online.IsReal (Ideal.ofBits .f32 0xF149F2CA#32) := ⟨_, by simp [Ideal.ofBits, Ideal.ieee, -EReal.coe_mul]; rfl⟩

/-- Before the first block. -/
theorem good_st0 (f : Fin 8 → Fin 256 → Fin 8 → Fin 256 → ℝ) (v : Fin 8 → Fin 128 → Fin 8 → Fin 256 → EReal) : Good f v ∅ (st0 (F := Ideal)) := by
  intro h a
  obtain ⟨M, hM⟩ := first_real
  refine ⟨M, hM, ?_, fun e => ?_⟩
  · show Ideal.ofBits .f32 0x00000000#32 = _
    rw [Ideal.ofBits_zero_f32]; simp [Online.den]
  · show Ideal.ofBits .f32 0x00000000#32 = _
    rw [Ideal.ofBits_zero_f32]; simp [Online.num]

/-- One more block. -/
theorem good_step {f : Fin 8 → Fin 256 → Fin 8 → Fin 256 → ℝ} {v : Fin 8 → Fin 128 → Fin 8 → Fin 256 → EReal} {S : Finset (Fin 8)} {st : St Ideal}
    (hst : Good f v S st) (s : Fin 8) (hs : s ∉ S) (sc : FVec Ideal S8x256x256 .f32) (vv : FVec Ideal S8x256x128 .bf16)
    (hsc : ∀ h a b, sc (ix3 h a b) = (f h a s b : EReal)) (hv : ∀ h b e, vv (ix3 h b e) = v h e s b) : Good f v (insert s S) (upd sc vv st) := by
  intro h a
  obtain ⟨M, hm, hl, hacc⟩ := hst h a
  obtain ⟨M', hM'⟩ : Online.IsReal (newMax sc st.m (ix2 h a)) := by
    obtain ⟨B, hB⟩ := Online.fold_max_real Finset.univ (fun b : Fin 256 => sc (ix3 h a b)) ⊥ bot_ne_top
      (fun b _ => by rw [hsc]; exact EReal.coe_ne_top _) ⟨0, Finset.mem_univ _, by rw [hsc]; exact EReal.coe_ne_bot _⟩
    refine ⟨max M B, ?_⟩
    rw [newMax_apply, hm, hB]
    exact (EReal.coe_strictMono.monotone.map_max).symm
  refine ⟨M', hM', ?_, fun e => ?_⟩
  · rw [upd_l_apply, hl, decay_apply, hm, hM']
    simp only [weight_apply, hM', hsc]
    exact Online.den_step (f h a) S s hs M M'
  · rw [upd_acc_apply, hacc, decay_apply, hm, hM']
    simp only [weight_apply, hM', hsc, hv]
    exact Online.num_step (f h a) (v h e) S s hs M M'

/-- Once every block is in, a slab's entry is the sum of the values by their probabilities. -/
theorem good_slab {f : Fin 8 → Fin 256 → Fin 8 → Fin 256 → ℝ} {v : Fin 8 → Fin 128 → Fin 8 → Fin 256 → EReal} {st : St Ideal}
    (hst : Good f v Finset.univ st) (g : Fin 4) (t : Fin 64) (h : Fin 8) (e : Fin 128) :
    slab g st (ix3 t h e) = ∑ s, ∑ b, (Online.prob (f h ⟨64 * g.val + t.val, by omega⟩) s b : EReal) * v h e s b := by
  obtain ⟨M, hm, hl, hacc⟩ := hst h ⟨64 * g.val + t.val, by omega⟩
  rw [slab_apply, hacc, hl, Online.num_div_den]

end Cert.KernelIdeal.Att

end
-- ==== Proof.Reads.lean ====
module

public import proofs.«01_k».proof.Proof.Protocol
public import proofs.«01_k».proof.Proof.SoftValue
public import Idealize.ShloMosaic.Lib.Pipeline.ValueKit
public import Idealize.ShloMosaic.Lib.StableHlo.Run

@[expose] public section

set_option maxRecDepth 65536

noncomputable section

/-! What the kernel reads, entry by entry, in terms of the arguments. -/

namespace Cert.KernelIdeal.Att

open Cert.KernelIdeal Cert.KernelIdeal.Gen
open Idealize.ShloMosaic Idealize.ShloMosaic.TcCoe
open Idealize.SL.Sem

variable (m : (ℓ : Loc nD τ sig) → Buf (Elt Ideal) ℓ)

/-- The reshaped `x`. -/
theorem x_eq (c : Dev nD) : (V m c main_v1 : FVec Ideal S1024x8x128 .f32) = shapeCast S1024x8x128 (m ((c : Thread nD τ).loc main_arg0) : FVec Ideal S1x1024x1024 .f32) shapeCasts_S1x1024x1024_S1024x8x128 := by
  show StableHlo.after hostOps0 _ _ = _
  unfold hostOps0
  after_results
  rfl

/-- The reshaped `Wq`. -/
theorem w_eq (c : Dev nD) : (V m c main_v2 : FVec Ideal S1024x8x128 .f32) = shapeCast S1024x8x128 (m ((c : Thread nD τ).loc main_arg1) : FVec Ideal S1024x1024 .f32) shapeCasts_S1024x1024_S1024x8x128 := by
  show StableHlo.after hostOps0 _ _ = _
  unfold hostOps0
  after_results
  rfl

/-- A reshape of `x` splits its columns into heads. -/
theorem cast_x (x : FVec Ideal S1x1024x1024 .f32) (i : Fin 1024) (h : Fin 8) (e : Fin 128) :
    shapeCast S1024x8x128 x shapeCasts_S1x1024x1024_S1024x8x128 (ix3 i h e) = x (ix3 0 i ⟨h.val * 128 + e.val, by omega⟩) := by
  pointwise

/-- A reshape of `Wq` splits its columns into heads. -/
theorem cast_w (w : FVec Ideal S1024x1024 .f32) (i : Fin 1024) (h : Fin 8) (e : Fin 128) :
    shapeCast S1024x8x128 w shapeCasts_S1024x1024_S1024x8x128 (ix3 i h e) = w (ix2 i ⟨h.val * 128 + e.val, by omega⟩) := by
  pointwise

/-- An entry of the reshaped `x`. -/
theorem x_apply (c : Dev nD) (i : Fin 1024) (h : Fin 8) (e : Fin 128) :
    (V m c main_v1 : FVec Ideal S1024x8x128 .f32) (ix3 i h e) = (m ((c : Thread nD τ).loc main_arg0) : FVec Ideal S1x1024x1024 .f32) (ix3 0 i ⟨h.val * 128 + e.val, by omega⟩) := by
  rw [x_eq]; exact cast_x _ i h e

/-- An entry of the reshaped `Wq`. -/
theorem w_apply (c : Dev nD) (k : Fin 1024) (h : Fin 8) (e : Fin 128) :
    (V m c main_v2 : FVec Ideal S1024x8x128 .f32) (ix3 k h e) = (m ((c : Thread nD τ).loc main_arg1) : FVec Ideal S1024x1024 .f32) (ix2 k ⟨h.val * 128 + e.val, by omega⟩) := by
  rw [w_eq]; exact cast_w _ k h e

/-- The one block of the last matrix is the first. -/
theorem idx0 : ∀ t : Fin cfg0.N, win0_0.index t = ![0, 0] :=
  (by decide +kernel : ∀ t : Fin grid0.N, _)

/-- The staged last matrix is the argument. -/
theorem wo_eq (c : Dev nD) : woV m c = m ((c : Thread nD τ).loc main_arg4) := by
  unfold woV
  blk_ext! [iblk, V, idx0 t0_0]

/-- Dropping the first axis of a slab of heads. -/
theorem flat_apply {α : Type} (X : S1x1024x8x128.Idx → α) (i : Fin 1024) (h : Fin 8) (e : Fin 128) : flat X (ix3 i h e) = X (ix4 0 i h e) := by
  show X (Shape.reshapeEquiv _ (ix3 i h e)) = _
  pointwise

/-- Dropping the first axis of a slot. -/
theorem squeeze_apply {α : Type} (X : S1x128x8x128.Idx → α) (i : Fin 128) (h : Fin 8) (e : Fin 128) : X (Shape.reshapeEquiv (squeezes_S1x128x8x128_S128x8x128).numel_eq (ix3 i h e)) = X (ix4 0 i h e) := by
  pointwise

/-- Adding the first axis of a slot. -/
theorem lift_apply {α : Type} (Y : S128x8x128.Idx → α) (i : Fin 128) (h : Fin 8) (e : Fin 128) : lift Y (ix4 0 i h e) = Y (ix3 i h e) := by
  refine congrArg Y ((Equiv.symm_apply_eq _).mpr ?_)
  exact (squeeze_apply (fun j => j) i h e).symm

/-- An entry of a device's heads in a source. -/
theorem headV_apply (b : Bool) (s d : Dev nD) (i : Fin 1024) (h : Fin 8) (e : Fin 128) :
    headV m b s d (ix3 i h e) = srcV m b s (ix4 0 i ⟨8 * d.val + h.val, by have := d.isLt; change d.val < 8 at this; omega⟩ e) := by
  unfold headV
  rw [flat_apply]
  refine congrArg (srcV m b s) (funext fun a => ?_)
  fin_cases a
  · rfl
  · exact Fin.ext ((congrArg (0 + ·) (Nat.one_mul _)).trans (Nat.zero_add _))
  · exact Fin.ext (congrArg (8 * d.val + ·) (Nat.one_mul _))
  · exact Fin.ext ((congrArg (0 + ·) (Nat.one_mul _)).trans (Nat.zero_add _))

/-- An entry of the rows of a partial sum. -/
theorem prowV_apply (c p : Dev nD) (i : Fin 128) (h : Fin 8) (e : Fin 128) :
    prowV m c p (ix3 i h e) = partV m c (ix3 ⟨128 * p.val + i.val, by have := p.isLt; change p.val < 8 at this; omega⟩ h e) := by
  refine congrArg (partV m c) (funext fun a => ?_)
  fin_cases a
  · exact Fin.ext (congrArg (128 * p.val + ·) (Nat.one_mul _))
  · exact Fin.ext ((congrArg (0 + ·) (Nat.one_mul _)).trans (Nat.zero_add _))
  · exact Fin.ext ((congrArg (0 + ·) (Nat.one_mul _)).trans (Nat.zero_add _))

end Cert.KernelIdeal.Att

end
-- ==== Proof.KernelValue.lean ====
module

public import proofs.«01_k».proof.Proof.Reads

@[expose] public section

set_option maxRecDepth 65536

noncomputable section

/-! What the kernel leaves, entry by entry: the context from the eight blocks of scores, and the sum of the partial
products. -/

namespace Cert.KernelIdeal.Att

open Cert.KernelIdeal Cert.KernelIdeal.Gen
open Idealize.ShloMosaic Idealize.ShloMosaic.TcCoe
open Idealize.SL.Sem

variable (m : (ℓ : Loc nD τ sig) → Buf (Elt Ideal) ℓ)

/-- Head `h` of device `c`, among all the heads. -/
def headOf (c : Dev nD) (h : Fin 8) : Fin 64 := ⟨8 * c.val + h.val, by have := c.isLt; change c.val < 8 at this; omega⟩

/-- A query entry. -/
def qry (c : Dev nD) (i : Fin 1024) (h : Fin 8) (e : Fin 128) : EReal :=
  (∑ k : Fin 1024, (show FVec Ideal S1024x8x128 .f32 from V m c main_v1) (ix3 i ⟨k.val / 128, by omega⟩ ⟨k.val % 128, by omega⟩) * (show FVec Ideal S1024x8x128 .f32 from V m c main_v2) (ix3 k h e)) * Ideal.ofBits .f32 0x3DB504F3#32

/-- The score device `c` computes for row `i` and row `j` of device `s`'s keys. -/
def ksc (c : Dev nD) (h : Fin 8) (i : Fin 1024) (s : Dev nD) (j : Fin 1024) : EReal :=
  ∑ e : Fin 128, qry m c i h e * (show FVec Ideal S1x1024x64x128 .f32 from srcV m false s) (ix4 0 j (headOf c h) e)

/-- The values device `c` weighs: row `j` of device `s`'s. -/
def kval (c : Dev nD) (h : Fin 8) (e : Fin 128) (s : Dev nD) (j : Fin 1024) : EReal :=
  (show FVec Ideal S1x1024x64x128 .f32 from srcV m true s) (ix4 0 j (headOf c h) e)

/-- One residue of the four. -/
theorem fold4_apply (q : FVec Ideal S4x8x256x128 .bf16) (k v : FVec Ideal S1024x8x128 .bf16) (s : Sts Ideal) (r : Fin 4) :
    fold4 q k v s r = upd4 q k v r (s r) := by
  fin_cases r <;> rfl

/-- The real scores of a residue. -/
def fR (c : Dev nD) (r : Fin 4) : Fin 8 → Fin 256 → Fin 8 → Fin 256 → ℝ := fun h a s b => (ksc m c h (rowOf r a) s (rowOf r b)).toReal
/-- The values of a residue. -/
def vR (c : Dev nD) (r : Fin 4) : Fin 8 → Fin 128 → Fin 8 → Fin 256 → EReal := fun h e s b => kval m c h e s (rowOf r b)

/-- One block folded in, whichever way its keys and values came. -/
theorem good_fold (hR : ∀ c h i s j, Online.IsReal (ksc m c h i s j)) (c : Dev nD) (r : Fin 4) {S : Finset (Fin 8)} {st : Sts Ideal}
    (hst : Good (fR m c r) (vR m c r) S (st r)) (s : Dev nD) (hs : (s : Fin 8) ∉ S) (k v : FVec Ideal S1024x8x128 .bf16)
    (hk : ∀ i h e, k (ix3 i h e) = (show FVec Ideal S1x1024x64x128 .f32 from srcV m false s) (ix4 0 i (headOf c h) e))
    (hv : ∀ i h e, v (ix3 i h e) = (show FVec Ideal S1x1024x64x128 .f32 from srcV m true s) (ix4 0 i (headOf c h) e)) :
    Good (fR m c r) (vR m c r) (insert s S) (fold4 (qV m c) k v st r) := by
  rw [fold4_apply]
  refine good_step hst s hs _ _ (fun h a b => ?_) (fun h b e => ?_)
  · have hd : score r (qV m c) k (ix3 h a b) = ksc m c h (rowOf r a) s (rowOf r b) := by
      rw [score_apply]
      refine Finset.sum_congr rfl fun e _ => ?_
      rw [hk]
      exact congrArg (· * _) (pay15_apply _ _ r h a e)
    rw [hd]
    obtain ⟨y, hy⟩ := hR c h (rowOf r a) s (rowOf r b)
    show _ = (((ksc m c h (rowOf r a) s (rowOf r b)).toReal : ℝ) : EReal)
    rw [hy]; rfl
  · rw [group_apply, hv]; rfl

/-- After the hop from device `pv t c`. -/
theorem good_attStep (hR : ∀ c h i s j, Online.IsReal (ksc m c h i s j)) (c : Dev nD) (r : Fin 4) {S : Finset (Fin 8)} {st : Sts Ideal}
    (hst : Good (fR m c r) (vR m c r) S (st r)) (t : Fin 7) (hs : (pv t c : Fin 8) ∉ S) :
    Good (fR m c r) (vR m c r) (insert (pv t c : Fin 8) S) (attStep m c t st r) :=
  good_fold m hR c r hst (pv t c) hs _ _ (fun i h e => (pay1_apply _ i h e).trans (headV_apply m false _ c i h e))
    (fun i h e => (pay1_apply _ i h e).trans (headV_apply m true _ c i h e))

/-- All eight blocks. -/
theorem good_att (hR : ∀ c h i s j, Online.IsReal (ksc m c h i s j)) (c : Dev nD) (r : Fin 4) :
    Good (fR m c r) (vR m c r) Finset.univ (att m c r) := by
  have h0 : Good (fR m c r) (vR m c r) (insert (c : Fin 8) ∅) (att0 m c r) :=
    good_fold m hR c r (st := fun _ => st0) (good_st0 _ _) c (Finset.notMem_empty _) _ _ (fun i h e => (pay28_apply _ i h e).trans (headV_apply m false _ c i h e))
      (fun i h e => (pay29_apply _ i h e).trans (headV_apply m true _ c i h e))
  have h1 := good_attStep m hR c r h0 0 (by clear * - c; revert c; decide)
  have h2 := good_attStep m hR c r h1 1 (by clear * - c; revert c; decide)
  have h3 := good_attStep m hR c r h2 2 (by clear * - c; revert c; decide)
  have h4 := good_attStep m hR c r h3 3 (by clear * - c; revert c; decide)
  have h5 := good_attStep m hR c r h4 4 (by clear * - c; revert c; decide)
  have h6 := good_attStep m hR c r h5 5 (by clear * - c; revert c; decide)
  have h7 := good_attStep m hR c r h6 6 (by clear * - c; revert c; decide)
  have hu : (insert (pv 6 c : Fin 8) (insert (pv 5 c : Fin 8) (insert (pv 4 c : Fin 8) (insert (pv 3 c : Fin 8) (insert (pv 2 c : Fin 8) (insert (pv 1 c : Fin 8) (insert (pv 0 c : Fin 8) (insert (c : Fin 8) (∅ : Finset (Fin 8))))))))) : Finset (Fin 8)) = Finset.univ := by
    clear * - c
    revert c; decide
  rw [hu] at h7
  exact h7

/-- The context: the values by their probabilities. -/
theorem ctxV_apply (hR : ∀ c h i s j, Online.IsReal (ksc m c h i s j)) (c : Dev nD) (i : Fin 1024) (h : Fin 8) (e : Fin 128) (r : Fin 4) (hr : r.val = i.val / 64 % 4) :
    (ctxV m c (ix3 i h e) : EReal) = ∑ s : Fin 8, ∑ b : Fin 256, (Online.prob (fun s b => (ksc m c h i s (rowOf r b)).toReal) s b : EReal) * kval m c h e s (rowOf r b) := by
  have hrow : rowOf r ⟨64 * (i.val / 256) + i.val % 64, by omega⟩ = i := Fin.ext (by
    show (64 * (i.val / 256) + i.val % 64) / 64 * 256 + r.val * 64 + (64 * (i.val / 256) + i.val % 64) % 64 = i.val
    omega)
  have hr' : (⟨i.val % 256 / 64, by omega⟩ : Fin 4) = r := Fin.ext (by show i.val % 256 / 64 = r.val; omega)
  have hg := good_slab (good_att m hR c r) ⟨i.val / 256, by omega⟩ ⟨i.val % 64, by omega⟩ h e
  have hl : ctxV m c (ix3 i h e) = slab (⟨i.val / 256, by omega⟩ : Fin 4) (att m c r) (ix3 (⟨i.val % 64, by omega⟩ : Fin 64) h e) := by
    exact (show ctxV m c (ix3 i h e) = slab (⟨i.val / 256, by omega⟩ : Fin 4) (att m c ⟨i.val % 256 / 64, by omega⟩) (ix3 (⟨i.val % 64, by omega⟩ : Fin 64) h e) from rfl).trans
      (congrArg (fun r => slab (⟨i.val / 256, by omega⟩ : Fin 4) (att m c r) (ix3 (⟨i.val % 64, by omega⟩ : Fin 64) h e)) hr')
  rw [hl, hg]
  unfold fR vR
  simp only [hrow]

/-- The gathered slots. -/
theorem gathV_apply (c s : Dev nD) (i : Fin 128) (h : Fin 8) (e : Fin 128) :
    (gathV m c (ix4 (s : Fin 8) i h e) : EReal) = if s = c then 0 else prowV m s c (ix3 i h e) := by
  show (if s = c then k0_pay275 (F := Ideal) else lift (prowV m s c)) (ix4 0 i h e) = _
  split
  · exact pay275_apply i h e
  · exact lift_apply _ i h e

/-- The finished rows: all the devices' partial sums. -/
theorem fin_apply (c : Dev nD) (i : Fin 128) (h : Fin 8) (e : Fin 128) :
    (k0_pay276 (F := Ideal) (prowV m c c) (gathV m c) (ix3 i h e) : EReal) = ∑ t : Dev nD, (prowV m t c (ix3 i h e) : EReal) := by
  rw [pay276_apply]
  have : (∑ s : Fin 8, (gathV m c (ix4 s i h e) : EReal)) = ∑ s : Dev nD, if s = c then 0 else (prowV m s c (ix3 i h e) : EReal) :=
    Finset.sum_congr rfl fun s _ => gathV_apply m c s i h e
  rw [this, ← Finset.add_sum_erase _ _ (Finset.mem_univ c), ← Finset.add_sum_erase _ (fun t => (prowV m t c (ix3 i h e) : EReal)) (Finset.mem_univ c), if_pos rfl, zero_add]
  refine congrArg (_ + ·) (Finset.sum_congr rfl fun t ht => if_neg (Finset.ne_of_mem_erase ht))

/-- The result on a device: all the devices' partial sums. -/
theorem outV_apply (c : Dev nD) (i n : Fin 1024) :
    (outV m c (ix3 0 i n) : EReal) = ∑ t : Dev nD, (partV m t (ix3 i ⟨n.val / 128, by omega⟩ ⟨n.val % 128, by omega⟩) : EReal) := by
  obtain ⟨s, hs⟩ : ∃ s : Dev nD, s.val = i.val / 128 := ⟨⟨i.val / 128, by show _ < 8; omega⟩, rfl⟩
  have hl : outV m c (ix3 0 i n) = (if s = c then k0_pay277 (prowV m c c) (gathV m c) else k0_pay279 (redV m s)) (ix3 0 (⟨i.val % 128, by omega⟩ : Fin 128) n) := by
    have hs' : s = ⟨i.val / 128, by show _ < 8; omega⟩ := Fin.ext hs
    rw [hs']; rfl
  have hi : (∀ t : Dev nD, (prowV m t s (ix3 (⟨i.val % 128, by omega⟩ : Fin 128) ⟨n.val / 128, by omega⟩ ⟨n.val % 128, by omega⟩) : EReal) = partV m t (ix3 i ⟨n.val / 128, by omega⟩ ⟨n.val % 128, by omega⟩)) := by
    intro t
    rw [prowV_apply]
    refine congrArg (fun z => partV m t (ix3 z _ _)) (Fin.ext ?_)
    show 128 * s.val + i.val % 128 = i.val
    omega
  rw [hl]
  split
  · next hc => subst hc; rw [pay277_apply, fin_apply]; exact Finset.sum_congr rfl fun t _ => hi t
  · rw [pay279_apply]
    unfold redV
    rw [pay278_apply, fin_apply]; exact Finset.sum_congr rfl fun t _ => hi t

end Cert.KernelIdeal.Att

end
-- ==== Proof.Ref.lean ====
module

public import proofs.«01_k».proof.Proof.Gen.ReferenceIdeal.Run
public import proofs.«01_k».proof.Proof.Online

@[expose] public section

set_option maxRecDepth 65536

noncomputable section

/-! The reference's result in stages: the mask, the scores, their softmax, the context, the projection. -/

namespace Cert.ReferenceIdeal.Stage

open Cert.ReferenceIdeal Cert.ReferenceIdeal.Gen Cert.ReferenceIdeal.Value Idealize.ShloMosaic Idealize.ShloMosaic.TcCoe Idealize.SL.Sem
open Facts

/-- The block of each query row. -/
def rowBlk : IVec S1024x1 32 := (broadcastInDim S1024x1 ![0] bcast_S1024_S1024x1_0 (select (andi (cmpi .ne (signi (iotaInDim S1024 32 0)) (broadcastInDim S1024 ![] bcast_S_S1024 (signi (id (constantI S_ 32 64#32))))) (cmpi .ne (Host.remsi (iotaInDim S1024 32 0) (broadcastInDim S1024 ![] bcast_S_S1024 (id (constantI S_ 32 64#32)))) (broadcastInDim S1024 ![] bcast_S_S1024 (constantI S_ 32 0#32)))) (subi (Host.divsi (iotaInDim S1024 32 0) (broadcastInDim S1024 ![] bcast_S_S1024 (id (constantI S_ 32 64#32)))) (broadcastInDim S1024 ![] bcast_S_S1024 (constantI S_ 32 1#32))) (Host.divsi (iotaInDim S1024 32 0) (broadcastInDim S1024 ![] bcast_S_S1024 (id (constantI S_ 32 64#32))))))

/-- The block of each key row. -/
def colBlk : IVec S1x8192 32 := (broadcastInDim S1x8192 ![1] bcast_S8192_S1x8192_1 (select (andi (cmpi .ne (signi (iotaInDim S8192 32 0)) (broadcastInDim S8192 ![] bcast_S_S8192 (signi (id (constantI S_ 32 64#32))))) (cmpi .ne (Host.remsi (iotaInDim S8192 32 0) (broadcastInDim S8192 ![] bcast_S_S8192 (id (constantI S_ 32 64#32)))) (broadcastInDim S8192 ![] bcast_S_S8192 (constantI S_ 32 0#32)))) (subi (Host.divsi (iotaInDim S8192 32 0) (broadcastInDim S8192 ![] bcast_S_S8192 (id (constantI S_ 32 64#32)))) (broadcastInDim S8192 ![] bcast_S_S8192 (constantI S_ 32 1#32))) (Host.divsi (iotaInDim S8192 32 0) (broadcastInDim S8192 ![] bcast_S_S8192 (id (constantI S_ 32 64#32))))))

/-- The residue of each query row's block. -/
def rowRes : IVec S1024x1 32 := (select (andi (cmpi .ne (cmpi .slt (Host.remsi rowBlk (broadcastInDim S1024x1 ![] bcast_S_S1024x1 (select (cmpi .eq (id (constantI S_ 32 4#32)) (constantI S_ 32 0#32)) (constantI S_ 32 1#32) (id (constantI S_ 32 4#32))))) (broadcastInDim S1024x1 ![] bcast_S_S1024x1 (constantI S_ 32 0#32))) (broadcastInDim S1024x1 ![] bcast_S_S1024x1 (cmpi .slt (select (cmpi .eq (id (constantI S_ 32 4#32)) (constantI S_ 32 0#32)) (constantI S_ 32 1#32) (id (constantI S_ 32 4#32))) (constantI S_ 32 0#32)))) (cmpi .ne (Host.remsi rowBlk (broadcastInDim S1024x1 ![] bcast_S_S1024x1 (select (cmpi .eq (id (constantI S_ 32 4#32)) (constantI S_ 32 0#32)) (constantI S_ 32 1#32) (id (constantI S_ 32 4#32))))) (broadcastInDim S1024x1 ![] bcast_S_S1024x1 (constantI S_ 32 0#32)))) (addi (Host.remsi rowBlk (broadcastInDim S1024x1 ![] bcast_S_S1024x1 (select (cmpi .eq (id (constantI S_ 32 4#32)) (constantI S_ 32 0#32)) (constantI S_ 32 1#32) (id (constantI S_ 32 4#32))))) (broadcastInDim S1024x1 ![] bcast_S_S1024x1 (select (cmpi .eq (id (constantI S_ 32 4#32)) (constantI S_ 32 0#32)) (constantI S_ 32 1#32) (id (constantI S_ 32 4#32))))) (Host.remsi rowBlk (broadcastInDim S1024x1 ![] bcast_S_S1024x1 (select (cmpi .eq (id (constantI S_ 32 4#32)) (constantI S_ 32 0#32)) (constantI S_ 32 1#32) (id (constantI S_ 32 4#32))))))

/-- The residue of each key row's block. -/
def colRes : IVec S1x8192 32 := (select (andi (cmpi .ne (cmpi .slt (Host.remsi colBlk (broadcastInDim S1x8192 ![] bcast_S_S1x8192 (select (cmpi .eq (id (constantI S_ 32 4#32)) (constantI S_ 32 0#32)) (constantI S_ 32 1#32) (id (constantI S_ 32 4#32))))) (broadcastInDim S1x8192 ![] bcast_S_S1x8192 (constantI S_ 32 0#32))) (broadcastInDim S1x8192 ![] bcast_S_S1x8192 (cmpi .slt (select (cmpi .eq (id (constantI S_ 32 4#32)) (constantI S_ 32 0#32)) (constantI S_ 32 1#32) (id (constantI S_ 32 4#32))) (constantI S_ 32 0#32)))) (cmpi .ne (Host.remsi colBlk (broadcastInDim S1x8192 ![] bcast_S_S1x8192 (select (cmpi .eq (id (constantI S_ 32 4#32)) (constantI S_ 32 0#32)) (constantI S_ 32 1#32) (id (constantI S_ 32 4#32))))) (broadcastInDim S1x8192 ![] bcast_S_S1x8192 (constantI S_ 32 0#32)))) (addi (Host.remsi colBlk (broadcastInDim S1x8192 ![] bcast_S_S1x8192 (select (cmpi .eq (id (constantI S_ 32 4#32)) (constantI S_ 32 0#32)) (constantI S_ 32 1#32) (id (constantI S_ 32 4#32))))) (broadcastInDim S1x8192 ![] bcast_S_S1x8192 (select (cmpi .eq (id (constantI S_ 32 4#32)) (constantI S_ 32 0#32)) (constantI S_ 32 1#32) (id (constantI S_ 32 4#32))))) (Host.remsi colBlk (broadcastInDim S1x8192 ![] bcast_S_S1x8192 (select (cmpi .eq (id (constantI S_ 32 4#32)) (constantI S_ 32 0#32)) (constantI S_ 32 1#32) (id (constantI S_ 32 4#32))))))

/-- Which keys a query sees. -/
def mask : IVec S1024x8192 1 := (ori (cmpi .eq (broadcastInDim S1024x8192 ![0, 1] bcast_S1024x1_S1024x8192_0_1 rowBlk) (broadcastInDim S1024x8192 ![0, 1] bcast_S1x8192_S1024x8192_0_1 colBlk)) (cmpi .eq (broadcastInDim S1024x8192 ![0, 1] bcast_S1x8192_S1024x8192_0_1 colRes) (broadcastInDim S1024x8192 ![0, 1] bcast_S1024x1_S1024x8192_0_1 rowRes)))

/-- Which queries see a key at all. -/
def keep : IVec S1024 1 := (Host.reduce IntOp.ori mask (constantI S_ 1 0#1) reducesTo_S1024x8192_S1024_d1 h_S_)

/-- The queries. -/
def refQ (x : FVec Ideal S1x1024x1024 .f32) (wq : FVec Ideal S1024x8192 .f32) : FVec Ideal S1x1024x64x128 .f32 := (shapeCast _ (Host.dotGeneral dot_S1x1024x1024_S1024x8192_S1x1024x8192_2_0_01_1_n_n none x wq) shapeCasts_S1x1024x8192_S1x1024x64x128)

/-- The masked scores. -/
def scores (mask : IVec S1024x8192 1) (x : FVec Ideal S1x1024x1024 .f32) (wq : FVec Ideal S1024x8192 .f32) (kx : FVec Ideal S1x8192x64x128 .f32) : FVec Ideal S1x64x1024x8192 .f32 := (select (broadcastInDim S1x64x1024x8192 ![0, 1, 2, 3] bcast_S1x1x1024x8192_S1x64x1024x8192_0_1_2_3 (broadcastInDim S1x1x1024x8192 ![2, 3] bcast_S1024x8192_S1x1x1024x8192_2_3 mask)) (mulf (Host.dotGeneral dot_S1x1024x64x128_S1x8192x64x128_S1x64x1024x8192_3_3_1_1_02_02 none (refQ x wq) kx) (broadcastInDim S1x64x1024x8192 ![] bcast_S_S1x64x1024x8192 (constant S_ .f32 0x3DB504F3#32))) (broadcastInDim S1x64x1024x8192 ![] bcast_S_S1x64x1024x8192 (id (constant S_ .f32 0xFF800000#32))))

/-- Each row's largest score. -/
def rowMax (sc : FVec Ideal S1x64x1024x8192 .f32) : FVec Ideal S1x64x1024 .f32 := (Host.reduce FloatOps.maximumf sc (constant S_ .f32 0xFF800000#32) reducesTo_S1x64x1024x8192_S1x64x1024_d3 h_S_)

/-- The weights before normalisation. -/
def wts (sc : FVec Ideal S1x64x1024x8192 .f32) : FVec Ideal S1x64x1024x8192 .f32 := (Host.exp (subf sc (broadcastInDim S1x64x1024x8192 ![0, 1, 2, 3] bcast_S1x64x1024x1_S1x64x1024x8192_0_1_2_3 (broadcastInDim S1x64x1024x1 ![0, 1, 2] bcast_S1x64x1024_S1x64x1024x1_0_1_2 (rowMax sc)))))

/-- Each row's sum of weights. -/
def rowSum (w : FVec Ideal S1x64x1024x8192 .f32) : FVec Ideal S1x64x1024 .f32 := (Host.reduceAdd w (constant S_ .f32 0x00000000#32) reducesTo_S1x64x1024x8192_S1x64x1024_d3 h_S_)

/-- The probabilities. -/
def probs (keep : IVec S1024 1) (sc : FVec Ideal S1x64x1024x8192 .f32) : FVec Ideal S1x64x1024x8192 .f32 := (select (broadcastInDim S1x64x1024x8192 ![0, 1, 2, 3] bcast_S1x1x1024x1_S1x64x1024x8192_0_1_2_3 (broadcastInDim S1x1x1024x1 ![2] bcast_S1024_S1x1x1024x1_2 keep)) (Host.divf (wts sc) (broadcastInDim S1x64x1024x8192 ![0, 1, 2, 3] bcast_S1x64x1024x1_S1x64x1024x8192_0_1_2_3 (select (broadcastInDim S1x64x1024x1 ![0, 1, 2, 3] bcast_S1x1x1024x1_S1x64x1024x1_0_1_2_3 (broadcastInDim S1x1x1024x1 ![2] bcast_S1024_S1x1x1024x1_2 keep)) (broadcastInDim S1x64x1024x1 ![0, 1, 2] bcast_S1x64x1024_S1x64x1024x1_0_1_2 (rowSum (wts sc))) (broadcastInDim S1x64x1024x1 ![] bcast_S_S1x64x1024x1 (id (constant S_ .f32 0x3F800000#32)))))) (broadcastInDim S1x64x1024x8192 ![] bcast_S_S1x64x1024x8192 (id (constant S_ .f32 0x00000000#32))))

/-- The context times the output projection. -/
def proj (pr : FVec Ideal S1x64x1024x8192 .f32) (vx : FVec Ideal S1x8192x64x128 .f32) (wo : FVec Ideal S8192x1024 .f32) : FVec Ideal S1x1024x1024 .f32 := Host.dotGeneral dot_S1x1024x8192_S8192x1024_S1x1024x1024_2_0_01_1_n_n none (shapeCast _ (transpose S1x1024x64x128 [0, 3, 1, 2] (Host.dotGeneral dot_S1x8192x64x128_S1x64x1024x8192_S1x64x128x1024_1_3_3_2_02_01 none vx pr) transposes_S1x64x128x1024_S1x1024x64x128_0_3_1_2) shapeCasts_S1x1024x64x128_S1x1024x8192) wo

/-- The reference's result is the last stage. -/
theorem result_eq (m : (ℓ : Loc nD τ sig) → Buf (Elt Ideal) ℓ) (c : Dev nD) :
    res_main_v39 m c = proj (probs keep (scores mask (m ((c.tc : Thread nD τ).loc main_arg0)) (m ((c.tc : Thread nD τ).loc main_arg1)) (m ((c.tc : Thread nD τ).loc main_arg2)))) (m ((c.tc : Thread nD τ).loc main_arg3)) (m ((c.tc : Thread nD τ).loc main_arg4)) := rfl

end Cert.ReferenceIdeal.Stage

end
-- ==== Proof.RefMask.lean ====
module

public import proofs.«01_k».proof.Proof.Ref

@[expose] public section

set_option maxRecDepth 65536

noncomputable section

/-! The reference's mask, entry by entry. -/

namespace Cert.ReferenceIdeal.Stage

open Cert.ReferenceIdeal Cert.ReferenceIdeal.Gen Cert.ReferenceIdeal.Value Idealize.ShloMosaic Idealize.ShloMosaic.TcCoe Idealize.SL.Sem
open Facts

/-- The block of query row `i` is `i / 64`. -/
theorem rowBlk_apply : ∀ i : Fin 1024, rowBlk (ix2 i 0) = BitVec.ofNat 32 (i.val / 64) := by decide +kernel

/-- The block of key row `j` is `j / 64`. -/
theorem colBlk_apply : ∀ j : Fin 8192, colBlk (ix2 0 j) = BitVec.ofNat 32 (j.val / 64) := by decide +kernel

/-- The residue of query row `i`'s block. -/
theorem rowRes_apply : ∀ i : Fin 1024, rowRes (ix2 i 0) = BitVec.ofNat 32 (i.val / 64 % 4) := by decide +kernel

/-- The residue of key row `j`'s block. -/
theorem colRes_apply : ∀ j : Fin 8192, colRes (ix2 0 j) = BitVec.ofNat 32 (j.val / 64 % 4) := by decide +kernel

/-- The mask's words, at every pair of a query block and a key block. -/
theorem mask_words : ∀ (a : Fin 16) (b : Fin 128), IntOp.ori (IntOp.cmpi .eq (BitVec.ofNat 32 a.val) (BitVec.ofNat 32 b.val)) (IntOp.cmpi .eq (BitVec.ofNat 32 (b.val % 4)) (BitVec.ofNat 32 (a.val % 4)))
    = if b.val % 4 = a.val % 4 then 1#1 else 0#1 := by decide +kernel

/-- Query row `i` sees key row `j` when their blocks have the same residue. -/
theorem mask_apply (i : Fin 1024) (j : Fin 8192) : mask (ix2 i j) = if j.val / 64 % 4 = i.val / 64 % 4 then 1#1 else 0#1 := by
  have h : mask (ix2 i j) = IntOp.ori (IntOp.cmpi .eq (rowBlk (ix2 i 0)) (colBlk (ix2 0 j))) (IntOp.cmpi .eq (colRes (ix2 0 j)) (rowRes (ix2 i 0))) := by
    pointwise [mask]
  rw [h, rowBlk_apply, colBlk_apply, rowRes_apply, colRes_apply]
  exact mask_words ⟨i.val / 64, by omega⟩ ⟨j.val / 64, by omega⟩

end Cert.ReferenceIdeal.Stage

end
-- ==== Proof.RefValue.lean ====
module

public import proofs.«01_k».proof.Proof.RefMask
public import proofs.«01_k».proof.Proof.Online

@[expose] public section

set_option maxRecDepth 65536

noncomputable section

/-! The reference's result, entry by entry. -/

namespace Cert.ReferenceIdeal.Stage

open Cert.ReferenceIdeal Cert.ReferenceIdeal.Gen Cert.ReferenceIdeal.Value Idealize.ShloMosaic Idealize.ShloMosaic.TcCoe Idealize.SL.Sem
open Facts

/-- A fold of "or" over bits one of which is set is set. -/
theorem fold_ori_one {ι : Type} (s : Finset ι) (f : ι → BitVec 1) (z : BitVec 1) (h : ∃ i ∈ s, f i = 1#1) :
    s.fold IntOp.ori z f = 1#1 := by
  classical
  obtain ⟨i, hi, h⟩ := h
  rw [← Finset.insert_erase hi, Finset.fold_insert (Finset.notMem_erase i s), h]
  generalize (s.erase i).fold IntOp.ori z f = w
  revert w; decide

/-- Every query row sees a key. -/
theorem keep_apply (i : Fin 1024) : keep (ix1 i) = 1#1 := by
  unfold keep
  pointwise
  refine fold_ori_one _ _ _ ⟨⟨i.val, by omega⟩, Finset.mem_univ _, ?_⟩
  rw [mask_apply, if_pos rfl]

/-- A query: the product of a row of `x` and a column of `Wq`. -/
theorem refQ_apply (x : FVec Ideal S1x1024x1024 .f32) (wq : FVec Ideal S1024x8192 .f32) (i : Fin 1024) (h : Fin 64) (d : Fin 128) :
    refQ x wq (ix4 0 i h d) = ∑ k : Fin 1024, x (ix3 0 i k) * wq (ix2 k ⟨h.val * 128 + d.val, by omega⟩) := by
  pointwise [refQ]

/-- The constant of the scores' scale. -/
def scale : EReal := Ideal.ofBits .f32 0x3DB504F3#32

/-- A masked score. -/
theorem scores_apply (mk : IVec S1024x8192 1) (x : FVec Ideal S1x1024x1024 .f32) (wq : FVec Ideal S1024x8192 .f32) (kx : FVec Ideal S1x8192x64x128 .f32)
    (i : Fin 1024) (h : Fin 64) (j : Fin 8192) :
    scores mk x wq kx (ix4 0 h i j) = if mk (ix2 i j) = 1#1
      then (∑ d : Fin 128, refQ x wq (ix4 0 i h d) * kx (ix4 0 j h d)) * scale else ⊥ := by
  pointwise [scores]
  by_cases hm : mk (ix2 i j) = 1#1
  · rw [if_pos hm, hm]; rfl
  · rw [if_neg hm]; exact (if_neg hm).trans Online.negInf

/-- A row's largest score. -/
theorem rowMax_apply (sc : FVec Ideal S1x64x1024x8192 .f32) (h : Fin 64) (i : Fin 1024) :
    rowMax sc (ix3 0 h i) = Finset.univ.fold max ⊥ fun j : Fin 8192 => sc (ix4 0 h i j) := by
  pointwise [rowMax]
  exact congrArg (Finset.fold max · _ _) Online.negInf

/-- A weight: the exponential of the score less the row's largest. -/
theorem wts_apply (sc : FVec Ideal S1x64x1024x8192 .f32) (h : Fin 64) (i : Fin 1024) (j : Fin 8192) :
    wts sc (ix4 0 h i j) = Ideal.exp (sc (ix4 0 h i j) - rowMax sc (ix3 0 h i)) := by
  pointwise [wts]

/-- A row's sum of weights. -/
theorem rowSum_apply (w : FVec Ideal S1x64x1024x8192 .f32) (h : Fin 64) (i : Fin 1024) :
    rowSum w (ix3 0 h i) = 0 + ∑ j : Fin 8192, w (ix4 0 h i j) := by
  pointwise [rowSum]

/-- A probability: the weight over the row's sum. -/
theorem probs_apply (kp : IVec S1024 1) (sc : FVec Ideal S1x64x1024x8192 .f32) (h : Fin 64) (i : Fin 1024) (j : Fin 8192)
    (hk : kp (ix1 i) = 1#1) : probs kp sc (ix4 0 h i j) = Ideal.div (wts sc (ix4 0 h i j)) (rowSum (wts sc) (ix3 0 h i)) := by
  pointwise [probs]
  rw [hk]
  rfl

/-- An entry of the projection: the sum over the heads' columns of the context by the weights of the output. -/
theorem proj_apply (pr : FVec Ideal S1x64x1024x8192 .f32) (vx : FVec Ideal S1x8192x64x128 .f32) (wo : FVec Ideal S8192x1024 .f32)
    (i : Fin 1024) (n : Fin 1024) :
    proj pr vx wo (ix3 0 i n) = ∑ k : Fin 8192, (∑ j : Fin 8192, vx (ix4 0 j ⟨k.val / 128, by omega⟩ ⟨k.val % 128, by omega⟩) * pr (ix4 0 ⟨k.val / 128, by omega⟩ i j)) * wo (ix2 k n) := by
  pointwise [proj]

/-- A score before the mask. -/
def rawScore (x : FVec Ideal S1x1024x1024 .f32) (wq : FVec Ideal S1024x8192 .f32) (kx : FVec Ideal S1x8192x64x128 .f32)
    (i : Fin 1024) (h : Fin 64) (j : Fin 8192) : EReal :=
  (∑ d : Fin 128, (∑ k : Fin 1024, x (ix3 0 i k) * wq (ix2 k ⟨h.val * 128 + d.val, by omega⟩)) * kx (ix4 0 j h d)) * scale

/-- The residue of query row `i`'s block, as one of the four. -/
def resid (i : Fin 1024) : Fin 4 := ⟨i.val / 64 % 4, by omega⟩

/-- An entry of the context: the values by their probabilities, over the places of the row's residue. -/
def ctxAt (x : FVec Ideal S1x1024x1024 .f32) (wq : FVec Ideal S1024x8192 .f32) (kx vx : FVec Ideal S1x8192x64x128 .f32)
    (i : Fin 1024) (h : Fin 64) (d : Fin 128) : EReal :=
  ∑ s, ∑ b, (Online.prob (fun s b => (rawScore x wq kx i h (Online.place (resid i) s b)).toReal) s b : EReal) * vx (ix4 0 (Online.place (resid i) s b) h d)

/-- An entry of the reference's result, where the scores are real. -/
theorem ref_entry (x : FVec Ideal S1x1024x1024 .f32) (wq : FVec Ideal S1024x8192 .f32) (kx vx : FVec Ideal S1x8192x64x128 .f32)
    (wo : FVec Ideal S8192x1024 .f32) (hS : ∀ i h j, Online.IsReal (rawScore x wq kx i h j)) (i n : Fin 1024) :
    proj (probs keep (scores mask x wq kx)) vx wo (ix3 0 i n)
      = ∑ k : Fin 8192, ctxAt x wq kx vx i ⟨k.val / 128, by omega⟩ ⟨k.val % 128, by omega⟩ * wo (ix2 k n) := by
  rw [proj_apply]
  refine Finset.sum_congr rfl fun k _ => congrArg (· * wo (ix2 k n)) ?_
  simp only [probs_apply keep _ _ _ _ (keep_apply i), wts_apply, rowSum_apply, rowMax_apply]
  generalize (⟨k.val / 128, by omega⟩ : Fin 64) = h
  generalize (⟨k.val % 128, by omega⟩ : Fin 128) = d
  refine Online.whole (resid i) (fun j => (rawScore x wq kx i h j).toReal) (fun j => vx (ix4 0 j h d)) (fun j => scores mask x wq kx (ix4 0 h i j)) fun j => ?_
  rw [scores_apply, mask_apply]
  show _ = if j.val / 64 % 4 = i.val / 64 % 4 then _ else _
  split
  · next hm =>
    rw [if_pos rfl]
    obtain ⟨r, hr⟩ := hS i h j
    rw [hr, EReal.toReal_coe, ← hr]
    simp only [refQ_apply]; rfl
  · rw [if_neg (by decide)]

end Cert.ReferenceIdeal.Stage

end
-- ==== Proof.Value.lean ====
module

public import proofs.«01_k».proof.Defs
public import proofs.«01_k».proof.Proof.KernelValue
public import proofs.«01_k».proof.Proof.RefValue
public import proofs.«01_k».proof.Proof.Launch
public import proofs.«01_k».proof.Proof.Gen.ReferenceIdeal.Run

@[expose] public section

set_option maxRecDepth 65536

noncomputable section

/-! The kernel's result is the reference's. -/

namespace Cert.KernelIdeal.Att

open Cert.KernelIdeal Cert.KernelIdeal.Gen
open Idealize.ShloMosaic Idealize.ShloMosaic.TcCoe
open Idealize.SL.Sem
open Cert.ReferenceIdeal.Stage (rawScore ctxAt resid scale)

/-! ## Blocks of the whole arrays -/

abbrev S1024x8192 : Shape := ⟨2, ![1024, 8192]⟩
abbrev S8192x1024 : Shape := ⟨2, ![8192, 1024]⟩
abbrev S1x8192x64x128 : Shape := ⟨4, ![1, 8192, 64, 128]⟩

/-- A device's columns. -/
theorem block_cols (c : Fin 8) (w : FVec Ideal S1024x8192 .f32) (k n : Fin 1024) :
    (Layout.block ⟨2, ![1024, 1024]⟩ ⟨2, ![1024, 8192]⟩ 1 8 c w : FVec Ideal S1024x1024 .f32) (ix2 k n) = w (ix2 k ⟨c.val * 1024 + n.val, by omega⟩) := by
  rw [Layout.block_apply]
  refine congrArg w (funext fun a => ?_)
  fin_cases a <;> rfl

/-- A device's rows. -/
theorem block_rows (c : Fin 8) (w : FVec Ideal S8192x1024 .f32) (k n : Fin 1024) :
    (Layout.block ⟨2, ![1024, 1024]⟩ ⟨2, ![8192, 1024]⟩ 0 8 c w : FVec Ideal S1024x1024 .f32) (ix2 k n) = w (ix2 ⟨c.val * 1024 + k.val, by omega⟩ n) := by
  rw [Layout.block_apply]
  refine congrArg w (funext fun a => ?_)
  fin_cases a <;> rfl

/-- A device's places. -/
theorem block_places (c : Fin 8) (x : FVec Ideal S1x8192x64x128 .f32) (j : Fin 1024) (h : Fin 64) (e : Fin 128) :
    (Layout.block ⟨4, ![1, 1024, 64, 128]⟩ ⟨4, ![1, 8192, 64, 128]⟩ 1 8 c x : FVec Ideal S1x1024x64x128 .f32) (ix4 0 j h e) = x (ix4 0 ⟨c.val * 1024 + j.val, by omega⟩ h e) := by
  rw [Layout.block_apply]
  refine congrArg x (funext fun a => ?_)
  fin_cases a <;> rfl

/-- A place of a device's block is one of the places of the residue. -/
theorem place_rowOf (r : Fin 4) (s : Fin 8) (b : Fin 256) (h : s.val * 1024 + (rowOf r b).val < 8192) :
    (⟨s.val * 1024 + (rowOf r b).val, h⟩ : Fin 8192) = Online.place r s b := Fin.ext (by
  show s.val * 1024 + (b.val / 64 * 256 + r.val * 64 + b.val % 64) = 1024 * s.val + 256 * (b.val / 64) + 64 * r.val + b.val % 64
  omega)

/-! ## Finite entries -/

/-- The word of infinity. -/
theorem top_word : Ideal.ofBits .f32 0x7F800000#32 = ⊤ := by simp [Ideal.ofBits, Ideal.ieee]

/-- An entry that compares below infinity is a real. -/
theorem real_of_cmp {S : Shape} (x : FVec Ideal S .f32) (hb : S_.BroadcastsInDim S (![] : Fin 0 → Fin S.rank))
    (h : cmpf .olt (Host.absf x) (broadcastInDim S ![] hb (constant (F := Ideal) S_ .f32 0x7F800000#32)) = fun _ => 1#1) (i : S.Idx) : Online.IsReal (x i) := by
  have hi := congrFun h i
  refine Online.isReal_of_abs_lt ?_
  rw [← top_word]
  change BitVec.ofBool (decide (max (x i) (-(x i)) < Ideal.ofBits .f32 0x7F800000#32)) = 1#1 at hi
  by_contra hn
  rw [decide_eq_false hn] at hi
  exact absurd hi (by decide)

/-- The scale is a real. -/
theorem scale_real : Online.IsReal scale := ⟨_, by simp [scale, Ideal.ofBits, Ideal.ieee, -EReal.coe_mul]; rfl⟩

/-! ## The two results -/

section Join
variable (m : (ℓ : Loc nD τ sig) → Buf (Elt Ideal) ℓ)
variable (x : FVec Ideal S1x1024x1024 .f32) (wq : FVec Ideal S1024x8192 .f32) (kx vx : FVec Ideal S1x8192x64x128 .f32) (wo : FVec Ideal S8192x1024 .f32)

/-- Each device's arguments are its blocks of the whole arrays. -/
structure Holds : Prop where
  x : ∀ c : Dev nD, m ((c : Thread nD τ).loc main_arg0) = x
  w : ∀ c : Dev nD, m ((c : Thread nD τ).loc main_arg1) = Layout.block ⟨2, ![1024, 1024]⟩ ⟨2, ![1024, 8192]⟩ 1 8 c wq
  k : ∀ c : Dev nD, m ((c : Thread nD τ).loc main_arg2) = Layout.block ⟨4, ![1, 1024, 64, 128]⟩ ⟨4, ![1, 8192, 64, 128]⟩ 1 8 c kx
  v : ∀ c : Dev nD, m ((c : Thread nD τ).loc main_arg3) = Layout.block ⟨4, ![1, 1024, 64, 128]⟩ ⟨4, ![1, 8192, 64, 128]⟩ 1 8 c vx
  o : ∀ c : Dev nD, m ((c : Thread nD τ).loc main_arg4) = Layout.block ⟨2, ![1024, 1024]⟩ ⟨2, ![8192, 1024]⟩ 0 8 c wo

variable {m x wq kx vx wo}

/-- The unscaled query of a row, at a head and a column. -/
def rawQ (x : FVec Ideal S1x1024x1024 .f32) (wq : FVec Ideal S1024x8192 .f32) (i : Fin 1024) (h : Fin 64) (e : Fin 128) : EReal :=
  ∑ k : Fin 1024, x (ix3 0 i k) * wq (ix2 k ⟨h.val * 128 + e.val, by omega⟩)

/-- A device's query is the scaled query of the whole arrays. -/
theorem qry_eq (H : Holds m x wq kx vx wo) (c : Dev nD) (i : Fin 1024) (h : Fin 8) (e : Fin 128) :
    qry m c i h e = rawQ x wq i (headOf c h) e * scale := by
  refine congrArg (· * scale) (Finset.sum_congr rfl fun k _ => ?_)
  refine congrArg₂ (fun a b : EReal => a * b) ((x_apply m c i _ _).trans ?_) ((w_apply m c k h e).trans ?_)
  · rw [H.x c]
    exact congrArg (fun z => x (ix3 0 i z)) (Fin.ext (by show k.val / 128 * 128 + k.val % 128 = k.val; omega))
  · rw [H.w c]
    refine (block_cols c wq k _).trans (congrArg (fun z => wq (ix2 k z)) (Fin.ext ?_))
    show c.val * 1024 + (h.val * 128 + e.val) = (8 * c.val + h.val) * 128 + e.val
    omega

/-- A device's keys are its block of the whole. -/
theorem keys_eq (H : Holds m x wq kx vx wo) (s : Dev nD) (j : Fin 1024) (h : Fin 64) (e : Fin 128) (hj : s.val * 1024 + j.val < 8192) :
    (show FVec Ideal S1x1024x64x128 .f32 from srcV m false s) (ix4 0 j h e) = kx (ix4 0 ⟨s.val * 1024 + j.val, hj⟩ h e) := by
  have : srcV m false s = Layout.block ⟨4, ![1, 1024, 64, 128]⟩ ⟨4, ![1, 8192, 64, 128]⟩ 1 8 s kx := (V_main_arg2 m s).trans (H.k s)
  rw [this]
  exact block_places s kx j h e

/-- A device's values are its block of the whole. -/
theorem vals_eq (H : Holds m x wq kx vx wo) (s : Dev nD) (j : Fin 1024) (h : Fin 64) (e : Fin 128) (hj : s.val * 1024 + j.val < 8192) :
    (show FVec Ideal S1x1024x64x128 .f32 from srcV m true s) (ix4 0 j h e) = vx (ix4 0 ⟨s.val * 1024 + j.val, hj⟩ h e) := by
  have : srcV m true s = Layout.block ⟨4, ![1, 1024, 64, 128]⟩ ⟨4, ![1, 8192, 64, 128]⟩ 1 8 s vx := (V_main_arg3 m s).trans (H.v s)
  rw [this]
  exact block_places s vx j h e

variable (hx : ∀ i k, Online.IsReal (x (ix3 0 i k))) (hw : ∀ k n, Online.IsReal (wq (ix2 k n))) (hk : ∀ j h e, Online.IsReal (kx (ix4 0 j h e)))
include hx hw

/-- A query of finite arrays is a real. -/
theorem rawQ_real (i : Fin 1024) (h : Fin 64) (e : Fin 128) : Online.IsReal (rawQ x wq i h e) :=
  Online.IsReal.sum fun k => (hx i k).mul (hw k _)

include hk

/-- A score of finite arrays is a real. -/
theorem raw_real (i : Fin 1024) (h : Fin 64) (j : Fin 8192) : Online.IsReal (rawScore x wq kx i h j) :=
  (Online.IsReal.sum fun e => (rawQ_real hx hw i h e).mul (hk j h e)).mul scale_real

/-- A device's score is the reference's: the scale comes out of the sum. -/
theorem ksc_eq (H : Holds m x wq kx vx wo) (c : Dev nD) (h : Fin 8) (i : Fin 1024) (s : Dev nD) (j : Fin 1024) (hj : s.val * 1024 + j.val < 8192) :
    ksc m c h i s j = rawScore x wq kx i (headOf c h) ⟨s.val * 1024 + j.val, hj⟩ := by
  refine Eq.trans (Finset.sum_congr rfl fun e _ => ?_)
    (Online.sum_scale Finset.univ (fun e => rawQ_real hx hw i (headOf c h) e) (fun e => hk ⟨s.val * 1024 + j.val, hj⟩ (headOf c h) e) scale_real)
  exact congrArg₂ (fun a b : EReal => a * b) (qry_eq H c i h e) (keys_eq H s j (headOf c h) e hj)

/-- A device's scores are reals. -/
theorem ksc_real (H : Holds m x wq kx vx wo) (c : Dev nD) (h : Fin 8) (i : Fin 1024) (s : Dev nD) (j : Fin 1024) : Online.IsReal (ksc m c h i s j) := by
  have hs : s.val < 8 := s.isLt
  rw [ksc_eq hx hw hk H c h i s j (by omega)]
  exact raw_real hx hw hk _ _ _

/-- A device's context is the reference's at its heads. -/
theorem ctxV_eq (H : Holds m x wq kx vx wo) (c : Dev nD) (i : Fin 1024) (h : Fin 8) (e : Fin 128) :
    (ctxV m c (ix3 i h e) : EReal) = ctxAt x wq kx vx i (headOf c h) e := by
  rw [ctxV_apply m (ksc_real hx hw hk H) c i h e (resid i) rfl]
  unfold ctxAt
  have hsc : ∀ (s : Fin 8) (b : Fin 256), ksc m c h i s (rowOf (resid i) b) = rawScore x wq kx i (headOf c h) (Online.place (resid i) s b) := fun s b => by
    rw [← place_rowOf (resid i) s b (by have := (rowOf (resid i) b).isLt; omega)]
    exact ksc_eq hx hw hk H c h i s _ _
  have hvv : ∀ (s : Fin 8) (b : Fin 256), kval m c h e s (rowOf (resid i) b) = vx (ix4 0 (Online.place (resid i) s b) (headOf c h) e) := fun s b => by
    rw [← place_rowOf (resid i) s b (by have := (rowOf (resid i) b).isLt; omega)]
    exact vals_eq H s _ _ e _
  simp only [hsc, hvv]

/-- A device's partial sum: the part of the reference's last product over its rows of the last matrix. -/
theorem partV_eq (H : Holds m x wq kx vx wo) (c : Dev nD) (i n : Fin 1024) :
    (partV m c (ix3 i ⟨n.val / 128, by omega⟩ ⟨n.val % 128, by omega⟩) : EReal)
      = ∑ k : Fin 1024, ctxAt x wq kx vx i (headOf c ⟨k.val / 128, by omega⟩) ⟨k.val % 128, by omega⟩ * wo (ix2 ⟨c.val * 1024 + k.val, by have := c.isLt; change c.val < 8 at this; omega⟩ n) := by
  refine (pay274_apply _ _ i _ _).trans (Finset.sum_congr rfl fun k _ => ?_)
  refine congrArg₂ (fun a b : EReal => a * b) (ctxV_eq hx hw hk H c i _ _) ?_
  rw [wo_eq, H.o c]
  refine (block_rows c wo k _).trans (congrArg (fun z => wo (ix2 _ z)) (Fin.ext ?_))
  show n.val / 128 * 128 + n.val % 128 = n.val
  omega

omit hx hw hk in
/-- A sum over the rows of the last matrix, device by device. -/
theorem sum_devices (f : Fin 8192 → EReal) : (∑ k, f k) = ∑ c : Fin 8, ∑ k : Fin 1024, f ⟨c.val * 1024 + k.val, by omega⟩ := by
  rw [← Fintype.sum_prod_type' (f := fun (c : Fin 8) (k : Fin 1024) => f ⟨c.val * 1024 + k.val, by omega⟩)]
  refine Finset.sum_bij' (i := fun j _ => ((⟨j.val / 1024, by omega⟩, ⟨j.val % 1024, by omega⟩) : Fin 8 × Fin 1024))
    (j := fun p _ => ⟨p.1.val * 1024 + p.2.val, by omega⟩) (fun _ _ => Finset.mem_univ _) (fun _ _ => Finset.mem_univ _) ?_ ?_ ?_
  · intro j _; exact Fin.ext (by show j.val / 1024 * 1024 + j.val % 1024 = j.val; omega)
  · intro p _
    exact Prod.ext (Fin.ext (by show (p.1.val * 1024 + p.2.val) / 1024 = p.1.val; omega)) (Fin.ext (by show (p.1.val * 1024 + p.2.val) % 1024 = p.2.val; omega))
  · intro j _
    exact congrArg f (Fin.ext (by show j.val = j.val / 1024 * 1024 + j.val % 1024; omega))

/-- The kernel's result is the reference's. -/
theorem out_ref (H : Holds m x wq kx vx wo) (c : Dev nD) :
    outV m c = Cert.ReferenceIdeal.Stage.proj (Cert.ReferenceIdeal.Stage.probs Cert.ReferenceIdeal.Stage.keep (Cert.ReferenceIdeal.Stage.scores Cert.ReferenceIdeal.Stage.mask x wq kx)) vx wo := by
  refine funext fun a => ?_
  obtain ⟨i, n, rfl⟩ : ∃ i n : Fin 1024, a = ix3 0 i n := ⟨a 1, a 2, funext fun b => by
    fin_cases b
    · exact Subsingleton.elim (α := Fin 1) _ _
    · rfl
    · rfl⟩
  refine (outV_apply m c i n).trans (Eq.trans ?_ (Cert.ReferenceIdeal.Stage.ref_entry x wq kx vx wo (raw_real hx hw hk) i n).symm)
  rw [sum_devices]
  refine Finset.sum_congr rfl fun t _ => (partV_eq hx hw hk H t i n).trans (Finset.sum_congr rfl fun k _ => ?_)
  refine congrArg (· * _) (congrArg₂ (ctxAt x wq kx vx i) (Fin.ext ?_) (Fin.ext ?_))
  · show 8 * t.val + k.val / 128 = (t.val * 1024 + k.val) / 128
    omega
  · show k.val % 128 = (t.val * 1024 + k.val) % 128
    omega

end Join

/-- Every argument entry the precondition speaks of is a real. -/
theorem pre_real {hP : Cert.Pre_finite_KernelIdeal.Facts} {m : (ℓ : Loc nD τ sig) → Buf (Elt Ideal) ℓ} (h : Cert.Pre_KernelIdeal_finite_KernelIdeal m) (c : Dev nD) :
    (∀ i, Online.IsReal ((show FVec Ideal S1x1024x1024 .f32 from m ((c : Thread nD τ).loc main_arg0)) i))
    ∧ (∀ i, Online.IsReal ((show FVec Ideal S1024x1024 .f32 from m ((c : Thread nD τ).loc main_arg1)) i))
    ∧ (∀ i, Online.IsReal ((show FVec Ideal S1x1024x64x128 .f32 from m ((c : Thread nD τ).loc main_arg2)) i)) :=
  ⟨real_of_cmp _ hP.bcast_S_S1x1024x1024 (h c).1, real_of_cmp _ hP.bcast_S_S1024x1024 (h c).2.1, real_of_cmp _ hP.bcast_S_S1x1024x64x128 (h c).2.2⟩

/-- From finite `x`, `Wq` and keys, the idealized kernel leaves on every device what the idealized reference leaves. -/
theorem algebraic {hP : Cert.Pre_finite_KernelIdeal.Facts} : Cert.algebraic_KernelIdeal_ReferenceIdeal_pre_finite_KernelIdeal
    (hKernelIdeal := Cert.KernelIdeal.Gen.facts) (hReferenceIdeal := Cert.ReferenceIdeal.Gen.facts) (hPre_finite_KernelIdeal := hP) := by
  intro m g m' g' hpre hin
  have H : Holds m _ _ _ _ _ := ⟨fun c => (hin c).1, fun c => (hin c).2.1, fun c => (hin c).2.2.1, fun c => (hin c).2.2.2.1, fun c => (hin c).2.2.2.2⟩
  have hx : ∀ i k, Online.IsReal ((show FVec Ideal S1x1024x1024 .f32 from m' (((0 : Dev Cert.ReferenceIdeal.nD).tc : Thread Cert.ReferenceIdeal.nD Cert.ReferenceIdeal.τ).loc Cert.ReferenceIdeal.main_arg0)) (ix3 0 i k)) := fun i k => by
    have := (pre_real hpre (0 : Fin 8)).1 (ix3 0 i k)
    rw [H.x] at this
    exact this
  have hw : ∀ k n, Online.IsReal ((show FVec Ideal S1024x8192 .f32 from m' (((0 : Dev Cert.ReferenceIdeal.nD).tc : Thread Cert.ReferenceIdeal.nD Cert.ReferenceIdeal.τ).loc Cert.ReferenceIdeal.main_arg1)) (ix2 k n)) := fun k n => by
    have := (pre_real hpre (⟨n.val / 1024, by omega⟩ : Fin 8)).2.1 (ix2 k ⟨n.val % 1024, by omega⟩)
    rw [H.w] at this
    obtain ⟨v, hv⟩ := this
    refine ⟨v, Eq.trans ?_ ((block_cols ⟨n.val / 1024, by omega⟩ _ k ⟨n.val % 1024, by omega⟩).symm.trans hv)⟩
    exact congrArg (fun z => (show FVec Ideal S1024x8192 .f32 from m' (((0 : Dev Cert.ReferenceIdeal.nD).tc : Thread Cert.ReferenceIdeal.nD Cert.ReferenceIdeal.τ).loc Cert.ReferenceIdeal.main_arg1)) (ix2 k z))
      (Fin.ext (by show n.val = n.val / 1024 * 1024 + n.val % 1024; omega))
  have hk : ∀ j h e, Online.IsReal ((show FVec Ideal S1x8192x64x128 .f32 from m' (((0 : Dev Cert.ReferenceIdeal.nD).tc : Thread Cert.ReferenceIdeal.nD Cert.ReferenceIdeal.τ).loc Cert.ReferenceIdeal.main_arg2)) (ix4 0 j h e)) := fun j h e => by
    have := (pre_real hpre (⟨j.val / 1024, by omega⟩ : Fin 8)).2.2 (ix4 0 ⟨j.val % 1024, by omega⟩ h e)
    rw [H.k] at this
    obtain ⟨v, hv⟩ := this
    refine ⟨v, Eq.trans ?_ ((block_places ⟨j.val / 1024, by omega⟩ _ ⟨j.val % 1024, by omega⟩ h e).symm.trans hv)⟩
    exact congrArg (fun z => (show FVec Ideal S1x8192x64x128 .f32 from m' (((0 : Dev Cert.ReferenceIdeal.nD).tc : Thread Cert.ReferenceIdeal.nD Cert.ReferenceIdeal.τ).loc Cert.ReferenceIdeal.main_arg2)) (ix4 0 z h e))
      (Fin.ext (by show j.val = j.val / 1024 * 1024 + j.val % 1024; omega))
  refine ⟨Cert.ReferenceIdeal.Value.res_main_v39 m' 0, ?_, ?_⟩
  · refine (θ_run Cert.KernelIdeal.defs _ _).mono (fun r h c => ⟨(h.1 c).2.2.2.2.2.trans ((out_ref hx hw hk H c).trans (Cert.ReferenceIdeal.Stage.result_eq m' 0).symm),
      (h.1 c).1, (h.1 c).2.1, (h.1 c).2.2.1, (h.1 c).2.2.2.1, (h.1 c).2.2.2.2.1⟩) (run_main (F := Ideal) m g)
  · exact (θ_run Cert.ReferenceIdeal.defs _ _).mono (fun r h => h 0) (Cert.ReferenceIdeal.Value.run (F := Ideal) m' g')

end Cert.KernelIdeal.Att

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- The shapes the precondition broadcasts to, at a device's block. -/
theorem pre_block : Cert.Pre_finite_KernelIdeal.Facts := ⟨by decide, by decide, by decide⟩

/-- The shapes the precondition broadcasts to, at the whole arrays. -/
theorem pre_whole : Cert.Pre_finite_ReferenceIdeal.Facts := ⟨by decide, by decide, by decide⟩

theorem claim : Cert.Claim := ⟨Cert.Kernel.Gen.facts, Cert.KernelIdeal.Gen.facts, Cert.ReferenceIdeal.Gen.facts, pre_block, pre_whole,
  Cert.KernelIdeal.Att.frame_kernel, Cert.KernelIdeal.Att.frame_ideal, fun m ρ _ => Cert.KernelIdeal.Att.frame_ideal m ρ trivial,
  Cert.KernelIdeal.Att.frame_ref, fun m ρ _ => Cert.KernelIdeal.Att.frame_ref m ρ trivial, trivial, Cert.KernelIdeal.Att.algebraic⟩

end Cert.Proof

end
